-- ==== Defs.lean ====
def Pre_KernelP (m : (ℓ : Loc Cert.KernelP.nD Cert.KernelP.τ Cert.KernelP.sig) → Buf (Elt Bits) ℓ) : Prop :=
  True

def Pre_KernelPIdeal (m : (ℓ : Loc Cert.KernelPIdeal.nD Cert.KernelPIdeal.τ Cert.KernelPIdeal.sig) → Buf (Elt Ideal) ℓ) : Prop :=
  True

def Pre_ReferencePIdeal (m : (ℓ : Loc Cert.ReferencePIdeal.nD Cert.ReferencePIdeal.τ Cert.ReferencePIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def Pre_KernelE (m : (ℓ : Loc Cert.KernelE.nD Cert.KernelE.τ Cert.KernelE.sig) → Buf (Elt Bits) ℓ) : Prop :=
  True

def Pre_KernelEIdeal (m : (ℓ : Loc Cert.KernelEIdeal.nD Cert.KernelEIdeal.τ Cert.KernelEIdeal.sig) → Buf (Elt Ideal) ℓ) : Prop :=
  True

def Pre_ReferenceEIdeal (m : (ℓ : Loc Cert.ReferenceEIdeal.nD Cert.ReferenceEIdeal.τ Cert.ReferenceEIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite [hPre_finite : Cert.Pre_finite.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1))).1 = (fun _ => 1#1)
    ∧ (Cert.Pre_finite.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1))).2 = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite [hPre_finite : Cert.Pre_finite.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1))).1 = (fun _ => 1#1)
    ∧ (Cert.Pre_finite.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1))).2 = (fun _ => 1#1)

def quiescent_KernelP [hKernelP : Cert.KernelP.Facts] : Prop :=
  ∀ (m : (ℓ : Loc Cert.KernelP.nD Cert.KernelP.τ Cert.KernelP.sig) → Buf (Elt Bits) ℓ) (g : Dev Cert.KernelP.nD → PrngReg), Pre_KernelP m →
    θ_run (Cert.KernelP.defs (F := Bits)) (onTc (τ := Cert.KernelP.τ) (Cert.KernelP.main (F := Bits))) ⟨m, fun _ => 0, g⟩ (fun r => (∀ c : Dev Cert.KernelP.nD,
      r.2.mem ((c.tc : Thread Cert.KernelP.nD Cert.KernelP.τ).loc Cert.KernelP.main_arg0) = m ((c.tc : Thread Cert.KernelP.nD Cert.KernelP.τ).loc Cert.KernelP.main_arg0)
      ∧ r.2.mem ((c.tc : Thread Cert.KernelP.nD Cert.KernelP.τ).loc Cert.KernelP.main_arg1) = m ((c.tc : Thread Cert.KernelP.nD Cert.KernelP.τ).loc Cert.KernelP.main_arg1)
      ∧ r.2.mem ((c.tc : Thread Cert.KernelP.nD Cert.KernelP.τ).loc Cert.KernelP.main_arg2) = m ((c.tc : Thread Cert.KernelP.nD Cert.KernelP.τ).loc Cert.KernelP.main_arg2)
      ∧ r.2.mem ((c.tc : Thread Cert.KernelP.nD Cert.KernelP.τ).loc Cert.KernelP.main_arg3) = m ((c.tc : Thread Cert.KernelP.nD Cert.KernelP.τ).loc Cert.KernelP.main_arg3))
      ∧ r.2.sem = fun _ => 0)

def quiescent_KernelPIdeal [hKernelPIdeal : Cert.KernelPIdeal.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
      ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
      ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3))
      ∧ r.2.sem = fun _ => 0)

def quiescent_ReferencePIdeal [hReferencePIdeal : Cert.ReferencePIdeal.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1)
      ∧ r.2.mem ((c.tc : Thread Cert.ReferencePIdeal.nD Cert.ReferencePIdeal.τ).loc Cert.ReferencePIdeal.main_arg2) = m ((c.tc : Thread Cert.ReferencePIdeal.nD Cert.ReferencePIdeal.τ).loc Cert.ReferencePIdeal.main_arg2)
      ∧ r.2.mem ((c.tc : Thread Cert.ReferencePIdeal.nD Cert.ReferencePIdeal.τ).loc Cert.ReferencePIdeal.main_arg3) = m ((c.tc : Thread Cert.ReferencePIdeal.nD Cert.ReferencePIdeal.τ).loc Cert.ReferencePIdeal.main_arg3))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4)
      ∧ r.2.mem ((c.tc : Thread Cert.KernelF.nD Cert.KernelF.τ).loc Cert.KernelF.main_arg5) = m ((c.tc : Thread Cert.KernelF.nD Cert.KernelF.τ).loc Cert.KernelF.main_arg5)
      ∧ r.2.mem ((c.tc : Thread Cert.KernelF.nD Cert.KernelF.τ).loc Cert.KernelF.main_arg6) = m ((c.tc : Thread Cert.KernelF.nD Cert.KernelF.τ).loc Cert.KernelF.main_arg6)
      ∧ r.2.mem ((c.tc : Thread Cert.KernelF.nD Cert.KernelF.τ).loc Cert.KernelF.main_arg7) = m ((c.tc : Thread Cert.KernelF.nD Cert.KernelF.τ).loc Cert.KernelF.main_arg7)
      ∧ r.2.mem ((c.tc : Thread Cert.KernelF.nD Cert.KernelF.τ).loc Cert.KernelF.main_arg8) = m ((c.tc : Thread Cert.KernelF.nD Cert.KernelF.τ).loc Cert.KernelF.main_arg8)
      ∧ r.2.mem ((c.tc : Thread Cert.KernelF.nD Cert.KernelF.τ).loc Cert.KernelF.main_arg9) = m ((c.tc : Thread Cert.KernelF.nD Cert.KernelF.τ).loc Cert.KernelF.main_arg9)
      ∧ r.2.mem ((c.tc : Thread Cert.KernelF.nD Cert.KernelF.τ).loc Cert.KernelF.main_arg10) = m ((c.tc : Thread Cert.KernelF.nD Cert.KernelF.τ).loc Cert.KernelF.main_arg10))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
      ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
      ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7)
      ∧ r.2.mem ((c.tc : Thread Cert.KernelFIdeal.nD Cert.KernelFIdeal.τ).loc Cert.KernelFIdeal.main_arg8) = m ((c.tc : Thread Cert.KernelFIdeal.nD Cert.KernelFIdeal.τ).loc Cert.KernelFIdeal.main_arg8)
      ∧ r.2.mem ((c.tc : Thread Cert.KernelFIdeal.nD Cert.KernelFIdeal.τ).loc Cert.KernelFIdeal.main_arg9) = m ((c.tc : Thread Cert.KernelFIdeal.nD Cert.KernelFIdeal.τ).loc Cert.KernelFIdeal.main_arg9)
      ∧ r.2.mem ((c.tc : Thread Cert.KernelFIdeal.nD Cert.KernelFIdeal.τ).loc Cert.KernelFIdeal.main_arg10) = m ((c.tc : Thread Cert.KernelFIdeal.nD Cert.KernelFIdeal.τ).loc Cert.KernelFIdeal.main_arg10))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5)
      ∧ r.2.mem ((c.tc : Thread Cert.ReferenceFIdeal.nD Cert.ReferenceFIdeal.τ).loc Cert.ReferenceFIdeal.main_arg6) = m ((c.tc : Thread Cert.ReferenceFIdeal.nD Cert.ReferenceFIdeal.τ).loc Cert.ReferenceFIdeal.main_arg6)
      ∧ r.2.mem ((c.tc : Thread Cert.ReferenceFIdeal.nD Cert.ReferenceFIdeal.τ).loc Cert.ReferenceFIdeal.main_arg7) = m ((c.tc : Thread Cert.ReferenceFIdeal.nD Cert.ReferenceFIdeal.τ).loc Cert.ReferenceFIdeal.main_arg7)
      ∧ r.2.mem ((c.tc : Thread Cert.ReferenceFIdeal.nD Cert.ReferenceFIdeal.τ).loc Cert.ReferenceFIdeal.main_arg8) = m ((c.tc : Thread Cert.ReferenceFIdeal.nD Cert.ReferenceFIdeal.τ).loc Cert.ReferenceFIdeal.main_arg8)
      ∧ r.2.mem ((c.tc : Thread Cert.ReferenceFIdeal.nD Cert.ReferenceFIdeal.τ).loc Cert.ReferenceFIdeal.main_arg9) = m ((c.tc : Thread Cert.ReferenceFIdeal.nD Cert.ReferenceFIdeal.τ).loc Cert.ReferenceFIdeal.main_arg9)
      ∧ r.2.mem ((c.tc : Thread Cert.ReferenceFIdeal.nD Cert.ReferenceFIdeal.τ).loc Cert.ReferenceFIdeal.main_arg10) = m ((c.tc : Thread Cert.ReferenceFIdeal.nD Cert.ReferenceFIdeal.τ).loc Cert.ReferenceFIdeal.main_arg10))
      ∧ r.2.sem = fun _ => 0)

def quiescent_KernelE [hKernelE : Cert.KernelE.Facts] : Prop :=
  ∀ (m : (ℓ : Loc Cert.KernelE.nD Cert.KernelE.τ Cert.KernelE.sig) → Buf (Elt Bits) ℓ) (g : Dev Cert.KernelE.nD → PrngReg), Pre_KernelE m →
    θ_run (Cert.KernelE.defs (F := Bits)) (onTc (τ := Cert.KernelE.τ) (Cert.KernelE.main (F := Bits))) ⟨m, fun _ => 0, g⟩ (fun r => (∀ c : Dev Cert.KernelE.nD,
      r.2.mem ((c.tc : Thread Cert.KernelE.nD Cert.KernelE.τ).loc Cert.KernelE.main_arg0) = m ((c.tc : Thread Cert.KernelE.nD Cert.KernelE.τ).loc Cert.KernelE.main_arg0)
      ∧ r.2.mem ((c.tc : Thread Cert.KernelE.nD Cert.KernelE.τ).loc Cert.KernelE.main_arg1) = m ((c.tc : Thread Cert.KernelE.nD Cert.KernelE.τ).loc Cert.KernelE.main_arg1)
      ∧ r.2.mem ((c.tc : Thread Cert.KernelE.nD Cert.KernelE.τ).loc Cert.KernelE.main_arg2) = m ((c.tc : Thread Cert.KernelE.nD Cert.KernelE.τ).loc Cert.KernelE.main_arg2)
      ∧ r.2.mem ((c.tc : Thread Cert.KernelE.nD Cert.KernelE.τ).loc Cert.KernelE.main_arg3) = m ((c.tc : Thread Cert.KernelE.nD Cert.KernelE.τ).loc Cert.KernelE.main_arg3)
      ∧ r.2.mem ((c.tc : Thread Cert.KernelE.nD Cert.KernelE.τ).loc Cert.KernelE.main_arg4) = m ((c.tc : Thread Cert.KernelE.nD Cert.KernelE.τ).loc Cert.KernelE.main_arg4)
      ∧ r.2.mem ((c.tc : Thread Cert.KernelE.nD Cert.KernelE.τ).loc Cert.KernelE.main_arg5) = m ((c.tc : Thread Cert.KernelE.nD Cert.KernelE.τ).loc Cert.KernelE.main_arg5)
      ∧ r.2.mem ((c.tc : Thread Cert.KernelE.nD Cert.KernelE.τ).loc Cert.KernelE.main_arg6) = m ((c.tc : Thread Cert.KernelE.nD Cert.KernelE.τ).loc Cert.KernelE.main_arg6)
      ∧ r.2.mem ((c.tc : Thread Cert.KernelE.nD Cert.KernelE.τ).loc Cert.KernelE.main_arg7) = m ((c.tc : Thread Cert.KernelE.nD Cert.KernelE.τ).loc Cert.KernelE.main_arg7)
      ∧ r.2.mem ((c.tc : Thread Cert.KernelE.nD Cert.KernelE.τ).loc Cert.KernelE.main_arg8) = m ((c.tc : Thread Cert.KernelE.nD Cert.KernelE.τ).loc Cert.KernelE.main_arg8)
      ∧ r.2.mem ((c.tc : Thread Cert.KernelE.nD Cert.KernelE.τ).loc Cert.KernelE.main_arg9) = m ((c.tc : Thread Cert.KernelE.nD Cert.KernelE.τ).loc Cert.KernelE.main_arg9)
      ∧ r.2.mem ((c.tc : Thread Cert.KernelE.nD Cert.KernelE.τ).loc Cert.KernelE.main_arg10) = m ((c.tc : Thread Cert.KernelE.nD Cert.KernelE.τ).loc Cert.KernelE.main_arg10))
      ∧ r.2.sem = fun _ => 0)

def quiescent_KernelEIdeal [hKernelEIdeal : Cert.KernelEIdeal.Facts] : Prop :=
  ∀ (m : (ℓ : Loc Cert.KernelEIdeal.nD Cert.KernelEIdeal.τ Cert.KernelEIdeal.sig) → Buf (Elt Ideal) ℓ) (g : Dev Cert.KernelEIdeal.nD → PrngReg), Pre_KernelEIdeal m →
    θ_run (Cert.KernelEIdeal.defs (F := Ideal)) (onTc (τ := Cert.KernelEIdeal.τ) (Cert.KernelEIdeal.main (F := Ideal))) ⟨m, fun _ => 0, g⟩ (fun r => (∀ c : Dev Cert.KernelEIdeal.nD,
      r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
      ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
      ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
      ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
      ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4)
      ∧ r.2.mem ((c.tc : Thread Cert.KernelEIdeal.nD Cert.KernelEIdeal.τ).loc Cert.KernelEIdeal.main_arg5) = m ((c.tc : Thread Cert.KernelEIdeal.nD Cert.KernelEIdeal.τ).loc Cert.KernelEIdeal.main_arg5)
      ∧ r.2.mem ((c.tc : Thread Cert.KernelEIdeal.nD Cert.KernelEIdeal.τ).loc Cert.KernelEIdeal.main_arg6) = m ((c.tc : Thread Cert.KernelEIdeal.nD Cert.KernelEIdeal.τ).loc Cert.KernelEIdeal.main_arg6)
      ∧ r.2.mem ((c.tc : Thread Cert.KernelEIdeal.nD Cert.KernelEIdeal.τ).loc Cert.KernelEIdeal.main_arg7) = m ((c.tc : Thread Cert.KernelEIdeal.nD Cert.KernelEIdeal.τ).loc Cert.KernelEIdeal.main_arg7)
      ∧ r.2.mem ((c.tc : Thread Cert.KernelEIdeal.nD Cert.KernelEIdeal.τ).loc Cert.KernelEIdeal.main_arg8) = m ((c.tc : Thread Cert.KernelEIdeal.nD Cert.KernelEIdeal.τ).loc Cert.KernelEIdeal.main_arg8)
      ∧ r.2.mem ((c.tc : Thread Cert.KernelEIdeal.nD Cert.KernelEIdeal.τ).loc Cert.KernelEIdeal.main_arg9) = m ((c.tc : Thread Cert.KernelEIdeal.nD Cert.KernelEIdeal.τ).loc Cert.KernelEIdeal.main_arg9)
      ∧ r.2.mem ((c.tc : Thread Cert.KernelEIdeal.nD Cert.KernelEIdeal.τ).loc Cert.KernelEIdeal.main_arg10) = m ((c.tc : Thread Cert.KernelEIdeal.nD Cert.KernelEIdeal.τ).loc Cert.KernelEIdeal.main_arg10))
      ∧ r.2.sem = fun _ => 0)

def quiescent_ReferenceEIdeal [hReferenceEIdeal : Cert.ReferenceEIdeal.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1)
      ∧ r.2.mem ((c.tc : Thread Cert.ReferenceEIdeal.nD Cert.ReferenceEIdeal.τ).loc Cert.ReferenceEIdeal.main_arg2) = m ((c.tc : Thread Cert.ReferenceEIdeal.nD Cert.ReferenceEIdeal.τ).loc Cert.ReferenceEIdeal.main_arg2)
      ∧ r.2.mem ((c.tc : Thread Cert.ReferenceEIdeal.nD Cert.ReferenceEIdeal.τ).loc Cert.ReferenceEIdeal.main_arg3) = m ((c.tc : Thread Cert.ReferenceEIdeal.nD Cert.ReferenceEIdeal.τ).loc Cert.ReferenceEIdeal.main_arg3)
      ∧ r.2.mem ((c.tc : Thread Cert.ReferenceEIdeal.nD Cert.ReferenceEIdeal.τ).loc Cert.ReferenceEIdeal.main_arg4) = m ((c.tc : Thread Cert.ReferenceEIdeal.nD Cert.ReferenceEIdeal.τ).loc Cert.ReferenceEIdeal.main_arg4)
      ∧ r.2.mem ((c.tc : Thread Cert.ReferenceEIdeal.nD Cert.ReferenceEIdeal.τ).loc Cert.ReferenceEIdeal.main_arg5) = m ((c.tc : Thread Cert.ReferenceEIdeal.nD Cert.ReferenceEIdeal.τ).loc Cert.ReferenceEIdeal.main_arg5)
      ∧ r.2.mem ((c.tc : Thread Cert.ReferenceEIdeal.nD Cert.ReferenceEIdeal.τ).loc Cert.ReferenceEIdeal.main_arg6) = m ((c.tc : Thread Cert.ReferenceEIdeal.nD Cert.ReferenceEIdeal.τ).loc Cert.ReferenceEIdeal.main_arg6)
      ∧ r.2.mem ((c.tc : Thread Cert.ReferenceEIdeal.nD Cert.ReferenceEIdeal.τ).loc Cert.ReferenceEIdeal.main_arg7) = m ((c.tc : Thread Cert.ReferenceEIdeal.nD Cert.ReferenceEIdeal.τ).loc Cert.ReferenceEIdeal.main_arg7)
      ∧ r.2.mem ((c.tc : Thread Cert.ReferenceEIdeal.nD Cert.ReferenceEIdeal.τ).loc Cert.ReferenceEIdeal.main_arg8) = m ((c.tc : Thread Cert.ReferenceEIdeal.nD Cert.ReferenceEIdeal.τ).loc Cert.ReferenceEIdeal.main_arg8)
      ∧ r.2.mem ((c.tc : Thread Cert.ReferenceEIdeal.nD Cert.ReferenceEIdeal.τ).loc Cert.ReferenceEIdeal.main_arg9) = m ((c.tc : Thread Cert.ReferenceEIdeal.nD Cert.ReferenceEIdeal.τ).loc Cert.ReferenceEIdeal.main_arg9)
      ∧ r.2.mem ((c.tc : Thread Cert.ReferenceEIdeal.nD Cert.ReferenceEIdeal.τ).loc Cert.ReferenceEIdeal.main_arg10) = m ((c.tc : Thread Cert.ReferenceEIdeal.nD Cert.ReferenceEIdeal.τ).loc Cert.ReferenceEIdeal.main_arg10))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1))
      ∧ r.2.sem = fun _ => 0)

def quiescent_KernelBIdeal_pre_finite [hKernelBIdeal : Cert.KernelBIdeal.Facts] [hPre_finite : Cert.Pre_finite.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1))
      ∧ r.2.sem = fun _ => 0)

def quiescent_ReferenceBIdeal_pre_finite [hReferenceBIdeal : Cert.ReferenceBIdeal.Facts] [hPre_finite : Cert.Pre_finite.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1))
      ∧ r.2.sem = fun _ => 0)

def preserves_KernelP_KernelPIdeal : Prop :=
  True

def algebraic_KernelPIdeal_ReferencePIdeal [hKernelPIdeal : Cert.KernelPIdeal.Facts] [hReferencePIdeal : Cert.ReferencePIdeal.Facts] : Prop :=
  ∀ (m : (ℓ : Loc Cert.KernelPIdeal.nD Cert.KernelPIdeal.τ Cert.KernelPIdeal.sig) → Buf (Elt Ideal) ℓ) (g : Dev Cert.KernelPIdeal.nD → PrngReg)
    (m' : (ℓ : Loc Cert.ReferencePIdeal.nD Cert.ReferencePIdeal.τ Cert.ReferencePIdeal.sig) → Buf (Elt Ideal) ℓ) (g' : Dev Cert.ReferencePIdeal.nD → PrngReg), Pre_KernelPIdeal m →
    (∀ c : Dev Cert.KernelPIdeal.nD,
      m' ((c.tc : Thread Cert.ReferencePIdeal.nD Cert.ReferencePIdeal.τ).loc Cert.ReferencePIdeal.main_arg0) = m ((c.tc : Thread Cert.KernelPIdeal.nD Cert.KernelPIdeal.τ).loc Cert.KernelPIdeal.main_arg0)
      ∧ m' ((c.tc : Thread Cert.ReferencePIdeal.nD Cert.ReferencePIdeal.τ).loc Cert.ReferencePIdeal.main_arg1) = m ((c.tc : Thread Cert.KernelPIdeal.nD Cert.KernelPIdeal.τ).loc Cert.KernelPIdeal.main_arg1)
      ∧ m' ((c.tc : Thread Cert.ReferencePIdeal.nD Cert.ReferencePIdeal.τ).loc Cert.ReferencePIdeal.main_arg2) = m ((c.tc : Thread Cert.KernelPIdeal.nD Cert.KernelPIdeal.τ).loc Cert.KernelPIdeal.main_arg2)
      ∧ m' ((c.tc : Thread Cert.ReferencePIdeal.nD Cert.ReferencePIdeal.τ).loc Cert.ReferencePIdeal.main_arg3) = m ((c.tc : Thread Cert.KernelPIdeal.nD Cert.KernelPIdeal.τ).loc Cert.KernelPIdeal.main_arg3)) →
    ∃ (v0 : (c : Dev Cert.KernelPIdeal.nD) → Buf (Elt Ideal) ((c.tc : Thread Cert.KernelPIdeal.nD Cert.KernelPIdeal.τ).loc Cert.KernelPIdeal.main_v19_0)) (v1 : (c : Dev Cert.KernelPIdeal.nD) → Buf (Elt Ideal) ((c.tc : Thread Cert.KernelPIdeal.nD Cert.KernelPIdeal.τ).loc Cert.KernelPIdeal.main_v19_1)) (v2 : (c : Dev Cert.KernelPIdeal.nD) → Buf (Elt Ideal) ((c.tc : Thread Cert.KernelPIdeal.nD Cert.KernelPIdeal.τ).loc Cert.KernelPIdeal.main_v19_2)) (v3 : (c : Dev Cert.KernelPIdeal.nD) → Buf (Elt Ideal) ((c.tc : Thread Cert.KernelPIdeal.nD Cert.KernelPIdeal.τ).loc Cert.KernelPIdeal.main_v19_3)),
      θ_run (Cert.KernelPIdeal.defs (F := Ideal)) (onTc (τ := Cert.KernelPIdeal.τ) (Cert.KernelPIdeal.main (F := Ideal))) ⟨m, fun _ => 0, g⟩ (fun r => ∀ c : Dev Cert.KernelPIdeal.nD,
          r.2.mem ((c.tc : Thread Cert.KernelPIdeal.nD Cert.KernelPIdeal.τ).loc Cert.KernelPIdeal.main_v19_0) = v0 c
          ∧ r.2.mem ((c.tc : Thread Cert.KernelPIdeal.nD Cert.KernelPIdeal.τ).loc Cert.KernelPIdeal.main_v19_1) = v1 c
          ∧ r.2.mem ((c.tc : Thread Cert.KernelPIdeal.nD Cert.KernelPIdeal.τ).loc Cert.KernelPIdeal.main_v19_2) = v2 c
          ∧ r.2.mem ((c.tc : Thread Cert.KernelPIdeal.nD Cert.KernelPIdeal.τ).loc Cert.KernelPIdeal.main_v19_3) = v3 c
          ∧ r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
          ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
          ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
          ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3))
      ∧ θ_run (Cert.ReferencePIdeal.defs (F := Ideal)) (onTc (τ := Cert.ReferencePIdeal.τ) (Cert.ReferencePIdeal.main (F := Ideal))) ⟨m', fun _ => 0, g'⟩ (fun r => ∀ c : Dev Cert.ReferencePIdeal.nD,
          r.2.mem ((c.tc : Thread Cert.ReferencePIdeal.nD Cert.ReferencePIdeal.τ).loc Cert.ReferencePIdeal.main_v42) = v0 c
          ∧ r.2.mem ((c.tc : Thread Cert.ReferencePIdeal.nD Cert.ReferencePIdeal.τ).loc Cert.ReferencePIdeal.main_v25) = v1 c
          ∧ r.2.mem ((c.tc : Thread Cert.ReferencePIdeal.nD Cert.ReferencePIdeal.τ).loc Cert.ReferencePIdeal.main_v28) = v2 c
          ∧ r.2.mem ((c.tc : Thread Cert.ReferencePIdeal.nD Cert.ReferencePIdeal.τ).loc Cert.ReferencePIdeal.main_v41) = v3 c
          ∧ r.2.mem ((c.tc : Thread Cert.ReferencePIdeal.nD Cert.ReferencePIdeal.τ).loc Cert.ReferencePIdeal.main_arg0) = m' ((c.tc : Thread Cert.ReferencePIdeal.nD Cert.ReferencePIdeal.τ).loc Cert.ReferencePIdeal.main_arg0)
          ∧ r.2.mem ((c.tc : Thread Cert.ReferencePIdeal.nD Cert.ReferencePIdeal.τ).loc Cert.ReferencePIdeal.main_arg1) = m' ((c.tc : Thread Cert.ReferencePIdeal.nD Cert.ReferencePIdeal.τ).loc Cert.ReferencePIdeal.main_arg1)
          ∧ r.2.mem ((c.tc : Thread Cert.ReferencePIdeal.nD Cert.ReferencePIdeal.τ).loc Cert.ReferencePIdeal.main_arg2) = m' ((c.tc : Thread Cert.ReferencePIdeal.nD Cert.ReferencePIdeal.τ).loc Cert.ReferencePIdeal.main_arg2)
          ∧ r.2.mem ((c.tc : Thread Cert.ReferencePIdeal.nD Cert.ReferencePIdeal.τ).loc Cert.ReferencePIdeal.main_arg3) = m' ((c.tc : Thread Cert.ReferencePIdeal.nD Cert.ReferencePIdeal.τ).loc Cert.ReferencePIdeal.main_arg3))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)
      ∧ m' ((c.tc : Thread Cert.ReferenceFIdeal.nD Cert.ReferenceFIdeal.τ).loc Cert.ReferenceFIdeal.main_arg4) = m ((c.tc : Thread Cert.KernelFIdeal.nD Cert.KernelFIdeal.τ).loc Cert.KernelFIdeal.main_arg4)
      ∧ m' ((c.tc : Thread Cert.ReferenceFIdeal.nD Cert.ReferenceFIdeal.τ).loc Cert.ReferenceFIdeal.main_arg5) = m ((c.tc : Thread Cert.KernelFIdeal.nD Cert.KernelFIdeal.τ).loc Cert.KernelFIdeal.main_arg5)
      ∧ m' ((c.tc : Thread Cert.ReferenceFIdeal.nD Cert.ReferenceFIdeal.τ).loc Cert.ReferenceFIdeal.main_arg6) = m ((c.tc : Thread Cert.KernelFIdeal.nD Cert.KernelFIdeal.τ).loc Cert.KernelFIdeal.main_arg6)
      ∧ m' ((c.tc : Thread Cert.ReferenceFIdeal.nD Cert.ReferenceFIdeal.τ).loc Cert.ReferenceFIdeal.main_arg7) = m ((c.tc : Thread Cert.KernelFIdeal.nD Cert.KernelFIdeal.τ).loc Cert.KernelFIdeal.main_arg7)
      ∧ m' ((c.tc : Thread Cert.ReferenceFIdeal.nD Cert.ReferenceFIdeal.τ).loc Cert.ReferenceFIdeal.main_arg8) = m ((c.tc : Thread Cert.KernelFIdeal.nD Cert.KernelFIdeal.τ).loc Cert.KernelFIdeal.main_arg8)
      ∧ m' ((c.tc : Thread Cert.ReferenceFIdeal.nD Cert.ReferenceFIdeal.τ).loc Cert.ReferenceFIdeal.main_arg9) = m ((c.tc : Thread Cert.KernelFIdeal.nD Cert.KernelFIdeal.τ).loc Cert.KernelFIdeal.main_arg9)
      ∧ m' ((c.tc : Thread Cert.ReferenceFIdeal.nD Cert.ReferenceFIdeal.τ).loc Cert.ReferenceFIdeal.main_arg10) = m ((c.tc : Thread Cert.KernelFIdeal.nD Cert.KernelFIdeal.τ).loc Cert.KernelFIdeal.main_arg10)) →
    ∃ (v0 : (c : Dev Cert.KernelFIdeal.nD) → Buf (Elt Ideal) ((c.tc : Thread Cert.KernelFIdeal.nD Cert.KernelFIdeal.τ).loc Cert.KernelFIdeal.main_v18)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v18) = v0 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
          ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
          ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
          ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7)
          ∧ r.2.mem ((c.tc : Thread Cert.KernelFIdeal.nD Cert.KernelFIdeal.τ).loc Cert.KernelFIdeal.main_arg8) = m ((c.tc : Thread Cert.KernelFIdeal.nD Cert.KernelFIdeal.τ).loc Cert.KernelFIdeal.main_arg8)
          ∧ r.2.mem ((c.tc : Thread Cert.KernelFIdeal.nD Cert.KernelFIdeal.τ).loc Cert.KernelFIdeal.main_arg9) = m ((c.tc : Thread Cert.KernelFIdeal.nD Cert.KernelFIdeal.τ).loc Cert.KernelFIdeal.main_arg9)
          ∧ r.2.mem ((c.tc : Thread Cert.KernelFIdeal.nD Cert.KernelFIdeal.τ).loc Cert.KernelFIdeal.main_arg10) = m ((c.tc : Thread Cert.KernelFIdeal.nD Cert.KernelFIdeal.τ).loc Cert.KernelFIdeal.main_arg10))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v73) = v0 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3)
          ∧ r.2.mem ((c.tc : Thread Cert.ReferenceFIdeal.nD Cert.ReferenceFIdeal.τ).loc Cert.ReferenceFIdeal.main_arg4) = m' ((c.tc : Thread Cert.ReferenceFIdeal.nD Cert.ReferenceFIdeal.τ).loc Cert.ReferenceFIdeal.main_arg4)
          ∧ r.2.mem ((c.tc : Thread Cert.ReferenceFIdeal.nD Cert.ReferenceFIdeal.τ).loc Cert.ReferenceFIdeal.main_arg5) = m' ((c.tc : Thread Cert.ReferenceFIdeal.nD Cert.ReferenceFIdeal.τ).loc Cert.ReferenceFIdeal.main_arg5)
          ∧ r.2.mem ((c.tc : Thread Cert.ReferenceFIdeal.nD Cert.ReferenceFIdeal.τ).loc Cert.ReferenceFIdeal.main_arg6) = m' ((c.tc : Thread Cert.ReferenceFIdeal.nD Cert.ReferenceFIdeal.τ).loc Cert.ReferenceFIdeal.main_arg6)
          ∧ r.2.mem ((c.tc : Thread Cert.ReferenceFIdeal.nD Cert.ReferenceFIdeal.τ).loc Cert.ReferenceFIdeal.main_arg7) = m' ((c.tc : Thread Cert.ReferenceFIdeal.nD Cert.ReferenceFIdeal.τ).loc Cert.ReferenceFIdeal.main_arg7)
          ∧ r.2.mem ((c.tc : Thread Cert.ReferenceFIdeal.nD Cert.ReferenceFIdeal.τ).loc Cert.ReferenceFIdeal.main_arg8) = m' ((c.tc : Thread Cert.ReferenceFIdeal.nD Cert.ReferenceFIdeal.τ).loc Cert.ReferenceFIdeal.main_arg8)
          ∧ r.2.mem ((c.tc : Thread Cert.ReferenceFIdeal.nD Cert.ReferenceFIdeal.τ).loc Cert.ReferenceFIdeal.main_arg9) = m' ((c.tc : Thread Cert.ReferenceFIdeal.nD Cert.ReferenceFIdeal.τ).loc Cert.ReferenceFIdeal.main_arg9)
          ∧ r.2.mem ((c.tc : Thread Cert.ReferenceFIdeal.nD Cert.ReferenceFIdeal.τ).loc Cert.ReferenceFIdeal.main_arg10) = m' ((c.tc : Thread Cert.ReferenceFIdeal.nD Cert.ReferenceFIdeal.τ).loc Cert.ReferenceFIdeal.main_arg10))

def preserves_KernelE_KernelEIdeal : Prop :=
  True

def algebraic_KernelEIdeal_ReferenceEIdeal [hKernelEIdeal : Cert.KernelEIdeal.Facts] [hReferenceEIdeal : Cert.ReferenceEIdeal.Facts] : Prop :=
  ∀ (m : (ℓ : Loc Cert.KernelEIdeal.nD Cert.KernelEIdeal.τ Cert.KernelEIdeal.sig) → Buf (Elt Ideal) ℓ) (g : Dev Cert.KernelEIdeal.nD → PrngReg)
    (m' : (ℓ : Loc Cert.ReferenceEIdeal.nD Cert.ReferenceEIdeal.τ Cert.ReferenceEIdeal.sig) → Buf (Elt Ideal) ℓ) (g' : Dev Cert.ReferenceEIdeal.nD → PrngReg), Pre_KernelEIdeal m →
    (∀ c : Dev Cert.KernelEIdeal.nD,
      m' ((c.tc : Thread Cert.ReferenceEIdeal.nD Cert.ReferenceEIdeal.τ).loc Cert.ReferenceEIdeal.main_arg0) = m ((c.tc : Thread Cert.KernelEIdeal.nD Cert.KernelEIdeal.τ).loc Cert.KernelEIdeal.main_arg0)
      ∧ m' ((c.tc : Thread Cert.ReferenceEIdeal.nD Cert.ReferenceEIdeal.τ).loc Cert.ReferenceEIdeal.main_arg1) = m ((c.tc : Thread Cert.KernelEIdeal.nD Cert.KernelEIdeal.τ).loc Cert.KernelEIdeal.main_arg1)
      ∧ m' ((c.tc : Thread Cert.ReferenceEIdeal.nD Cert.ReferenceEIdeal.τ).loc Cert.ReferenceEIdeal.main_arg2) = m ((c.tc : Thread Cert.KernelEIdeal.nD Cert.KernelEIdeal.τ).loc Cert.KernelEIdeal.main_arg2)
      ∧ m' ((c.tc : Thread Cert.ReferenceEIdeal.nD Cert.ReferenceEIdeal.τ).loc Cert.ReferenceEIdeal.main_arg3) = m ((c.tc : Thread Cert.KernelEIdeal.nD Cert.KernelEIdeal.τ).loc Cert.KernelEIdeal.main_arg3)
      ∧ m' ((c.tc : Thread Cert.ReferenceEIdeal.nD Cert.ReferenceEIdeal.τ).loc Cert.ReferenceEIdeal.main_arg4) = m ((c.tc : Thread Cert.KernelEIdeal.nD Cert.KernelEIdeal.τ).loc Cert.KernelEIdeal.main_arg4)
      ∧ m' ((c.tc : Thread Cert.ReferenceEIdeal.nD Cert.ReferenceEIdeal.τ).loc Cert.ReferenceEIdeal.main_arg5) = m ((c.tc : Thread Cert.KernelEIdeal.nD Cert.KernelEIdeal.τ).loc Cert.KernelEIdeal.main_arg5)
      ∧ m' ((c.tc : Thread Cert.ReferenceEIdeal.nD Cert.ReferenceEIdeal.τ).loc Cert.ReferenceEIdeal.main_arg6) = m ((c.tc : Thread Cert.KernelEIdeal.nD Cert.KernelEIdeal.τ).loc Cert.KernelEIdeal.main_arg6)
      ∧ m' ((c.tc : Thread Cert.ReferenceEIdeal.nD Cert.ReferenceEIdeal.τ).loc Cert.ReferenceEIdeal.main_arg7) = m ((c.tc : Thread Cert.KernelEIdeal.nD Cert.KernelEIdeal.τ).loc Cert.KernelEIdeal.main_arg7)
      ∧ m' ((c.tc : Thread Cert.ReferenceEIdeal.nD Cert.ReferenceEIdeal.τ).loc Cert.ReferenceEIdeal.main_arg8) = m ((c.tc : Thread Cert.KernelEIdeal.nD Cert.KernelEIdeal.τ).loc Cert.KernelEIdeal.main_arg8)
      ∧ m' ((c.tc : Thread Cert.ReferenceEIdeal.nD Cert.ReferenceEIdeal.τ).loc Cert.ReferenceEIdeal.main_arg9) = m ((c.tc : Thread Cert.KernelEIdeal.nD Cert.KernelEIdeal.τ).loc Cert.KernelEIdeal.main_arg9)
      ∧ m' ((c.tc : Thread Cert.ReferenceEIdeal.nD Cert.ReferenceEIdeal.τ).loc Cert.ReferenceEIdeal.main_arg10) = m ((c.tc : Thread Cert.KernelEIdeal.nD Cert.KernelEIdeal.τ).loc Cert.KernelEIdeal.main_arg10)) →
    ∃ (v0 : (c : Dev Cert.KernelEIdeal.nD) → Buf (Elt Ideal) ((c.tc : Thread Cert.KernelEIdeal.nD Cert.KernelEIdeal.τ).loc Cert.KernelEIdeal.main_v18)),
      θ_run (Cert.KernelEIdeal.defs (F := Ideal)) (onTc (τ := Cert.KernelEIdeal.τ) (Cert.KernelEIdeal.main (F := Ideal))) ⟨m, fun _ => 0, g⟩ (fun r => ∀ c : Dev Cert.KernelEIdeal.nD,
          r.2.mem ((c.tc : Thread Cert.KernelEIdeal.nD Cert.KernelEIdeal.τ).loc Cert.KernelEIdeal.main_v18) = v0 c
          ∧ r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
          ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
          ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
          ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
          ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4)
          ∧ r.2.mem ((c.tc : Thread Cert.KernelEIdeal.nD Cert.KernelEIdeal.τ).loc Cert.KernelEIdeal.main_arg5) = m ((c.tc : Thread Cert.KernelEIdeal.nD Cert.KernelEIdeal.τ).loc Cert.KernelEIdeal.main_arg5)
          ∧ r.2.mem ((c.tc : Thread Cert.KernelEIdeal.nD Cert.KernelEIdeal.τ).loc Cert.KernelEIdeal.main_arg6) = m ((c.tc : Thread Cert.KernelEIdeal.nD Cert.KernelEIdeal.τ).loc Cert.KernelEIdeal.main_arg6)
          ∧ r.2.mem ((c.tc : Thread Cert.KernelEIdeal.nD Cert.KernelEIdeal.τ).loc Cert.KernelEIdeal.main_arg7) = m ((c.tc : Thread Cert.KernelEIdeal.nD Cert.KernelEIdeal.τ).loc Cert.KernelEIdeal.main_arg7)
          ∧ r.2.mem ((c.tc : Thread Cert.KernelEIdeal.nD Cert.KernelEIdeal.τ).loc Cert.KernelEIdeal.main_arg8) = m ((c.tc : Thread Cert.KernelEIdeal.nD Cert.KernelEIdeal.τ).loc Cert.KernelEIdeal.main_arg8)
          ∧ r.2.mem ((c.tc : Thread Cert.KernelEIdeal.nD Cert.KernelEIdeal.τ).loc Cert.KernelEIdeal.main_arg9) = m ((c.tc : Thread Cert.KernelEIdeal.nD Cert.KernelEIdeal.τ).loc Cert.KernelEIdeal.main_arg9)
          ∧ r.2.mem ((c.tc : Thread Cert.KernelEIdeal.nD Cert.KernelEIdeal.τ).loc Cert.KernelEIdeal.main_arg10) = m ((c.tc : Thread Cert.KernelEIdeal.nD Cert.KernelEIdeal.τ).loc Cert.KernelEIdeal.main_arg10))
      ∧ θ_run (Cert.ReferenceEIdeal.defs (F := Ideal)) (onTc (τ := Cert.ReferenceEIdeal.τ) (Cert.ReferenceEIdeal.main (F := Ideal))) ⟨m', fun _ => 0, g'⟩ (fun r => ∀ c : Dev Cert.ReferenceEIdeal.nD,
          r.2.mem ((c.tc : Thread Cert.ReferenceEIdeal.nD Cert.ReferenceEIdeal.τ).loc Cert.ReferenceEIdeal.main_v60) = v0 c
          ∧ r.2.mem ((c.tc : Thread Cert.ReferenceEIdeal.nD Cert.ReferenceEIdeal.τ).loc Cert.ReferenceEIdeal.main_arg0) = m' ((c.tc : Thread Cert.ReferenceEIdeal.nD Cert.ReferenceEIdeal.τ).loc Cert.ReferenceEIdeal.main_arg0)
          ∧ r.2.mem ((c.tc : Thread Cert.ReferenceEIdeal.nD Cert.ReferenceEIdeal.τ).loc Cert.ReferenceEIdeal.main_arg1) = m' ((c.tc : Thread Cert.ReferenceEIdeal.nD Cert.ReferenceEIdeal.τ).loc Cert.ReferenceEIdeal.main_arg1)
          ∧ r.2.mem ((c.tc : Thread Cert.ReferenceEIdeal.nD Cert.ReferenceEIdeal.τ).loc Cert.ReferenceEIdeal.main_arg2) = m' ((c.tc : Thread Cert.ReferenceEIdeal.nD Cert.ReferenceEIdeal.τ).loc Cert.ReferenceEIdeal.main_arg2)
          ∧ r.2.mem ((c.tc : Thread Cert.ReferenceEIdeal.nD Cert.ReferenceEIdeal.τ).loc Cert.ReferenceEIdeal.main_arg3) = m' ((c.tc : Thread Cert.ReferenceEIdeal.nD Cert.ReferenceEIdeal.τ).loc Cert.ReferenceEIdeal.main_arg3)
          ∧ r.2.mem ((c.tc : Thread Cert.ReferenceEIdeal.nD Cert.ReferenceEIdeal.τ).loc Cert.ReferenceEIdeal.main_arg4) = m' ((c.tc : Thread Cert.ReferenceEIdeal.nD Cert.ReferenceEIdeal.τ).loc Cert.ReferenceEIdeal.main_arg4)
          ∧ r.2.mem ((c.tc : Thread Cert.ReferenceEIdeal.nD Cert.ReferenceEIdeal.τ).loc Cert.ReferenceEIdeal.main_arg5) = m' ((c.tc : Thread Cert.ReferenceEIdeal.nD Cert.ReferenceEIdeal.τ).loc Cert.ReferenceEIdeal.main_arg5)
          ∧ r.2.mem ((c.tc : Thread Cert.ReferenceEIdeal.nD Cert.ReferenceEIdeal.τ).loc Cert.ReferenceEIdeal.main_arg6) = m' ((c.tc : Thread Cert.ReferenceEIdeal.nD Cert.ReferenceEIdeal.τ).loc Cert.ReferenceEIdeal.main_arg6)
          ∧ r.2.mem ((c.tc : Thread Cert.ReferenceEIdeal.nD Cert.ReferenceEIdeal.τ).loc Cert.ReferenceEIdeal.main_arg7) = m' ((c.tc : Thread Cert.ReferenceEIdeal.nD Cert.ReferenceEIdeal.τ).loc Cert.ReferenceEIdeal.main_arg7)
          ∧ r.2.mem ((c.tc : Thread Cert.ReferenceEIdeal.nD Cert.ReferenceEIdeal.τ).loc Cert.ReferenceEIdeal.main_arg8) = m' ((c.tc : Thread Cert.ReferenceEIdeal.nD Cert.ReferenceEIdeal.τ).loc Cert.ReferenceEIdeal.main_arg8)
          ∧ r.2.mem ((c.tc : Thread Cert.ReferenceEIdeal.nD Cert.ReferenceEIdeal.τ).loc Cert.ReferenceEIdeal.main_arg9) = m' ((c.tc : Thread Cert.ReferenceEIdeal.nD Cert.ReferenceEIdeal.τ).loc Cert.ReferenceEIdeal.main_arg9)
          ∧ r.2.mem ((c.tc : Thread Cert.ReferenceEIdeal.nD Cert.ReferenceEIdeal.τ).loc Cert.ReferenceEIdeal.main_arg10) = m' ((c.tc : Thread Cert.ReferenceEIdeal.nD Cert.ReferenceEIdeal.τ).loc Cert.ReferenceEIdeal.main_arg10))

def preserves_KernelB_KernelBIdeal : Prop :=
  IdealRules.named_const.Statement Cert.KernelBIdeal.κ "mask" .f32 0xF149F2CA#32 ⊥

def algebraic_KernelBIdeal_ReferenceBIdeal_pre_finite [hKernelBIdeal : Cert.KernelBIdeal.Facts] [hReferenceBIdeal : Cert.ReferenceBIdeal.Facts] [hPre_finite : Cert.Pre_finite.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)) →
    ∃ (v0 : (c : Dev Cert.KernelBIdeal.nD) → Buf (Elt Ideal) ((c.tc : Thread Cert.KernelBIdeal.nD Cert.KernelBIdeal.τ).loc Cert.KernelBIdeal.main_v0)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v0) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v38) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1))

def Claim : Prop :=
  ∃ (hKernelP : Cert.KernelP.Facts) (hKernelPIdeal : Cert.KernelPIdeal.Facts) (hReferencePIdeal : Cert.ReferencePIdeal.Facts) (hKernelF : Cert.KernelF.Facts) (hKernelFIdeal : Cert.KernelFIdeal.Facts) (hReferenceFIdeal : Cert.ReferenceFIdeal.Facts) (hKernelE : Cert.KernelE.Facts) (hKernelEIdeal : Cert.KernelEIdeal.Facts) (hReferenceEIdeal : Cert.ReferenceEIdeal.Facts) (hKernelB : Cert.KernelB.Facts) (hKernelBIdeal : Cert.KernelBIdeal.Facts) (hReferenceBIdeal : Cert.ReferenceBIdeal.Facts) (hPre_finite : Cert.Pre_finite.Facts),
    quiescent_KernelP (hKernelP := hKernelP)
    ∧ quiescent_KernelPIdeal (hKernelPIdeal := hKernelPIdeal)
    ∧ quiescent_ReferencePIdeal (hReferencePIdeal := hReferencePIdeal)
    ∧ quiescent_KernelF (hKernelF := hKernelF)
    ∧ quiescent_KernelFIdeal (hKernelFIdeal := hKernelFIdeal)
    ∧ quiescent_ReferenceFIdeal (hReferenceFIdeal := hReferenceFIdeal)
    ∧ quiescent_KernelE (hKernelE := hKernelE)
    ∧ quiescent_KernelEIdeal (hKernelEIdeal := hKernelEIdeal)
    ∧ quiescent_ReferenceEIdeal (hReferenceEIdeal := hReferenceEIdeal)
    ∧ quiescent_KernelB (hKernelB := hKernelB)
    ∧ quiescent_KernelBIdeal (hKernelBIdeal := hKernelBIdeal)
    ∧ quiescent_KernelBIdeal_pre_finite (hKernelBIdeal := hKernelBIdeal) (hPre_finite := hPre_finite)
    ∧ quiescent_ReferenceBIdeal (hReferenceBIdeal := hReferenceBIdeal)
    ∧ quiescent_ReferenceBIdeal_pre_finite (hReferenceBIdeal := hReferenceBIdeal) (hPre_finite := hPre_finite)
    ∧ preserves_KernelP_KernelPIdeal
    ∧ algebraic_KernelPIdeal_ReferencePIdeal (hKernelPIdeal := hKernelPIdeal) (hReferencePIdeal := hReferencePIdeal)
    ∧ preserves_KernelF_KernelFIdeal
    ∧ algebraic_KernelFIdeal_ReferenceFIdeal (hKernelFIdeal := hKernelFIdeal) (hReferenceFIdeal := hReferenceFIdeal)
    ∧ preserves_KernelE_KernelEIdeal
    ∧ algebraic_KernelEIdeal_ReferenceEIdeal (hKernelEIdeal := hKernelEIdeal) (hReferenceEIdeal := hReferenceEIdeal)
    ∧ preserves_KernelB_KernelBIdeal
    ∧ algebraic_KernelBIdeal_ReferenceBIdeal_pre_finite (hKernelBIdeal := hKernelBIdeal) (hReferenceBIdeal := hReferenceBIdeal) (hPre_finite := hPre_finite)
-- ==== Pre_finite.lean ====
abbrev S4x8192x1536 : Shape := ⟨3, ![4, 8192, 1536]⟩
abbrev S4x8x8192 : Shape := ⟨3, ![4, 8, 8192]⟩
abbrev S4x8192x512 : Shape := ⟨3, ![4, 8192, 512]⟩
abbrev S_ : Shape := ⟨0, ![]⟩
abbrev S4x4x8192 : Shape := ⟨3, ![4, 4, 8192]⟩

class Facts : Prop where
  slices_S4x8192x1536_S4x8192x512_0_0_768 : S4x8192x1536.Slices ![0, 0, 768] S4x8192x512
  bitsLt_bf16_f32 : FTy.bits .bf16 < FTy.bits .f32
  bcast_S_S4x8192x512 : S_.BroadcastsInDim S4x8192x512 (![] : Fin 0 → Fin S4x8192x512.rank)
  slices_S4x8x8192_S4x4x8192_0_0_0 : S4x8x8192.Slices ![0, 0, 0] S4x4x8192
  bcast_S_S4x4x8192 : S_.BroadcastsInDim S4x4x8192 (![] : Fin 0 → Fin S4x4x8192.rank)

variable [Facts]

def fn {F : FTy → Type} [FloatOps F] (main_arg0 : FVec F S4x8192x1536 .bf16) (main_arg1 : FVec F S4x8x8192 .f32) : IVec S4x8192x512 1 × IVec S4x4x8192 1 :=
  let main_v0 : FVec F S4x8192x512 .bf16 := (extractStridedSlice S4x8192x512 ![0, 0, 768] · slices_S4x8192x1536_S4x8192x512_0_0_768) main_arg0
  let main_v1 : FVec F S4x8192x512 .f32 := (extf .f32 · bitsLt_bf16_f32) main_v0
  let main_v2 : FVec F S4x8192x512 .f32 := Host.absf main_v1
  let main_cst : FVec F S_ .f32 := constant S_ .f32 0x7F800000#32
  let main_v3 : FVec F S4x8192x512 .f32 := broadcastInDim S4x8192x512 ![] bcast_S_S4x8192x512 main_cst
  let main_v4 : IVec S4x8192x512 1 := cmpf .olt main_v2 main_v3
  let main_v5 : FVec F S4x4x8192 .f32 := (extractStridedSlice S4x4x8192 ![0, 0, 0] · slices_S4x8x8192_S4x4x8192_0_0_0) main_arg1
  let main_v6 : FVec F S4x4x8192 .f32 := Host.absf main_v5
  let main_cst_0 : FVec F S_ .f32 := constant S_ .f32 0x7F800000#32
  let main_v7 : FVec F S4x4x8192 .f32 := broadcastInDim S4x4x8192 ![] bcast_S_S4x4x8192 main_cst_0
  let main_v8 : IVec S4x4x8192 1 := cmpf .olt main_v6 main_v7
  (main_v4, main_v8)
-- ==== KernelP.lean ====
abbrev S4x8192x1024 : Shape := ⟨3, ![4, 8192, 1024]⟩
abbrev S4x6x1024 : Shape := ⟨3, ![4, 6, 1024]⟩
abbrev S1024 : Shape := ⟨1, ![1024]⟩
abbrev S1024x3596 : Shape := ⟨2, ![1024, 3596]⟩
abbrev S1x1024 : Shape := ⟨2, ![1, 1024]⟩
abbrev S1024x256 : Shape := ⟨2, ![1024, 256]⟩
abbrev S_ : Shape := ⟨0, ![]⟩
abbrev S1024x512 : Shape := ⟨2, ![1024, 512]⟩
abbrev S1024x1536 : Shape := ⟨2, ![1024, 1536]⟩
abbrev S1024x4 : Shape := ⟨2, ![1024, 4]⟩
abbrev S1024x116 : Shape := ⟨2, ![1024, 116]⟩
abbrev S1024x128 : Shape := ⟨2, ![1024, 128]⟩
abbrev S1024x3712 : Shape := ⟨2, ![1024, 3712]⟩
abbrev S4x8192x1536 : Shape := ⟨3, ![4, 8192, 1536]⟩
abbrev S4x8192x512 : Shape := ⟨3, ![4, 8192, 512]⟩
abbrev S4x8192x128 : Shape := ⟨3, ![4, 8192, 128]⟩
abbrev S1x512x1024 : Shape := ⟨3, ![1, 512, 1024]⟩
abbrev S1x6x1024 : Shape := ⟨3, ![1, 6, 1024]⟩
abbrev S1x512x1536 : Shape := ⟨3, ![1, 512, 1536]⟩
abbrev S1x512x512 : Shape := ⟨3, ![1, 512, 512]⟩
abbrev S1x512x128 : Shape := ⟨3, ![1, 512, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩

abbrev nBuf : Space → Nat
  | .hbm => 30
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024, .f32⟩
  | .hbm, ⟨3, _⟩ => ⟨S1024x3596, .f32⟩
  | .hbm, ⟨4, _⟩ => ⟨S1x1024, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x512, .f32⟩
  | .hbm, ⟨15, _⟩ => ⟨S1024x1536, .f32⟩
  | .hbm, ⟨16, _⟩ => ⟨S1024x4, .f32⟩
  | .hbm, ⟨17, _⟩ => ⟨S1024x4, .f32⟩
  | .hbm, ⟨18, _⟩ => ⟨S1024x4, .f32⟩
  | .hbm, ⟨19, _⟩ => ⟨S_, .f32⟩
  | .hbm, ⟨20, _⟩ => ⟨S1024x116, .f32⟩
  | .hbm, ⟨21, _⟩ => ⟨S1024x128, .f32⟩
  | .hbm, ⟨22, _⟩ => ⟨S1024x1536, .f32⟩
  | .hbm, ⟨23, _⟩ => ⟨S1024x512, .f32⟩
  | .hbm, ⟨24, _⟩ => ⟨S1024x3712, .f32⟩
  | .hbm, ⟨25, _⟩ => ⟨S1024x3712, .bf16⟩
  | .hbm, ⟨26, _⟩ => ⟨S4x8192x1536, .bf16⟩
  | .hbm, ⟨27, _⟩ => ⟨S4x8192x1536, .f32⟩
  | .hbm, ⟨28, _⟩ => ⟨S4x8192x512, .f32⟩
  | .hbm, ⟨29, _⟩ => ⟨S4x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3712, .bf16⟩
  | .local _ .vmem, ⟨6, _⟩ => ⟨S1x512x1536, .bf16⟩
  | .local _ .vmem, ⟨7, _⟩ => ⟨S1x512x1536, .bf16⟩
  | .local _ .vmem, ⟨8, _⟩ => ⟨S1x512x1536, .f32⟩
  | .local _ .vmem, ⟨9, _⟩ => ⟨S1x512x1536, .f32⟩
  | .local _ .vmem, ⟨10, _⟩ => ⟨S1x512x512, .f32⟩
  | .local _ .vmem, ⟨11, _⟩ => ⟨S1x512x512, .f32⟩
  | .local _ .vmem, ⟨12, _⟩ => ⟨S1x512x128, .f32⟩
  | .local _ .vmem, ⟨13, _⟩ => ⟨S1x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferencePIdeal.lean ====
abbrev S4x8192x1024 : Shape := ⟨3, ![4, 8192, 1024]⟩
abbrev S4x6x1024 : Shape := ⟨3, ![4, 6, 1024]⟩
abbrev S1024 : Shape := ⟨1, ![1024]⟩
abbrev S1024x3596 : Shape := ⟨2, ![1024, 3596]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3596 : Shape := ⟨3, ![4, 8192, 3596]⟩
abbrev S4x8192x768 : Shape := ⟨3, ![4, 8192, 768]⟩
abbrev S4x8192x4 : Shape := ⟨3, ![4, 8192, 4]⟩
abbrev S4x8192x1536 : Shape := ⟨3, ![4, 8192, 1536]⟩
abbrev S4x8192x512 : Shape := ⟨3, ![4, 8192, 512]⟩
abbrev S4x8192x256 : Shape := ⟨3, ![4, 8192, 256]⟩
abbrev S4x8192x116 : Shape := ⟨3, ![4, 8192, 116]⟩
abbrev S4x8192x128 : Shape := ⟨3, ![4, 8192, 128]⟩

abbrev nBuf : Space → Nat
  | .hbm => 54
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024, .f32⟩
  | .hbm, ⟨3, _⟩ => ⟨S1024x3596, .f32⟩
  | .hbm, ⟨4, _⟩ => ⟨S4x1x1024, .f32⟩
  | .hbm, ⟨5, _⟩ => ⟨S4x1x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x3596, .f32⟩
  | .hbm, ⟨30, _⟩ => ⟨S4x8192x768, .f32⟩
  | .hbm, ⟨31, _⟩ => ⟨S4x8192x768, .f32⟩
  | .hbm, ⟨32, _⟩ => ⟨S4x8192x4, .f32⟩
  | .hbm, ⟨33, _⟩ => ⟨S4x8192x1536, .f32⟩
  | .hbm, ⟨34, _⟩ => ⟨S4x8192x4, .f32⟩
  | .hbm, ⟨35, _⟩ => ⟨S4x8192x4, .f32⟩
  | .hbm, ⟨36, _⟩ => ⟨S4x8192x512, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192x256, .f32⟩
  | .hbm, ⟨48, _⟩ => ⟨S4x8192x256, .f32⟩
  | .hbm, ⟨49, _⟩ => ⟨S4x8192x1536, .f32⟩
  | .hbm, ⟨50, _⟩ => ⟨S_, .f32⟩
  | .hbm, ⟨51, _⟩ => ⟨S4x8192x116, .f32⟩
  | .hbm, ⟨52, _⟩ => ⟨S4x8192x128, .f32⟩
  | .hbm, ⟨53, _⟩ => ⟨S4x8192x1536, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== KernelF.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x6x1024 : Shape := ⟨3, ![4, 6, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S3x2816 : Shape := ⟨2, ![3, 2816]⟩
abbrev S3x11x256 : Shape := ⟨3, ![3, 11, 256]⟩
abbrev S11x3x256 : Shape := ⟨3, ![11, 3, 256]⟩
abbrev S11x256x1024 : Shape := ⟨3, ![11, 256, 1024]⟩
abbrev S1x512x1024 : Shape := ⟨3, ![1, 512, 1024]⟩
abbrev S1x512x256 : Shape := ⟨3, ![1, 512, 256]⟩
abbrev S1x512x512 : Shape := ⟨3, ![1, 512, 512]⟩
abbrev S1x6x1024 : Shape := ⟨3, ![1, 6, 1024]⟩
abbrev S512x1024 : Shape := ⟨2, ![512, 1024]⟩
abbrev S520x256 : Shape := ⟨2, ![520, 256]⟩
abbrev S11x8x256 : Shape := ⟨3, ![11, 8, 256]⟩
abbrev S1x1x1024 : Shape := ⟨3, ![1, 1, 1024]⟩
abbrev S512x256 : Shape := ⟨2, ![512, 256]⟩
abbrev S256x1024 : Shape := ⟨2, ![256, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S1x8x256 : Shape := ⟨3, ![1, 8, 256]⟩
abbrev S8x256 : Shape := ⟨2, ![8, 256]⟩
abbrev S1x256 : Shape := ⟨2, ![1, 256]⟩
abbrev S1x256x1024 : Shape := ⟨3, ![1, 256, 1024]⟩

abbrev nBuf : Space → Nat
  | .hbm => 30
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .bf16⟩
  | .hbm, ⟨2, _⟩ => ⟨S4x8192x256, .bf16⟩
  | .hbm, ⟨3, _⟩ => ⟨S4x8192x512, .bf16⟩
  | .hbm, ⟨4, _⟩ => ⟨S4x6x1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S2816x1024, .f32⟩
  | .hbm, ⟨10, _⟩ => ⟨S1024, .f32⟩
  | .hbm, ⟨11, _⟩ => ⟨S1024x5632, .bf16⟩
  | .hbm, ⟨12, _⟩ => ⟨S1024x1024, .bf16⟩
  | .hbm, ⟨13, _⟩ => ⟨S1x1024, .f32⟩
  | .hbm, ⟨14, _⟩ => ⟨S1024x2816, .bf16⟩
  | .hbm, ⟨15, _⟩ => ⟨S1024x11x256, .bf16⟩
  | .hbm, ⟨16, _⟩ => ⟨S11x1024x256, .bf16⟩
  | .hbm, ⟨17, _⟩ => ⟨S1024x2816, .bf16⟩
  | .hbm, ⟨18, _⟩ => ⟨S1024x11x256, .bf16⟩
  | .hbm, ⟨19, _⟩ => ⟨S11x1024x256, .bf16⟩
  | .hbm, ⟨20, _⟩ => ⟨S3x2816, .f32⟩
  | .hbm, ⟨21, _⟩ => ⟨S3x11x256, .f32⟩
  | .hbm, ⟨22, _⟩ => ⟨S11x3x256, .f32⟩
  | .hbm, ⟨23, _⟩ => ⟨S3x2816, .f32⟩
  | .hbm, ⟨24, _⟩ => ⟨S3x11x256, .f32⟩
  | .hbm, ⟨25, _⟩ => ⟨S11x3x256, .f32⟩
  | .hbm, ⟨26, _⟩ => ⟨S2816x1024, .bf16⟩
  | .hbm, ⟨27, _⟩ => ⟨S11x256x1024, .bf16⟩
  | .hbm, ⟨28, _⟩ => ⟨S1x1024, .f32⟩
  | .hbm, ⟨29, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S1x6x1024, .f32⟩
  | .local _ .vmem, ⟨9, _⟩ => ⟨S1x6x1024, .f32⟩
  | .local _ .vmem, ⟨10, _⟩ => ⟨S1024x1024, .bf16⟩
  | .local _ .vmem, ⟨11, _⟩ => ⟨S1x1024, .f32⟩
  | .local _ .vmem, ⟨12, _⟩ => ⟨S11x1024x256, .bf16⟩
  | .local _ .vmem, ⟨13, _⟩ => ⟨S11x1024x256, .bf16⟩
  | .local _ .vmem, ⟨14, _⟩ => ⟨S11x3x256, .f32⟩
  | .local _ .vmem, ⟨15, _⟩ => ⟨S11x3x256, .f32⟩
  | .local _ .vmem, ⟨16, _⟩ => ⟨S11x256x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .bf16⟩
  | .local _ .vmem, ⟨21, _⟩ => ⟨S512x1024, .f32⟩
  | .local _ .vmem, ⟨22, _⟩ => ⟨S520x256, .f32⟩
  | .local _ .vmem, ⟨23, _⟩ => ⟨S520x256, .f32⟩
  | .local _ .vmem, ⟨24, _⟩ => ⟨S11x8x256, .f32⟩
  | .local _ .vmem, ⟨25, _⟩ => ⟨S11x8x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_37 : BitVec 32 := 0#32
  let c11_i32 : BitVec 32 := 11#32
  let v61 : BitVec 32 := Scalar.addi c0_i32_37 c11_i32
  let c1_i32 : BitVec 32 := 1#32
  ⟨c0_i32_37, v61, c1_i32⟩
def k0_off1 (k0_t1 : Fin k0_t1_loop.trips) : Fin 3 → Nat :=
  let c0_i32_37 : BitVec 32 := 0#32
  let c1_i32 : BitVec 32 := 1#32
  let arg22 : BitVec 32 := Scf.iv c0_i32_37 c1_i32 k0_t1
  let v84 : Index := Scalar.indexCast arg22
  let c0_51 : Index := 0#32
  let c0_52 : Index := 0#32
  ![v84.toNat, 0, 0]
def k0_off2 (k0_t1 : Fin k0_t1_loop.trips) : Fin 3 → Nat :=
  let c0_i32_37 : BitVec 32 := 0#32
  let c1_i32 : BitVec 32 := 1#32
  let arg22 : BitVec 32 := Scf.iv c0_i32_37 c1_i32 k0_t1
  let v98 : Index := Scalar.indexCast arg22
  let c0_60 : Index := 0#32
  let c0_61 : Index := 0#32
  ![v98.toNat, 0, 0]
def k0_off3 (k0_t1 : Fin k0_t1_loop.trips) : Fin 3 → Nat :=
  let c0_i32_37 : BitVec 32 := 0#32
  let c1_i32 : BitVec 32 := 1#32
  let arg22 : BitVec 32 := Scf.iv c0_i32_37 c1_i32 k0_t1
  let v101 : Index := Scalar.indexCast arg22
  let c0_62 : Index := 0#32
  let c0_63 : Index := 0#32
  ![v101.toNat, 0, 0]
def k0_off4 (k0_t1 : Fin k0_t1_loop.trips) : Fin 3 → Nat :=
  let c0_i32_37 : BitVec 32 := 0#32
  let c1_i32 : BitVec 32 := 1#32
  let arg22 : BitVec 32 := Scf.iv c0_i32_37 c1_i32 k0_t1
  let v165 : Index := Scalar.indexCast arg22
  let c0_95 : Index := 0#32
  let c0_96 : Index := 0#32
  ![v165.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S11x3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceFIdeal.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x6x1024 : Shape := ⟨3, ![4, 6, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩

abbrev nBuf : Space → Nat
  | .hbm => 103
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .bf16⟩
  | .hbm, ⟨2, _⟩ => ⟨S4x8192x256, .bf16⟩
  | .hbm, ⟨3, _⟩ => ⟨S4x8192x512, .bf16⟩
  | .hbm, ⟨4, _⟩ => ⟨S4x6x1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S2816x1024, .f32⟩
  | .hbm, ⟨10, _⟩ => ⟨S1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x8192x1024, .bf16⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x5632, .f32⟩
  | .hbm, ⟨45, _⟩ => ⟨S_, .i32⟩
  | .hbm, ⟨46, _⟩ => ⟨S_, .f32⟩
  | .hbm, ⟨47, _⟩ => ⟨S4x8194x5632, .f32⟩
  | .hbm, ⟨48, _⟩ => ⟨S4x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S4x8192x5632, .f32⟩
  | .hbm, ⟨53, _⟩ => ⟨S4x8192x5632, .f32⟩
  | .hbm, ⟨54, _⟩ => ⟨S_, .f32⟩
  | .hbm, ⟨55, _⟩ => ⟨S4x8192x5632, .f32⟩
  | .hbm, ⟨56, _⟩ => ⟨S4x8192x5632, .f32⟩
  | .hbm, ⟨57, _⟩ => ⟨S4x8192x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S4x8192x5632, .f32⟩
  | .hbm, ⟨62, _⟩ => ⟨S4x8192x5632, .f32⟩
  | .hbm, ⟨63, _⟩ => ⟨S4x8192x5632, .f32⟩
  | .hbm, ⟨64, _⟩ => ⟨S4x8192x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S4x8192x5632, .f32⟩
  | .hbm, ⟨69, _⟩ => ⟨S4x8192x5632, .f32⟩
  | .hbm, ⟨70, _⟩ => ⟨S4x8192x5632, .f32⟩
  | .hbm, ⟨71, _⟩ => ⟨S4x8192x2816, .f32⟩
  | .hbm, ⟨72, _⟩ => ⟨S4x8192x2816, .f32⟩
  | .hbm, ⟨73, _⟩ => ⟨S4x8192x2816, .f32⟩
  | .hbm, ⟨74, _⟩ => ⟨S4x8192x2816, .f32⟩
  | .hbm, ⟨75, _⟩ => ⟨S_, .f32⟩
  | .hbm, ⟨76, _⟩ => ⟨S4x8192x2816, .f32⟩
  | .hbm, ⟨77, _⟩ => ⟨S4x8192x2816, .f32⟩
  | .hbm, ⟨78, _⟩ => ⟨S_, .f32⟩
  | .hbm, ⟨79, _⟩ => ⟨S4x8192x2816, .f32⟩
  | .hbm, ⟨80, _⟩ => ⟨S4x8192x2816, .f32⟩
  | .hbm, ⟨81, _⟩ => ⟨S4x8192x2816, .f32⟩
  | .hbm, ⟨82, _⟩ => ⟨S4x8192x2816, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S4x8192x1024, .f32⟩
  | .hbm, ⟨88, _⟩ => ⟨S_, .f32⟩
  | .hbm, ⟨89, _⟩ => ⟨S4x8192, .f32⟩
  | .hbm, ⟨90, _⟩ => ⟨S4x8192x1, .f32⟩
  | .hbm, ⟨91, _⟩ => ⟨S_, .f32⟩
  | .hbm, ⟨92, _⟩ => ⟨S4x8192x1, .f32⟩
  | .hbm, ⟨93, _⟩ => ⟨S4x8192x1, .f32⟩
  | .hbm, ⟨94, _⟩ => ⟨S_, .f32⟩
  | .hbm, ⟨95, _⟩ => ⟨S4x8192x1, .f32⟩
  | .hbm, ⟨96, _⟩ => ⟨S4x8192x1, .f32⟩
  | .hbm, ⟨97, _⟩ => ⟨S4x8192x1, .f32⟩
  | .hbm, ⟨98, _⟩ => ⟨S4x8192x1024, .f32⟩
  | .hbm, ⟨99, _⟩ => ⟨S4x8192x1024, .f32⟩
  | .hbm, ⟨100, _⟩ => ⟨S1x1x1024, .f32⟩
  | .hbm, ⟨101, _⟩ => ⟨S4x8192x1024, .f32⟩
  | .hbm, ⟨102, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_4 : Ref sig .tc := ⟨.hbm, 88, rfl⟩
abbrev main_v62 : Ref sig .tc := ⟨.hbm, 89, rfl⟩
abbrev main_v63 : Ref sig .tc := ⟨.hbm, 90, rfl⟩
abbrev main_cst_5 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== KernelE.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x6x1024 : Shape := ⟨3, ![4, 6, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S3x2816 : Shape := ⟨2, ![3, 2816]⟩
abbrev S3x11x256 : Shape := ⟨3, ![3, 11, 256]⟩
abbrev S11x3x256 : Shape := ⟨3, ![11, 3, 256]⟩
abbrev S11x256x1024 : Shape := ⟨3, ![11, 256, 1024]⟩
abbrev S1x512x1024 : Shape := ⟨3, ![1, 512, 1024]⟩
abbrev S1x512x256 : Shape := ⟨3, ![1, 512, 256]⟩
abbrev S1x512x512 : Shape := ⟨3, ![1, 512, 512]⟩
abbrev S1x6x1024 : Shape := ⟨3, ![1, 6, 1024]⟩
abbrev S512x1024 : Shape := ⟨2, ![512, 1024]⟩
abbrev S520x256 : Shape := ⟨2, ![520, 256]⟩
abbrev S11x8x256 : Shape := ⟨3, ![11, 8, 256]⟩
abbrev S1x1x1024 : Shape := ⟨3, ![1, 1, 1024]⟩
abbrev S512x256 : Shape := ⟨2, ![512, 256]⟩
abbrev S256x1024 : Shape := ⟨2, ![256, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S1x8x256 : Shape := ⟨3, ![1, 8, 256]⟩
abbrev S8x256 : Shape := ⟨2, ![8, 256]⟩
abbrev S1x256 : Shape := ⟨2, ![1, 256]⟩
abbrev S1x256x1024 : Shape := ⟨3, ![1, 256, 1024]⟩

abbrev nBuf : Space → Nat
  | .hbm => 30
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .bf16⟩
  | .hbm, ⟨2, _⟩ => ⟨S4x8192x256, .bf16⟩
  | .hbm, ⟨3, _⟩ => ⟨S4x8192x512, .bf16⟩
  | .hbm, ⟨4, _⟩ => ⟨S4x6x1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S2816x1024, .f32⟩
  | .hbm, ⟨10, _⟩ => ⟨S1024, .f32⟩
  | .hbm, ⟨11, _⟩ => ⟨S1024x5632, .bf16⟩
  | .hbm, ⟨12, _⟩ => ⟨S1024x1024, .bf16⟩
  | .hbm, ⟨13, _⟩ => ⟨S1x1024, .f32⟩
  | .hbm, ⟨14, _⟩ => ⟨S1024x2816, .bf16⟩
  | .hbm, ⟨15, _⟩ => ⟨S1024x11x256, .bf16⟩
  | .hbm, ⟨16, _⟩ => ⟨S11x1024x256, .bf16⟩
  | .hbm, ⟨17, _⟩ => ⟨S1024x2816, .bf16⟩
  | .hbm, ⟨18, _⟩ => ⟨S1024x11x256, .bf16⟩
  | .hbm, ⟨19, _⟩ => ⟨S11x1024x256, .bf16⟩
  | .hbm, ⟨20, _⟩ => ⟨S3x2816, .f32⟩
  | .hbm, ⟨21, _⟩ => ⟨S3x11x256, .f32⟩
  | .hbm, ⟨22, _⟩ => ⟨S11x3x256, .f32⟩
  | .hbm, ⟨23, _⟩ => ⟨S3x2816, .f32⟩
  | .hbm, ⟨24, _⟩ => ⟨S3x11x256, .f32⟩
  | .hbm, ⟨25, _⟩ => ⟨S11x3x256, .f32⟩
  | .hbm, ⟨26, _⟩ => ⟨S2816x1024, .bf16⟩
  | .hbm, ⟨27, _⟩ => ⟨S11x256x1024, .bf16⟩
  | .hbm, ⟨28, _⟩ => ⟨S1x1024, .f32⟩
  | .hbm, ⟨29, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S1x6x1024, .f32⟩
  | .local _ .vmem, ⟨9, _⟩ => ⟨S1x6x1024, .f32⟩
  | .local _ .vmem, ⟨10, _⟩ => ⟨S1024x1024, .bf16⟩
  | .local _ .vmem, ⟨11, _⟩ => ⟨S1x1024, .f32⟩
  | .local _ .vmem, ⟨12, _⟩ => ⟨S11x1024x256, .bf16⟩
  | .local _ .vmem, ⟨13, _⟩ => ⟨S11x1024x256, .bf16⟩
  | .local _ .vmem, ⟨14, _⟩ => ⟨S11x3x256, .f32⟩
  | .local _ .vmem, ⟨15, _⟩ => ⟨S11x3x256, .f32⟩
  | .local _ .vmem, ⟨16, _⟩ => ⟨S11x256x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .bf16⟩
  | .local _ .vmem, ⟨21, _⟩ => ⟨S512x1024, .f32⟩
  | .local _ .vmem, ⟨22, _⟩ => ⟨S520x256, .f32⟩
  | .local _ .vmem, ⟨23, _⟩ => ⟨S520x256, .f32⟩
  | .local _ .vmem, ⟨24, _⟩ => ⟨S11x8x256, .f32⟩
  | .local _ .vmem, ⟨25, _⟩ => ⟨S11x8x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_37 : BitVec 32 := 0#32
  let c11_i32 : BitVec 32 := 11#32
  let v61 : BitVec 32 := Scalar.addi c0_i32_37 c11_i32
  let c1_i32 : BitVec 32 := 1#32
  ⟨c0_i32_37, v61, c1_i32⟩
def k0_off1 (k0_t1 : Fin k0_t1_loop.trips) : Fin 3 → Nat :=
  let c0_i32_37 : BitVec 32 := 0#32
  let c1_i32 : BitVec 32 := 1#32
  let arg22 : BitVec 32 := Scf.iv c0_i32_37 c1_i32 k0_t1
  let v70 : Index := Scalar.indexCast arg22
  let c0_46 : Index := 0#32
  let c0_47 : Index := 0#32
  ![v70.toNat, 0, 0]
def k0_off2 (k0_t1 : Fin k0_t1_loop.trips) : Fin 3 → Nat :=
  let c0_i32_37 : BitVec 32 := 0#32
  let c1_i32 : BitVec 32 := 1#32
  let arg22 : BitVec 32 := Scf.iv c0_i32_37 c1_i32 k0_t1
  let v84 : Index := Scalar.indexCast arg22
  let c0_55 : Index := 0#32
  let c0_56 : Index := 0#32
  ![v84.toNat, 0, 0]
def k0_off3 (k0_t1 : Fin k0_t1_loop.trips) : Fin 3 → Nat :=
  let c0_i32_37 : BitVec 32 := 0#32
  let c1_i32 : BitVec 32 := 1#32
  let arg22 : BitVec 32 := Scf.iv c0_i32_37 c1_i32 k0_t1
  let v87 : Index := Scalar.indexCast arg22
  let c0_57 : Index := 0#32
  let c0_58 : Index := 0#32
  ![v87.toNat, 0, 0]
def k0_off4 (k0_t1 : Fin k0_t1_loop.trips) : Fin 3 → Nat :=
  let c0_i32_37 : BitVec 32 := 0#32
  let c1_i32 : BitVec 32 := 1#32
  let arg22 : BitVec 32 := Scf.iv c0_i32_37 c1_i32 k0_t1
  let v151 : Index := Scalar.indexCast arg22
  let c0_90 : Index := 0#32
  let c0_91 : Index := 0#32
  ![v151.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S11x3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceEIdeal.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x6x1024 : Shape := ⟨3, ![4, 6, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩

abbrev nBuf : Space → Nat
  | .hbm => 87
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .bf16⟩
  | .hbm, ⟨2, _⟩ => ⟨S4x8192x256, .bf16⟩
  | .hbm, ⟨3, _⟩ => ⟨S4x8192x512, .bf16⟩
  | .hbm, ⟨4, _⟩ => ⟨S4x6x1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S2816x1024, .f32⟩
  | .hbm, ⟨10, _⟩ => ⟨S1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x8192x1024, .bf16⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x5632, .f32⟩
  | .hbm, ⟨45, _⟩ => ⟨S_, .i32⟩
  | .hbm, ⟨46, _⟩ => ⟨S_, .f32⟩
  | .hbm, ⟨47, _⟩ => ⟨S4x8194x5632, .f32⟩
  | .hbm, ⟨48, _⟩ => ⟨S4x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S4x8192x5632, .f32⟩
  | .hbm, ⟨53, _⟩ => ⟨S4x8192x5632, .f32⟩
  | .hbm, ⟨54, _⟩ => ⟨S_, .f32⟩
  | .hbm, ⟨55, _⟩ => ⟨S4x8192x5632, .f32⟩
  | .hbm, ⟨56, _⟩ => ⟨S4x8192x5632, .f32⟩
  | .hbm, ⟨57, _⟩ => ⟨S4x8192x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S4x8192x5632, .f32⟩
  | .hbm, ⟨62, _⟩ => ⟨S4x8192x5632, .f32⟩
  | .hbm, ⟨63, _⟩ => ⟨S4x8192x5632, .f32⟩
  | .hbm, ⟨64, _⟩ => ⟨S4x8192x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S4x8192x5632, .f32⟩
  | .hbm, ⟨69, _⟩ => ⟨S4x8192x5632, .f32⟩
  | .hbm, ⟨70, _⟩ => ⟨S4x8192x5632, .f32⟩
  | .hbm, ⟨71, _⟩ => ⟨S4x8192x2816, .f32⟩
  | .hbm, ⟨72, _⟩ => ⟨S4x8192x2816, .f32⟩
  | .hbm, ⟨73, _⟩ => ⟨S4x8192x2816, .f32⟩
  | .hbm, ⟨74, _⟩ => ⟨S4x8192x2816, .f32⟩
  | .hbm, ⟨75, _⟩ => ⟨S_, .f32⟩
  | .hbm, ⟨76, _⟩ => ⟨S4x8192x2816, .f32⟩
  | .hbm, ⟨77, _⟩ => ⟨S4x8192x2816, .f32⟩
  | .hbm, ⟨78, _⟩ => ⟨S_, .f32⟩
  | .hbm, ⟨79, _⟩ => ⟨S4x8192x2816, .f32⟩
  | .hbm, ⟨80, _⟩ => ⟨S4x8192x2816, .f32⟩
  | .hbm, ⟨81, _⟩ => ⟨S4x8192x2816, .f32⟩
  | .hbm, ⟨82, _⟩ => ⟨S4x8192x2816, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== KernelB.lean ====
abbrev S4x8192x1536 : Shape := ⟨3, ![4, 8192, 1536]⟩
abbrev S4x8x8192 : Shape := ⟨3, ![4, 8, 8192]⟩
abbrev S4x8192x256 : Shape := ⟨3, ![4, 8192, 256]⟩
abbrev S1x512x128 : Shape := ⟨3, ![1, 512, 128]⟩
abbrev S1x8192x128 : Shape := ⟨3, ![1, 8192, 128]⟩
abbrev S1x8x8192 : Shape := ⟨3, ![1, 8, 8192]⟩
abbrev S2x512x1 : Shape := ⟨3, ![2, 512, 1]⟩
abbrev S2x512x128 : Shape := ⟨3, ![2, 512, 128]⟩
abbrev S1x128 : Shape := ⟨2, ![1, 128]⟩
abbrev S512x128 : Shape := ⟨2, ![512, 128]⟩
abbrev S1x1x512 : Shape := ⟨3, ![1, 1, 512]⟩
abbrev S1x512 : Shape := ⟨2, ![1, 512]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 3
  | .vmem => 13
  | .smem => 0
  | _ => 0

abbrev bufTy : (tb : Table) → Fin (tcTables nBuf tb) → BufTy
  | .hbm, ⟨0, _⟩ => ⟨S4x8192x1536, .bf16⟩
  | .hbm, ⟨1, _⟩ => ⟨S4x8x8192, .f32⟩
  | .hbm, ⟨2, _⟩ => ⟨S4x8192x256, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8x8192, .f32⟩
  | .local _ .vmem, ⟨7, _⟩ => ⟨S1x8x8192, .f32⟩
  | .local _ .vmem, ⟨8, _⟩ => ⟨S1x512x128, .bf16⟩
  | .local _ .vmem, ⟨9, _⟩ => ⟨S1x512x128, .bf16⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 16], ![false, false, false]⟩

@[reducible] def k0_t1_loop (i : grid0.Coords) : Scf.Loop 32 :=
  let c0_i32_15 : BitVec 32 := 0#32
  let arg2 : BitVec 32 := BitVec.ofNat 32 (i 2).val
  let v25 : BitVec 32 := Scalar.subi arg2 c0_i32_15
  let c1_i32 : BitVec 32 := 1#32
  let v27 : BitVec 32 := Scalar.divsi v25 c1_i32
  let v28 : BitVec 32 := Scalar.muli v27 c1_i32
  let v29 : BitVec 32 := Scalar.addi c0_i32_15 v28
  let c1_i32_16 : BitVec 32 := 1#32
  ⟨c0_i32_15, v29, c1_i32_16⟩
def k0_mult1 (i : grid0.Coords) (k0_t1 : Fin (k0_t1_loop i).trips) : BitVec 32 :=
  let c0_i32_15 : BitVec 32 := 0#32
  let c1_i32_16 : BitVec 32 := 1#32
  let arg11 : BitVec 32 := Scf.iv c0_i32_15 c1_i32_16 k0_t1
  let c512_i32_87 : BitVec 32 := 512#32
  let v149 : BitVec 32 := Scalar.muli arg11 c512_i32_87
  v149
def k0_off1 (i : grid0.Coords) (k0_t1 : Fin (k0_t1_loop i).trips) : Fin 3 → Nat :=
  let c0_88 : Index := 0#32
  let c0_i32_15 : BitVec 32 := 0#32
  let c1_i32_16 : BitVec 32 := 1#32
  let arg11 : BitVec 32 := Scf.iv c0_i32_15 c1_i32_16 k0_t1
  let c512_i32_87 : BitVec 32 := 512#32
  let v149 : BitVec 32 := Scalar.muli arg11 c512_i32_87
  let v150 : BitVec 32 := v149
  let v151 : Index := Scalar.indexCast v150
  let c0_89 : Index := 0#32
  ![0, v151.toNat, 0]
def k0_off2 (i : grid0.Coords) (k0_t1 : Fin (k0_t1_loop i).trips) (c0_i32_93 : BitVec 32) : Fin 3 → Nat :=
  let c0_94 : Index := 0#32
  let c2_i32_92 : BitVec 32 := 2#32
  let arg1 : BitVec 32 := BitVec.ofNat 32 (i 1).val
  let v157 : BitVec 32 := Scalar.muli c2_i32_92 arg1
  let v158 : BitVec 32 := Scalar.addi v157 c0_i32_93
  let v159 : Index := Scalar.indexCast v158
  let c0_i32_15 : BitVec 32 := 0#32
  let c1_i32_16 : BitVec 32 := 1#32
  let arg11 : BitVec 32 := Scf.iv c0_i32_15 c1_i32_16 k0_t1
  let c512_i32_87 : BitVec 32 := 512#32
  let v149 : BitVec 32 := Scalar.muli arg11 c512_i32_87
  let v150 : BitVec 32 := v149
  let v160 : Index := Scalar.indexCast v150
  ![0, v159.toNat, v160.toNat]
@[reducible] def k0_t2_loop (i : grid0.Coords) : Scf.Loop 32 :=
  let c0_i32_15 : BitVec 32 := 0#32
  let arg2 : BitVec 32 := BitVec.ofNat 32 (i 2).val
  let v25 : BitVec 32 := Scalar.subi arg2 c0_i32_15
  let c1_i32 : BitVec 32 := 1#32
  let v27 : BitVec 32 := Scalar.divsi v25 c1_i32
  let v28 : BitVec 32 := Scalar.muli v27 c1_i32
  let v29 : BitVec 32 := Scalar.addi c0_i32_15 v28
  let v26 : BitVec 32 := Scalar.addi c0_i32_15 v25
  let c1_i32_17 : BitVec 32 := 1#32
  ⟨v29, v26, c1_i32_17⟩
def k0_mult2 (i : grid0.Coords) (k0_t2 : Fin (k0_t2_loop i).trips) : BitVec 32 :=
  let c0_i32_15 : BitVec 32 := 0#32
  let arg2 : BitVec 32 := BitVec.ofNat 32 (i 2).val
  let v25 : BitVec 32 := Scalar.subi arg2 c0_i32_15
  let c1_i32 : BitVec 32 := 1#32
  let v27 : BitVec 32 := Scalar.divsi v25 c1_i32
  let v28 : BitVec 32 := Scalar.muli v27 c1_i32
  let v29 : BitVec 32 := Scalar.addi c0_i32_15 v28
  let c1_i32_17 : BitVec 32 := 1#32
  let arg11 : BitVec 32 := Scf.iv v29 c1_i32_17 k0_t2
  let c512_i32_87 : BitVec 32 := 512#32
  let v149 : BitVec 32 := Scalar.muli arg11 c512_i32_87
  v149
def k0_off3 (i : grid0.Coords) (k0_t2 : Fin (k0_t2_loop i).trips) : Fin 3 → Nat :=
  let c0_88 : Index := 0#32
  let c0_i32_15 : BitVec 32 := 0#32
  let arg2 : BitVec 32 := BitVec.ofNat 32 (i 2).val
  let v25 : BitVec 32 := Scalar.subi arg2 c0_i32_15
  let c1_i32 : BitVec 32 := 1#32
  let v27 : BitVec 32 := Scalar.divsi v25 c1_i32
  let v28 : BitVec 32 := Scalar.muli v27 c1_i32
  let v29 : BitVec 32 := Scalar.addi c0_i32_15 v28
  let c1_i32_17 : BitVec 32 := 1#32
  let arg11 : BitVec 32 := Scf.iv v29 c1_i32_17 k0_t2
  let c512_i32_87 : BitVec 32 := 512#32
  let v149 : BitVec 32 := Scalar.muli arg11 c512_i32_87
  let v150 : BitVec 32 := v149
  let v151 : Index := Scalar.indexCast v150
  let c0_89 : Index := 0#32
  ![0, v151.toNat, 0]
def k0_off4 (i : grid0.Coords) (k0_t2 : Fin (k0_t2_loop i).trips) (c0_i32_93 : BitVec 32) : Fin 3 → Nat :=
  let c0_94 : Index := 0#32
  let c2_i32_92 : BitVec 32 := 2#32
  let arg1 : BitVec 32 := BitVec.ofNat 32 (i 1).val
  let v157 : BitVec 32 := Scalar.muli c2_i32_92 arg1
  let v158 : BitVec 32 := Scalar.addi v157 c0_i32_93
  let v159 : Index := Scalar.indexCast v158
  let c0_i32_15 : BitVec 32 := 0#32
  let arg2 : BitVec 32 := BitVec.ofNat 32 (i 2).val
  let v25 : BitVec 32 := Scalar.subi arg2 c0_i32_15
  let c1_i32 : BitVec 32 := 1#32
  let v27 : BitVec 32 := Scalar.divsi v25 c1_i32
  let v28 : BitVec 32 := Scalar.muli v27 c1_i32
  let v29 : BitVec 32 := Scalar.addi c0_i32_15 v28
  let c1_i32_17 : BitVec 32 := 1#32
  let arg11 : BitVec 32 := Scf.iv v29 c1_i32_17 k0_t2
  let c512_i32_87 : BitVec 32 := 512#32
  let v149 : BitVec 32 := Scalar.muli arg11 c512_i32_87
  let v150 : BitVec 32 := v149
  let v160 : Index := Scalar.indexCast v150
  ![0, v159.toNat, v160.toNat]
def k0_mult3 (i : grid0.Coords) : BitVec 32 :=
  let arg2 : BitVec 32 := BitVec.ofNat 32 (i 2).val
  let c512_i32 : BitVec 32 := 512#32
  let v30 : BitVec 32 := Scalar.muli arg2 c512_i32
  v30
def k0_off5 (i : grid0.Coords) : Fin 3 → Nat :=
  let c0_18 : Index := 0#32
  let arg2 : BitVec 32 := BitVec.ofNat 32 (i 2).val
  let c512_i32 : BitVec 32 := 512#32
  let v30 : BitVec 32 := Scalar.muli arg2 c512_i32
  let v31 : BitVec 32 := v30
  let v32 : Index := Scalar.indexCast v31
  let c0_19 : Index := 0#32
  ![0, v32.toNat, 0]
def k0_off6 (i : grid0.Coords) (c0_i32_22 : BitVec 32) : Fin 3 → Nat :=
  let c0_23 : Index := 0#32
  let c2_i32 : BitVec 32 := 2#32
  let arg1 : BitVec 32 := BitVec.ofNat 32 (i 1).val
  let v38 : BitVec 32 := Scalar.muli c2_i32 arg1
  let v39 : BitVec 32 := Scalar.addi v38 c0_i32_22
  let v40 : Index := Scalar.indexCast v39
  let arg2 : BitVec 32 := BitVec.ofNat 32 (i 2).val
  let c512_i32 : BitVec 32 := 512#32
  let v30 : BitVec 32 := Scalar.muli arg2 c512_i32
  let v31 : BitVec 32 := v30
  let v41 : Index := Scalar.indexCast v31
  ![0, v40.toNat, v41.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelBIdeal.lean ====
variable {F : FTy → Type} [FloatOps F] [Named F]
def κ : String → Option EReal := fun
  | "mask" => some ⊥
  | _ => none
-- ==== ReferenceBIdeal.lean ====
abbrev S4x8192x1536 : Shape := ⟨3, ![4, 8192, 1536]⟩
abbrev S4x8x8192 : Shape := ⟨3, ![4, 8, 8192]⟩
abbrev S4x8192x256 : Shape := ⟨3, ![4, 8192, 256]⟩
abbrev S4x8192x4x64 : Shape := ⟨4, ![4, 8192, 4, 64]⟩
abbrev S4x4x8192 : Shape := ⟨3, ![4, 4, 8192]⟩
abbrev S4x4x8192x8192 : Shape := ⟨4, ![4, 4, 8192, 8192]⟩
abbrev S4x4x8192x1 : Shape := ⟨4, ![4, 4, 8192, 1]⟩
abbrev S4x4x1x8192 : Shape := ⟨4, ![4, 4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x4x64x8192 : Shape := ⟨4, ![4, 4, 64, 8192]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1536, .bf16⟩
  | .hbm, ⟨1, _⟩ => ⟨S4x8x8192, .f32⟩
  | .hbm, ⟨2, _⟩ => ⟨S4x8192x256, .bf16⟩
  | .hbm, ⟨3, _⟩ => ⟨S4x8192x256, .f32⟩
  | .hbm, ⟨4, _⟩ => ⟨S4x8192x4x64, .f32⟩
  | .hbm, ⟨5, _⟩ => ⟨S4x8192x256, .bf16⟩
  | .hbm, ⟨6, _⟩ => ⟨S4x8192x256, .f32⟩
  | .hbm, ⟨7, _⟩ => ⟨S4x8192x4x64, .f32⟩
  | .hbm, ⟨8, _⟩ => ⟨S4x8192x256, .bf16⟩
  | .hbm, ⟨9, _⟩ => ⟨S4x8192x256, .f32⟩
  | .hbm, ⟨10, _⟩ => ⟨S4x8192x4x64, .f32⟩
  | .hbm, ⟨11, _⟩ => ⟨S4x4x8192, .f32⟩
  | .hbm, ⟨12, _⟩ => ⟨S4x4x8192x8192, .f32⟩
  | .hbm, ⟨13, _⟩ => ⟨S4x4x8192x1, .f32⟩
  | .hbm, ⟨14, _⟩ => ⟨S4x4x8192x8192, .f32⟩
  | .hbm, ⟨15, _⟩ => ⟨S4x4x8192x8192, .f32⟩
  | .hbm, ⟨16, _⟩ => ⟨S4x4x1x8192, .f32⟩
  | .hbm, ⟨17, _⟩ => ⟨S4x4x8192x8192, .f32⟩
  | .hbm, ⟨18, _⟩ => ⟨S4x4x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S4x4x8192x8192, .i1⟩
  | .hbm, ⟨28, _⟩ => ⟨S4x4x8192x8192, .f32⟩
  | .hbm, ⟨29, _⟩ => ⟨S4x4x8192x8192, .f32⟩
  | .hbm, ⟨30, _⟩ => ⟨S_, .f32⟩
  | .hbm, ⟨31, _⟩ => ⟨S4x4x8192, .f32⟩
  | .hbm, ⟨32, _⟩ => ⟨S_, .f32⟩
  | .hbm, ⟨33, _⟩ => ⟨S4x4x8192, .f32⟩
  | .hbm, ⟨34, _⟩ => ⟨S4x4x8192, .f32⟩
  | .hbm, ⟨35, _⟩ => ⟨S4x4x8192x1, .f32⟩
  | .hbm, ⟨36, _⟩ => ⟨S4x4x8192x8192, .f32⟩
  | .hbm, ⟨37, _⟩ => ⟨S4x4x8192x8192, .f32⟩
  | .hbm, ⟨38, _⟩ => ⟨S4x4x8192x8192, .f32⟩
  | .hbm, ⟨39, _⟩ => ⟨S_, .f32⟩
  | .hbm, ⟨40, _⟩ => ⟨S4x4x8192, .f32⟩
  | .hbm, ⟨41, _⟩ => ⟨S4x4x8192x1, .f32⟩
  | .hbm, ⟨42, _⟩ => ⟨S4x4x8192x8192, .f32⟩
  | .hbm, ⟨43, _⟩ => ⟨S4x4x8192x8192, .f32⟩
  | .hbm, ⟨44, _⟩ => ⟨S4x4x64x8192, .f32⟩
  | .hbm, ⟨45, _⟩ => ⟨S4x8192x4x64, .f32⟩
  | .hbm, ⟨46, _⟩ => ⟨S4x8192x256, .f32⟩
  | .hbm, ⟨47, _⟩ => ⟨S4x8192x256, .bf16⟩
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Proof.ProjSpec.lean ====
/- The in-projection as plain sums: the normalized, modulated hidden vector, its products with the columns of the
   weights, and the order in which the columns are arranged. -/
module

public import proofs.«01_k».proof.Proof.Gen.KernelPIdeal
public import Idealize.ShloMosaic.Lib.Pointwise
public import Idealize.ShloMosaic.Lib.IdealHost

@[expose] public section

set_option maxRecDepth 16384

noncomputable section

namespace Cert.Proj

open Cert.KernelPIdeal Cert.KernelPIdeal.Gen Idealize.ShloMosaic Idealize.ShloMosaic.TcCoe Idealize.SL.Sem

/-- The scale that the query columns carry: the f32 constant 0.125. -/
abbrev qscale : EReal := Ideal.ofBits .f32 0x3E000000#32

/-- Entry `(k, n)` of the input weights, the column given as a number. -/
def wAt (w : FVec Ideal S1024x3596 .f32) (k : Fin 1024) (n : ℕ) : EReal :=
  if h : n < 3596 then w (ix2 k ⟨n, h⟩) else 0

/-- A column in range, given as a number. -/
theorem wAt_eq (w : FVec Ideal S1024x3596 .f32) (k : Fin 1024) (n : ℕ) (h : n < 3596) : w (ix2 k ⟨n, h⟩) = wAt w k n := by
  unfold wAt; rw [dif_pos h]

/-- Column `j` of the arranged weight matrix, at input channel `k`. -/
def wcol (w : FVec Ideal S1024x3596 .f32) (k : Fin 1024) (j : ℕ) : EReal :=
  if j < 256 then wAt w k j * qscale
  else if j < 768 then wAt w k j
  else if j < 1024 then wAt w k j * qscale
  else if j < 1536 then wAt w k j
  else if j < 3072 then wAt w k (j + 4)
  else if j < 3584 then wAt w k (j + 12)
  else if j < 3588 then wAt w k (j - 2048)
  else if j < 3596 then wAt w k (j - 512)
  else 0

/-- The normalized, modulated hidden vector of token `s` of batch `b`, channel `k`. -/
def hid (x : FVec Ideal S4x8192x1024 .f32) (md : FVec Ideal S4x6x1024 .f32) (g : FVec Ideal S1024 .f32)
    (b : Fin 4) (s : Fin 8192) (k : Fin 1024) : EReal :=
  x (ix3 b s k) * Ideal.rsqrt (Ideal.div (∑ l : Fin 1024, x (ix3 b s l) * x (ix3 b s l)) (Ideal.ofBits .f32 0x44800000#32)
      + Ideal.ofBits .f32 0x358637BD#32) * g (ix1 k) * (1 + md (ix3 b 1 k)) + md (ix3 b 0 k)

/-- A sum of extended reals, scaled by a nonnegative real, is the sum of the scaled terms. -/
theorem sum_scale {n : ℕ} (f : Fin n → EReal) (c : EReal) (h0 : 0 ≤ c) (ht : c ≠ ⊤) : ∑ k, f k * c = (∑ k, f k) * c := by
  classical
  induction (Finset.univ : Finset (Fin n)) using Finset.induction_on with
  | empty => simp
  | insert a s ha ih => rw [Finset.sum_insert ha, Finset.sum_insert ha, ih, EReal.right_distrib_of_nonneg_of_ne_top h0 ht]

/-- The query scale is one eighth. -/
theorem qscale_eq : qscale = ((1/8 : ℝ) : EReal) := by
  show Ideal.ofBits .f32 0x3E000000#32 = _
  simp [Ideal.ofBits, Ideal.ieee, -EReal.coe_mul]; norm_num

/-- The product of the hidden vector with column `n` of the input weights. -/
def proj (x : FVec Ideal S4x8192x1024 .f32) (md : FVec Ideal S4x6x1024 .f32) (g : FVec Ideal S1024 .f32) (w : FVec Ideal S1024x3596 .f32)
    (b : Fin 4) (s : Fin 8192) (n : ℕ) : EReal := ∑ k : Fin 1024, hid x md g b s k * wAt w k n

/-- The product of the hidden vector with column `j` of the arranged weights. -/
def col (x : FVec Ideal S4x8192x1024 .f32) (md : FVec Ideal S4x6x1024 .f32) (g : FVec Ideal S1024 .f32) (w : FVec Ideal S1024x3596 .f32)
    (b : Fin 4) (s : Fin 8192) (j : ℕ) : EReal := ∑ k : Fin 1024, hid x md g b s k * wcol w k j

/-- A column of the arranged weights gives a projection, a scaled projection or zero. -/
theorem col_eq (x : FVec Ideal S4x8192x1024 .f32) (md : FVec Ideal S4x6x1024 .f32) (g : FVec Ideal S1024 .f32) (w : FVec Ideal S1024x3596 .f32)
    (b : Fin 4) (s : Fin 8192) (j : ℕ) : col x md g w b s j =
      if j < 256 then proj x md g w b s j * qscale
      else if j < 768 then proj x md g w b s j
      else if j < 1024 then proj x md g w b s j * qscale
      else if j < 1536 then proj x md g w b s j
      else if j < 3072 then proj x md g w b s (j + 4)
      else if j < 3584 then proj x md g w b s (j + 12)
      else if j < 3588 then proj x md g w b s (j - 2048)
      else if j < 3596 then proj x md g w b s (j - 512)
      else 0 := by
  have hq : ∀ n, (∑ k : Fin 1024, hid x md g b s k * (wAt w k n * qscale)) = proj x md g w b s n * qscale := fun n => by
    rw [proj, ← sum_scale _ _ (by rw [qscale_eq]; exact EReal.coe_nonneg.mpr (by norm_num)) (by rw [qscale_eq]; exact EReal.coe_ne_top _)]
    exact Finset.sum_congr rfl fun k _ => (mul_assoc _ _ _).symm
  unfold col wcol
  repeat' split
  all_goals first
    | rfl
    | exact hq _
    | simp

end Cert.Proj
-- ==== Proof.ProjWeights.lean ====
/- What the weight operand of the in-projection call holds. -/
module

public import proofs.«01_k».proof.Proof.ProjSpec
public import proofs.«01_k».proof.Proof.Gen.KernelPIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Proj

open Cert.KernelPIdeal Cert.KernelPIdeal.Gen Idealize.ShloMosaic Idealize.ShloMosaic.TcCoe Idealize.SL.Sem

variable (m : (ℓ : Loc nD τ sig) → Buf (Elt Ideal) ℓ)

/-- The arranged weight matrix. -/
def warr (w : FVec Ideal S1024x3596 .f32) : FVec Ideal S1024x3712 .bf16 :=
  truncf .bf16 (concatenate S1024x3712 1 [⟨S1024x1536, concatenate S1024x1536 1 [
      ⟨S1024x256, mulf (extractStridedSlice S1024x256 ![0, 0] w slices_S1024x3596_S1024x256_0_0) (broadcastInDim S1024x256 ![] bcast_S_S1024x256 (constant S_ .f32 0x3E000000#32))⟩,
      ⟨S1024x512, extractStridedSlice S1024x512 ![0, 256] w slices_S1024x3596_S1024x512_0_256⟩,
      ⟨S1024x256, mulf (extractStridedSlice S1024x256 ![0, 768] w slices_S1024x3596_S1024x256_0_768) (broadcastInDim S1024x256 ![] bcast_S_S1024x256 (constant S_ .f32 0x3E000000#32))⟩,
      ⟨S1024x512, extractStridedSlice S1024x512 ![0, 1024] w slices_S1024x3596_S1024x512_0_1024⟩] concatenates_S1024x256_S1024x512_S1024x256_S1024x512_S1024x1536_d1⟩,
    ⟨S1024x1536, extractStridedSlice S1024x1536 ![0, 1540] w slices_S1024x3596_S1024x1536_0_1540⟩,
    ⟨S1024x512, extractStridedSlice S1024x512 ![0, 3084] w slices_S1024x3596_S1024x512_0_3084⟩,
    ⟨S1024x128, concatenate S1024x128 1 [
      ⟨S1024x4, extractStridedSlice S1024x4 ![0, 1536] w slices_S1024x3596_S1024x4_0_1536⟩,
      ⟨S1024x4, extractStridedSlice S1024x4 ![0, 3076] w slices_S1024x3596_S1024x4_0_3076⟩,
      ⟨S1024x4, extractStridedSlice S1024x4 ![0, 3080] w slices_S1024x3596_S1024x4_0_3080⟩,
      ⟨S1024x116, broadcastInDim S1024x116 ![] bcast_S_S1024x116 (constant S_ .f32 0x00000000#32)⟩] concatenates_S1024x4_S1024x4_S1024x4_S1024x116_S1024x128_d1⟩]
    concatenates_S1024x1536_S1024x1536_S1024x512_S1024x128_S1024x3712_d1) bitsLt_bf16_f32

/-- The call's weight operand is the arranged matrix. -/
theorem V_weights (c : Dev nD) : V m c main_v18 = warr (m ((c : Thread nD τ).loc main_arg3)) := by
  unfold_abbrev_sides
  after_results
  rfl

set_option maxHeartbeats 1600000 in
/-- Entry by entry, the arranged matrix holds the columns in their order, the query columns scaled. -/
theorem warr_at (w : FVec Ideal S1024x3596 .f32) (k : Fin 1024) (j : Fin 3712) : warr w (ix2 k j) = wcol w k j.val := by
  pointwise [warr]
  simp only [wAt_eq]
  unfold wcol
  repeat' first | (exfalso; omega) | split
  all_goals first
    | rfl
    | exact congrArg (wAt w k) (by omega)
    | exact congrArg (wAt w k · * qscale) (by omega)

/-- Where the blocks of every window sit. -/
theorem idx : ∀ t : Fin cfg0.N, win0_0.index t = ![t.val / 16, t.val % 16, 0] ∧ win0_1.index t = ![t.val / 16, 0, 0]
    ∧ win0_2.index t = ![0, 0] ∧ win0_3.index t = ![0, 0] ∧ win0_4.index t = ![t.val / 16, t.val % 16, 0]
    ∧ win0_5.index t = ![t.val / 16, t.val % 16, 0] ∧ win0_6.index t = ![t.val / 16, t.val % 16, 0] ∧ win0_7.index t = ![t.val / 16, t.val % 16, 0]:=
  (by decide +kernel : ∀ t : Fin grid0.N, _)

/-- The block of weights is the whole arranged matrix. -/
theorem wblk (c : Dev nD) (t : Fin cfg0.N) (k : Fin 1024) (j : Fin 3712) :
    iblk m c 3 t (ix2 k j) = (wcol (m ((c : Thread nD τ).loc main_arg3)) k j.val : EReal) := by
  rw [← warr_at, ← V_weights]
  blk_ext [iblk, idx t]

end Cert.Proj
-- ==== Proof.ProjBlock.lean ====
/- What one block of the in-projection writes. -/
module

public import proofs.«01_k».proof.Proof.ProjWeights

@[expose] public section

set_option maxRecDepth 16384

noncomputable section

namespace Cert.Proj

open Cert.KernelPIdeal Cert.KernelPIdeal.Gen Idealize.ShloMosaic Idealize.ShloMosaic.TcCoe Idealize.SL.Sem

variable (m : (ℓ : Loc nD τ sig) → Buf (Elt Ideal) ℓ)

/-- Row `r` of a block's normalized and modulated input is token `s`'s hidden vector. -/
theorem hidden (c : Dev nD) (t : Fin cfg0.N) (r : Fin 512) (k : Fin 1024) (b : Fin 4) (s : Fin 8192)
    (hb : b.val = t.val / 16) (hs : s.val = t.val % 16 * 512 + r.val) :
    k0_pay11 (iblk m c 0 t) (iblk m c 1 t) (iblk m c 2 t) (iblk m c 3 t) (ix2 r k)
      = hid (m ((c : Thread nD τ).loc main_arg0)) (m ((c : Thread nD τ).loc main_arg1)) (m ((c : Thread nD τ).loc main_arg2)) b s k := by
  pointwise [k0_pay11, k0_pay4, hid]
  blk_point [iblk, V, idx t]

section stores
variable (c : Dev nD) (t : Fin cfg0.N) (r : Fin 512) (b : Fin 4) (s : Fin 8192)
    (hb : b.val = t.val / 16) (hs : s.val = t.val % 16 * 512 + r.val)
include hb hs

/-- The first array's block: columns 0 to 1535 of the arranged projection; -/
theorem out4 (j : Fin 1536) :
    out0_4 (iblk m c 0 t) (iblk m c 1 t) (iblk m c 2 t) (iblk m c 3 t) (ix3 0 r j)
      = col (m ((c : Thread nD τ).loc main_arg0)) (m ((c : Thread nD τ).loc main_arg1)) (m ((c : Thread nD τ).loc main_arg2)) (m ((c : Thread nD τ).loc main_arg3)) b s j := by
  have hH : ∀ k : Fin 1024, k0_pay11 (iblk m c 0 t) (iblk m c 1 t) (iblk m c 2 t) (iblk m c 3 t) (ix2 r k) = _ :=
    fun k => hidden m c t r k b s hb hs
  have hH' := hH
  unfold k0_pay11 at hH'
  have hW := wblk m c t
  unfold out0_4
  canon_tiles x h
  all_goals
    idx_vars x
    obtain rfl : r = x1 := Fin.ext h1
    pointwise [k0_pay7, k0_pay6, k0_pay5, hH, hH', hW]
    rw [show j.val = _ from h2]
    rfl

/-- the second's: columns 1536 to 3071; -/
theorem out5 (j : Fin 1536) :
    out0_5 (iblk m c 0 t) (iblk m c 1 t) (iblk m c 2 t) (iblk m c 3 t) (ix3 0 r j)
      = col (m ((c : Thread nD τ).loc main_arg0)) (m ((c : Thread nD τ).loc main_arg1)) (m ((c : Thread nD τ).loc main_arg2)) (m ((c : Thread nD τ).loc main_arg3)) b s (1536 + j) := by
  have hH : ∀ k : Fin 1024, k0_pay11 (iblk m c 0 t) (iblk m c 1 t) (iblk m c 2 t) (iblk m c 3 t) (ix2 r k) = _ :=
    fun k => hidden m c t r k b s hb hs
  have hW := wblk m c t
  unfold out0_5
  canon_tiles x h
  all_goals
    idx_vars x
    obtain rfl : r = x1 := Fin.ext h1
    pointwise [k0_pay1, k0_pay10, k0_pay9, k0_pay8, hH, hW]
    have h2 : j.val = _ := h2
    exact Finset.sum_congr rfl fun k _ => congrArg (fun n => _ * wcol _ k n) (by omega)

/-- the third's: columns 3072 to 3583; -/
theorem out6 (j : Fin 512) :
    out0_6 (iblk m c 0 t) (iblk m c 1 t) (iblk m c 2 t) (iblk m c 3 t) (ix3 0 r j)
      = col (m ((c : Thread nD τ).loc main_arg0)) (m ((c : Thread nD τ).loc main_arg1)) (m ((c : Thread nD τ).loc main_arg2)) (m ((c : Thread nD τ).loc main_arg3)) b s (3072 + j) := by
  have hH : ∀ k : Fin 1024, k0_pay11 (iblk m c 0 t) (iblk m c 1 t) (iblk m c 2 t) (iblk m c 3 t) (ix2 r k) = _ :=
    fun k => hidden m c t r k b s hb hs
  have hW := wblk m c t
  unfold out0_6
  canon_tiles x h
  all_goals
    idx_vars x
    obtain rfl : r = x1 := Fin.ext h1
    pointwise [k0_pay2, hH, hW]
    rw [show j.val = _ from h2]
    rfl

/-- the fourth's: columns 3584 to 3711. -/
theorem out7 (j : Fin 128) :
    out0_7 (iblk m c 0 t) (iblk m c 1 t) (iblk m c 2 t) (iblk m c 3 t) (ix3 0 r j)
      = col (m ((c : Thread nD τ).loc main_arg0)) (m ((c : Thread nD τ).loc main_arg1)) (m ((c : Thread nD τ).loc main_arg2)) (m ((c : Thread nD τ).loc main_arg3)) b s (3584 + j) := by
  have hH : ∀ k : Fin 1024, k0_pay11 (iblk m c 0 t) (iblk m c 1 t) (iblk m c 2 t) (iblk m c 3 t) (ix2 r k) = _ :=
    fun k => hidden m c t r k b s hb hs
  have hW := wblk m c t
  unfold out0_7
  canon_tiles x h
  all_goals
    idx_vars x
    obtain rfl : r = x1 := Fin.ext h1
    pointwise [k0_pay3, hH, hW]
    rw [show j.val = _ from h2]
    rfl

end stores

end Cert.Proj
-- ==== Proof.ProjRef.lean ====
/- What the reference in-projection computes. -/
module

public import proofs.«01_k».proof.Proof.ProjSpec
public import proofs.«01_k».proof.Proof.Gen.ReferencePIdeal.Read

@[expose] public section

set_option maxRecDepth 16384

noncomputable section

namespace Cert.Proj

open Cert.KernelPIdeal Cert.KernelPIdeal.Gen Idealize.ShloMosaic Idealize.ShloMosaic.TcCoe Idealize.SL.Sem

open Cert.ReferencePIdeal.Read in
/-- The reference's normalized and modulated hidden vector. -/
theorem hid_ref (x : FVec Ideal S4x8192x1024 .f32) (md : FVec Ideal S4x6x1024 .f32) (g : FVec Ideal S1024 .f32)
    (b : Fin 4) (s : Fin 8192) (k : Fin 1024) : val_main_v20 (F := Ideal) x md g (ix3 b s k) = hid x md g b s k := by
  pointwise [hid, val_main_v20, val_main_v19, val_main_v18, val_main_v17, val_main_v16, val_main_v15, val_main_cst_2, val_main_v14, val_main_v13, val_main_v12, val_main_v11,
    val_main_v10, val_main_v9, val_main_v8, val_main_v7, val_main_cst_1, val_main_v6, val_main_v5, val_main_cst_0, val_main_v4, val_main_v3, val_main_cst, val_main_v2, val_main_v1, val_main_v0]

section reference
open Cert.ReferencePIdeal.Read
variable (x : FVec Ideal S4x8192x1024 .f32) (md : FVec Ideal S4x6x1024 .f32) (g : FVec Ideal S1024 .f32) (w : FVec Ideal S1024x3596 .f32)
    (b : Fin 4) (s : Fin 8192)

/-- The reference's projection, column `n`. -/
theorem ref_proj (n : ℕ) (h : n < 3596) : val_main_v21 (F := Ideal) x md g w (ix3 b s ⟨n, h⟩) = proj x md g w b s n := by
  pointwise [val_main_v21, hid_ref]
  simp only [wAt_eq]
  rfl

set_option maxHeartbeats 1600000 in
/-- The reference's first result, by arranged columns; -/
theorem ref4 (j : Fin 1536) : val_main_v42 (F := Ideal) x md g w (ix3 b s j) = col x md g w b s j := by
  pointwise [val_main_v42, val_main_v39, val_main_v34, val_main_v33, val_main_v38, val_main_v37, val_main_cst_4, val_main_v36, val_main_v35, val_main_cst_3,
    val_main_v29, val_main_v30, val_main_v31, val_main_v32, val_main_v22, val_main_v23]
  simp only [ref_proj]
  rw [col_eq]
  repeat' first | (exfalso; omega) | split
  all_goals first
    | rfl
    | exact congrArg (proj x md g w b s) (by omega)
    | exact congrArg (proj x md g w b s · * qscale) (by omega)

/-- its second; -/
theorem ref5 (j : Fin 1536) : val_main_v25 (F := Ideal) x md g w (ix3 b s j) = col x md g w b s (1536 + j) := by
  pointwise [val_main_v25]
  simp only [ref_proj]
  rw [col_eq]
  repeat' first | (exfalso; omega) | split
  exact congrArg (proj x md g w b s) (by omega)

/-- its third; -/
theorem ref6 (j : Fin 512) : val_main_v28 (F := Ideal) x md g w (ix3 b s j) = col x md g w b s (3072 + j) := by
  pointwise [val_main_v28]
  simp only [ref_proj]
  rw [col_eq]
  repeat' first | (exfalso; omega) | split
  exact congrArg (proj x md g w b s) (by omega)

set_option maxHeartbeats 1600000 in
/-- its fourth. -/
theorem ref7 (j : Fin 128) : val_main_v41 (F := Ideal) x md g w (ix3 b s j) = col x md g w b s (3584 + j) := by
  pointwise [val_main_v41, val_main_v40, val_main_cst_5, val_main_v24, val_main_v26, val_main_v27]
  simp only [ref_proj]
  rw [col_eq]
  repeat' first | (exfalso; omega) | split
  all_goals first
    | rfl
    | exact congrArg (proj x md g w b s) (by omega)

end reference

end Cert.Proj
-- ==== Proof.ProjValue.lean ====
/- The four arrays that the in-projection call leaves are the reference's. -/
module

public import proofs.«01_k».proof.Proof.ProjBlock
public import proofs.«01_k».proof.Proof.ProjRef

@[expose] public section

set_option maxRecDepth 16384

noncomputable section

namespace Cert.Proj

open Cert.KernelPIdeal Cert.KernelPIdeal.Gen Idealize.ShloMosaic Idealize.ShloMosaic.TcCoe Idealize.SL.Sem

open Idealize.ShloMosaic.Pipeline (Dat)

variable (m : (ℓ : Loc nD τ sig) → Buf (Elt Ideal) ℓ)

/-- Block index `y` of point `t` sits in batch `t / 16`, at token `512 (t mod 16) + y 1`. -/
theorem place4 (t : Fin cfg0.N) (y : S1x512x1536.Idx) : ∃ (b : Fin 4) (s : Fin 8192), b.val = t.val / 16 ∧ s.val = t.val % 16 * 512 + (y 1).val
    ∧ ((cfg0.win 4).blk t).view.emb y = ix3 b s (y 2) := by
  have ht : t.val < 64 := t.isLt
  have hy : (y 1).val < 512 := (y 1).isLt
  refine ⟨⟨t.val / 16, by omega⟩, ⟨t.val % 16 * 512 + (y 1).val, by omega⟩, rfl, rfl, ?_⟩
  blk_ext [idx t]

/-- The first array the call leaves is the reference's; -/
theorem final4 (c : Dev nD) : (dats m 0 c).arrAt 4 (cfgs 0).N
    = Cert.ReferencePIdeal.Read.val_main_v42 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨b, s, hb, hs, he⟩ := place4 t y
  rw [he]
  idx_vars y
  obtain rfl := Fin.fin_one_eq_zero y0
  exact (out4 m c t y1 b s hb hs y2).trans (ref4 _ _ _ _ b s y2).symm

/-- Block index `y` of point `t` sits in batch `t / 16`, at token `512 (t mod 16) + y 1`. -/
theorem place5 (t : Fin cfg0.N) (y : S1x512x1536.Idx) : ∃ (b : Fin 4) (s : Fin 8192), b.val = t.val / 16 ∧ s.val = t.val % 16 * 512 + (y 1).val
    ∧ ((cfg0.win 5).blk t).view.emb y = ix3 b s (y 2) := by
  have ht : t.val < 64 := t.isLt
  have hy : (y 1).val < 512 := (y 1).isLt
  refine ⟨⟨t.val / 16, by omega⟩, ⟨t.val % 16 * 512 + (y 1).val, by omega⟩, rfl, rfl, ?_⟩
  blk_ext [idx t]

/-- so is the second, -/
theorem final5 (c : Dev nD) : (dats m 0 c).arrAt 5 (cfgs 0).N
    = Cert.ReferencePIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨b, s, hb, hs, he⟩ := place5 t y
  rw [he]
  idx_vars y
  obtain rfl := Fin.fin_one_eq_zero y0
  exact (out5 m c t y1 b s hb hs y2).trans (ref5 _ _ _ _ b s y2).symm

/-- Block index `y` of point `t` sits in batch `t / 16`, at token `512 (t mod 16) + y 1`. -/
theorem place6 (t : Fin cfg0.N) (y : S1x512x512.Idx) : ∃ (b : Fin 4) (s : Fin 8192), b.val = t.val / 16 ∧ s.val = t.val % 16 * 512 + (y 1).val
    ∧ ((cfg0.win 6).blk t).view.emb y = ix3 b s (y 2) := by
  have ht : t.val < 64 := t.isLt
  have hy : (y 1).val < 512 := (y 1).isLt
  refine ⟨⟨t.val / 16, by omega⟩, ⟨t.val % 16 * 512 + (y 1).val, by omega⟩, rfl, rfl, ?_⟩
  blk_ext [idx t]

/-- the third -/
theorem final6 (c : Dev nD) : (dats m 0 c).arrAt 6 (cfgs 0).N
    = Cert.ReferencePIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  obtain ⟨b, s, hb, hs, he⟩ := place6 t y
  rw [he]
  idx_vars y
  obtain rfl := Fin.fin_one_eq_zero y0
  exact (out6 m c t y1 b s hb hs y2).trans (ref6 _ _ _ _ b s y2).symm

/-- Block index `y` of point `t` sits in batch `t / 16`, at token `512 (t mod 16) + y 1`. -/
theorem place7 (t : Fin cfg0.N) (y : S1x512x128.Idx) : ∃ (b : Fin 4) (s : Fin 8192), b.val = t.val / 16 ∧ s.val = t.val % 16 * 512 + (y 1).val
    ∧ ((cfg0.win 7).blk t).view.emb y = ix3 b s (y 2) := by
  have ht : t.val < 64 := t.isLt
  have hy : (y 1).val < 512 := (y 1).isLt
  refine ⟨⟨t.val / 16, by omega⟩, ⟨t.val % 16 * 512 + (y 1).val, by omega⟩, rfl, rfl, ?_⟩
  blk_ext [idx t]

/-- and the fourth. -/
theorem final7 (c : Dev nD) : (dats m 0 c).arrAt 7 (cfgs 0).N
    = Cert.ReferencePIdeal.Read.val_main_v41 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain ⟨b, s, hb, hs, he⟩ := place7 t y
  rw [he]
  idx_vars y
  obtain rfl := Fin.fin_one_eq_zero y0
  exact (out7 m c t y1 b s hb hs y2).trans (ref7 _ _ _ _ b s y2).symm

end Cert.Proj
-- ==== Proof.ProjClaim.lean ====
/- The in-projection call and its reference end with the same four arrays. -/
module

public import proofs.«01_k».proof.Defs
public import proofs.«01_k».proof.Proof.ProjValue
public import proofs.«01_k».proof.Proof.Gen.ReferencePIdeal.Run

@[expose] public section

set_option maxRecDepth 16384

noncomputable section

namespace Cert.Proj

open Idealize.ShloMosaic Idealize.SL.Sem

/-- The reference's run ends with its four arguments unchanged and all counters at zero: it has no counter. -/
theorem reference_frame : Cert.quiescent_ReferencePIdeal := fun m g _ =>
  (θ_run _ _ _).mono (fun r h => ⟨fun c => (h c).2.2.2.2, sem_eq_zero_of_no_sems (by decide) r.2⟩)
    (Cert.ReferencePIdeal.Value.run m g)

/-- **The in-projection call ends with its reference's arrays**: the scaled queries, keys and values of mixer B
    (result 0), the three parts of the projection that leave as they are (results 1 to 3), at every launch. -/
theorem algebraic : Cert.algebraic_KernelPIdeal_ReferencePIdeal := by
  pair_intro
  · run_from Cert.KernelPIdeal.Gen.run_main m g
  · run_from Cert.ReferencePIdeal.Value.run m' g'
    · obtain ⟨h0, h1, h2, h3⟩ := hagree c
      rw [final4 m c, ← h0, ← h1, ← h2, ← h3]
      exact Cert.ReferencePIdeal.Read.val_main_v42_eq m' c
    · exact (final5 m c).symm
    · exact (final6 m c).symm
    · obtain ⟨h0, h1, h2, h3⟩ := hagree c
      rw [final7 m c, ← h0, ← h1, ← h2, ← h3]
      exact Cert.ReferencePIdeal.Read.val_main_v41_eq m' c

end Cert.Proj
-- ==== Proof.FfnSpec.lean ====
/- The output projection and the feed-forward network, token by token, as plain sums: the mixers' residual,
   the normalised and modulated hidden vector, the gated three-tap convolution, the residual and the last norm. -/
module

public import proofs.«01_k».proof.Proof.Gen.KernelFIdeal
public import Idealize.ShloMosaic.Lib.Pointwise
public import Idealize.ShloMosaic.Lib.IdealHost

@[expose] public section

set_option maxRecDepth 16384

noncomputable section

namespace Cert.Ffn

open Cert.KernelFIdeal Cert.KernelFIdeal.Gen Idealize.ShloMosaic Idealize.ShloMosaic.TcCoe

/-- The eleven arrays the call is given: the hidden state, the three mixers' outputs, the modulation rows, the output
    projection, the norm's gain, the up-projection, the convolution's taps, the down-projection, the last norm's gain. -/
structure Args where
  x : FVec Ideal S4x8192x1024 .f32
  oa : FVec Ideal S4x8192x256 .bf16
  ob : FVec Ideal S4x8192x256 .bf16
  oc : FVec Ideal S4x8192x512 .bf16
  md : FVec Ideal S4x6x1024 .f32
  wo : FVec Ideal S1024x1024 .f32
  g : FVec Ideal S1024 .f32
  wu : FVec Ideal S1024x5632 .f32
  cw : FVec Ideal S3x5632 .f32
  wd : FVec Ideal S2816x1024 .f32
  fg : FVec Ideal S1024 .f32

variable (A : Args) (b : Fin 4)

/-- Entry `k` of the three mixers' outputs laid side by side. -/
def cat (s : Fin 8192) (k : Fin 1024) : EReal :=
  if h : k.val < 256 then A.oa (ix3 b s ⟨k.val, h⟩)
  else if h : k.val - 256 < 256 then A.ob (ix3 b s ⟨k.val - 256, h⟩)
  else A.oc (ix3 b s ⟨k.val - 512, by omega⟩)

/-- The hidden state after the mixers' gated residual. -/
def x1 (s : Fin 8192) (j : Fin 1024) : EReal :=
  A.x (ix3 b s j) + A.md (ix3 b 2 j) * ∑ k : Fin 1024, cat A b s k * A.wo (ix2 k j)

/-- The reciprocal root of the mean square of a vector of 1024 entries. -/
def rms (v : Fin 1024 → EReal) : EReal :=
  Ideal.rsqrt (Ideal.div (∑ l : Fin 1024, v l * v l) (Ideal.ofBits .f32 0x44800000#32) + Ideal.ofBits .f32 0x358637BD#32)

/-- The normalised and modulated hidden vector. -/
def hid (s : Fin 8192) (k : Fin 1024) : EReal :=
  x1 A b s k * rms (x1 A b s) * A.g (ix1 k) * (1 + A.md (ix3 b 4 k)) + A.md (ix3 b 3 k)

/-- Its product with column `n` of the up-projection. -/
def up (s : Fin 8192) (n : Fin 5632) : EReal := ∑ k : Fin 1024, hid A b s k * A.wu (ix2 k n)

/-- The same with two zero rows before the first token: row `i` is token `i - 2`. -/
def upPad (i : ℕ) (n : Fin 5632) : EReal := if h : 2 ≤ i ∧ i - 2 < 8192 then up A b ⟨i - 2, h.2⟩ n else 0

/-- The causal three-tap convolution along the tokens. -/
def cv (s : Fin 8192) (n : Fin 5632) : EReal :=
  upPad A b s.val n * A.cw (ix2 0 n) + upPad A b (1 + s.val) n * A.cw (ix2 1 n) + upPad A b (2 + s.val) n * A.cw (ix2 2 n)

/-- The gated activation: the first half of the columns, through `a / (1 + exp (-a))`, times the second. -/
def act (s : Fin 8192) (n : Fin 2816) : EReal :=
  cv A b s ⟨n.val, by omega⟩ * Ideal.div 1 (1 + Ideal.exp (-(cv A b s ⟨n.val, by omega⟩))) * cv A b s ⟨2816 + n.val, by omega⟩

/-- The hidden state after the network's gated residual. -/
def x2 (s : Fin 8192) (j : Fin 1024) : EReal :=
  x1 A b s j + A.md (ix3 b 5 j) * ∑ n : Fin 2816, act A b s n * A.wd (ix2 n j)

/-- The result: the last norm of that state. -/
def out (s : Fin 8192) (j : Fin 1024) : EReal := x2 A b s j * rms (x2 A b s) * A.fg (ix1 j)

end Cert.Ffn
-- ==== Proof.FfnWeights.lean ====
/- What the weight operands of the output projection and feed-forward call hold: the matrices themselves,
   the wide ones cut in eleven chunks of 256 columns or rows. -/
module

public import proofs.«01_k».proof.Proof.FfnSpec
public import proofs.«01_k».proof.Proof.Gen.KernelFIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Ffn

open Cert.KernelFIdeal Cert.KernelFIdeal.Gen Idealize.ShloMosaic Idealize.ShloMosaic.TcCoe Idealize.SL.Sem

variable (m : (ℓ : Loc nD τ sig) → Buf (Elt Ideal) ℓ)

/-- The eleven arguments a device's memory holds. -/
def args (c : Dev nD) : Args where
  x := m ((c : Thread nD τ).loc main_arg0)
  oa := m ((c : Thread nD τ).loc main_arg1)
  ob := m ((c : Thread nD τ).loc main_arg2)
  oc := m ((c : Thread nD τ).loc main_arg3)
  md := m ((c : Thread nD τ).loc main_arg4)
  wo := m ((c : Thread nD τ).loc main_arg5)
  g := m ((c : Thread nD τ).loc main_arg6)
  wu := m ((c : Thread nD τ).loc main_arg7)
  cw := m ((c : Thread nD τ).loc main_arg8)
  wd := m ((c : Thread nD τ).loc main_arg9)
  fg := m ((c : Thread nD τ).loc main_arg10)

/-- The first half of the up-projection's columns, in chunks. -/
def wgArr (w : FVec Ideal S1024x5632 .f32) : FVec Ideal S11x1024x256 .bf16 :=
  transpose S11x1024x256 [1, 0, 2] (shapeCast S1024x11x256 (extractStridedSlice S1024x2816 ![0, 0] (truncf .bf16 w bitsLt_bf16_f32)
    slices_S1024x5632_S1024x2816_0_0) shapeCasts_S1024x2816_S1024x11x256) transposes_S1024x11x256_S11x1024x256_1_0_2

/-- The second half. -/
def wuArr (w : FVec Ideal S1024x5632 .f32) : FVec Ideal S11x1024x256 .bf16 :=
  transpose S11x1024x256 [1, 0, 2] (shapeCast S1024x11x256 (extractStridedSlice S1024x2816 ![0, 2816] (truncf .bf16 w bitsLt_bf16_f32)
    slices_S1024x5632_S1024x2816_0_2816) shapeCasts_S1024x2816_S1024x11x256) transposes_S1024x11x256_S11x1024x256_1_0_2

/-- The convolution's taps for the first half, in chunks. -/
def cgArr (w : FVec Ideal S3x5632 .f32) : FVec Ideal S11x3x256 .f32 :=
  transpose S11x3x256 [1, 0, 2] (shapeCast S3x11x256 (extractStridedSlice S3x2816 ![0, 0] w
    slices_S3x5632_S3x2816_0_0) shapeCasts_S3x2816_S3x11x256) transposes_S3x11x256_S11x3x256_1_0_2

/-- The taps for the second half. -/
def cuArr (w : FVec Ideal S3x5632 .f32) : FVec Ideal S11x3x256 .f32 :=
  transpose S11x3x256 [1, 0, 2] (shapeCast S3x11x256 (extractStridedSlice S3x2816 ![0, 2816] w
    slices_S3x5632_S3x2816_0_2816) shapeCasts_S3x2816_S3x11x256) transposes_S3x11x256_S11x3x256_1_0_2

/-- The down-projection's rows, in chunks. -/
def wdArr (w : FVec Ideal S2816x1024 .f32) : FVec Ideal S11x256x1024 .bf16 :=
  shapeCast S11x256x1024 (truncf .bf16 w bitsLt_bf16_f32) shapeCasts_S2816x1024_S11x256x1024

/-! ## Each operand is the array it was made from -/

/-- The output projection. -/
theorem V_wo (c : Dev nD) : V m c main_v1 = truncf .bf16 (args m c).wo bitsLt_bf16_f32 := by
  unfold_abbrev_sides; after_results; rfl
/-- The norm's gain. -/
theorem V_g (c : Dev nD) : V m c main_v2 = shapeCast S1x1024 (args m c).g shapeCasts_S1024_S1x1024 := by
  unfold_abbrev_sides; after_results; rfl
/-- The first half of the up-projection. -/
theorem V_wg (c : Dev nD) : V m c main_v5 = wgArr (args m c).wu := by
  unfold_abbrev_sides; after_results; rfl
/-- Its second half. -/
theorem V_wu (c : Dev nD) : V m c main_v8 = wuArr (args m c).wu := by
  unfold_abbrev_sides; after_results; rfl
/-- The taps of the first half. -/
theorem V_cg (c : Dev nD) : V m c main_v11 = cgArr (args m c).cw := by
  unfold_abbrev_sides; after_results; rfl
/-- The taps of the second half. -/
theorem V_cu (c : Dev nD) : V m c main_v14 = cuArr (args m c).cw := by
  unfold_abbrev_sides; after_results; rfl
/-- The down-projection. -/
theorem V_wd (c : Dev nD) : V m c main_v16 = wdArr (args m c).wd := by
  unfold_abbrev_sides; after_results; rfl
/-- The last norm's gain. -/
theorem V_fg (c : Dev nD) : V m c main_v17 = shapeCast S1x1024 (args m c).fg shapeCasts_S1024_S1x1024 := by
  unfold_abbrev_sides; after_results; rfl

/-! ## Their entries -/

/-- Column `q` of chunk `k` is column `256 k + q` of the first half, -/
theorem wgArr_at (w : FVec Ideal S1024x5632 .f32) (k : Fin 11) (r : Fin 1024) (q : Fin 256) :
    wgArr w (ix3 k r q) = w (ix2 r ⟨k.val * 256 + q.val, by omega⟩) := by
  pointwise [wgArr]
/-- and that of the second half; -/
theorem wuArr_at (w : FVec Ideal S1024x5632 .f32) (k : Fin 11) (r : Fin 1024) (q : Fin 256) :
    wuArr w (ix3 k r q) = w (ix2 r ⟨2816 + (k.val * 256 + q.val), by omega⟩) := by
  pointwise [wuArr]
/-- the taps' likewise, -/
theorem cgArr_at (w : FVec Ideal S3x5632 .f32) (k : Fin 11) (r : Fin 3) (q : Fin 256) :
    cgArr w (ix3 k r q) = w (ix2 r ⟨k.val * 256 + q.val, by omega⟩) := by
  pointwise [cgArr]
/-- in both halves; -/
theorem cuArr_at (w : FVec Ideal S3x5632 .f32) (k : Fin 11) (r : Fin 3) (q : Fin 256) :
    cuArr w (ix3 k r q) = w (ix2 r ⟨2816 + (k.val * 256 + q.val), by omega⟩) := by
  pointwise [cuArr]
/-- row `q` of chunk `k` of the down-projection is its row `256 k + q`. -/
theorem wdArr_at (w : FVec Ideal S2816x1024 .f32) (k : Fin 11) (q : Fin 256) (j : Fin 1024) :
    wdArr w (ix3 k q j) = w (ix2 ⟨k.val * 256 + q.val, by omega⟩ j) := by
  pointwise [wdArr]

/-- Where the blocks of every window sit. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![t.val / 16, 0, 0]
    ∧ win0_5.index t = ![0, 0] ∧ win0_6.index t = ![0, 0] ∧ win0_7.index t = ![0, 0, 0] ∧ win0_8.index t = ![0, 0, 0]
    ∧ win0_9.index t = ![0, 0, 0] ∧ win0_10.index t = ![0, 0, 0] ∧ win0_11.index t = ![0, 0, 0] ∧ win0_12.index t = ![0, 0]
    ∧ win0_13.index t = ![t.val / 16, t.val % 16, 0] :=
  (by decide +kernel : ∀ t : Fin grid0.N, _)

/-! ## The weight blocks: the same at every tile -/

variable (c : Dev nD) (t : Fin cfg0.N)

/-- The output projection's block; -/
theorem blk5 (k j : Fin 1024) : iblk m c 5 t (ix2 k j) = ((args m c).wo (ix2 k j) : EReal) := by
  have e : iblk m c 5 t (ix2 k j) = V m c main_v1 (ix2 k j) := by blk_ext [iblk, idx t]
  rw [e, V_wo]; rfl
/-- the norm's gain; -/
theorem blk6 (k : Fin 1024) : iblk m c 6 t (ix2 0 k) = ((args m c).g (ix1 k) : EReal) := by
  have e : iblk m c 6 t (ix2 0 k) = V m c main_v2 (ix2 0 k) := by blk_ext [iblk, idx t]
  rw [e, V_g]; pointwise []
/-- the up-projection's first half; -/
theorem blk7 (k : Fin 11) (r : Fin 1024) (q : Fin 256) :
    iblk m c 7 t (ix3 k r q) = ((args m c).wu (ix2 r ⟨k.val * 256 + q.val, by omega⟩) : EReal) := by
  have e : iblk m c 7 t (ix3 k r q) = V m c main_v5 (ix3 k r q) := by blk_ext [iblk, idx t]
  rw [e, V_wg]; exact wgArr_at _ _ _ _
/-- its second half; -/
theorem blk8 (k : Fin 11) (r : Fin 1024) (q : Fin 256) :
    iblk m c 8 t (ix3 k r q) = ((args m c).wu (ix2 r ⟨2816 + (k.val * 256 + q.val), by omega⟩) : EReal) := by
  have e : iblk m c 8 t (ix3 k r q) = V m c main_v8 (ix3 k r q) := by blk_ext [iblk, idx t]
  rw [e, V_wu]; exact wuArr_at _ _ _ _
/-- the taps of the first half; -/
theorem blk9 (k : Fin 11) (r : Fin 3) (q : Fin 256) :
    iblk m c 9 t (ix3 k r q) = ((args m c).cw (ix2 r ⟨k.val * 256 + q.val, by omega⟩) : EReal) := by
  have e : iblk m c 9 t (ix3 k r q) = V m c main_v11 (ix3 k r q) := by blk_ext [iblk, idx t]
  rw [e, V_cg]; exact cgArr_at _ _ _ _
/-- the taps of the second; -/
theorem blk10 (k : Fin 11) (r : Fin 3) (q : Fin 256) :
    iblk m c 10 t (ix3 k r q) = ((args m c).cw (ix2 r ⟨2816 + (k.val * 256 + q.val), by omega⟩) : EReal) := by
  have e : iblk m c 10 t (ix3 k r q) = V m c main_v14 (ix3 k r q) := by blk_ext [iblk, idx t]
  rw [e, V_cu]; exact cuArr_at _ _ _ _
/-- the down-projection; -/
theorem blk11 (k : Fin 11) (q : Fin 256) (j : Fin 1024) :
    iblk m c 11 t (ix3 k q j) = ((args m c).wd (ix2 ⟨k.val * 256 + q.val, by omega⟩ j) : EReal) := by
  have e : iblk m c 11 t (ix3 k q j) = V m c main_v16 (ix3 k q j) := by blk_ext [iblk, idx t]
  rw [e, V_wd]; exact wdArr_at _ _ _ _
/-- the last norm's gain. -/
theorem blk12 (k : Fin 1024) : iblk m c 12 t (ix2 0 k) = ((args m c).fg (ix1 k) : EReal) := by
  have e : iblk m c 12 t (ix2 0 k) = V m c main_v17 (ix2 0 k) := by blk_ext [iblk, idx t]
  rw [e, V_fg]; pointwise []

end Cert.Ffn
-- ==== Proof.FfnLoop.lean ====
/- Summary.  The loop over the feed-forward network's eleven column chunks, one trip at a time and then
   as a whole: what the accumulator and the two arrays of carried rows read after the first `k` trips,
   as functions of the values alone. -/
module

public import proofs.«01_k».proof.Proof.Gen.KernelFIdeal.Loops
public import Idealize.ShloMosaic.Lib.Pipeline.FrameBody
public import Idealize.ShloMosaic.Lib.VecWindow
public import Idealize.ShloMosaic.Lib.Pointwise

@[expose] public section

set_option maxRecDepth 16384

noncomputable section

namespace Cert.Ffn

open Idealize.ShloMosaic Idealize.ShloMosaic.TcCoe
open Cert.KernelFIdeal Cert.KernelFIdeal.Gen

variable {F : FTy → Type} [FloatOps F]

/-! ## One chunk, on values -/

/-- The 520 rows a chunk's convolution reads: eight carried rows, then the tile's 512 products. -/
def rows (hb : Vec F S512x1024 .bf16) (w : Vec F S1x1024x256 .bf16) (hd : Vec F S1x8x256 .f32) : Vec F S520x256 .f32 :=
  View.canon [⟨Rect.unit ![0, 0] S8x256.size inb_S520x256_S8x256_0_0, k0_pay5 hd⟩,
    ⟨Rect.unit ![8, 0] S512x256.size inb_S520x256_S512x256_8_0, k0_pay2 hb w⟩]

/-- The first eight rows are the carried ones; -/
theorem rows_lo (hb : Vec F S512x1024 .bf16) (w : Vec F S1x1024x256 .bf16) (hd : Vec F S1x8x256 .f32) (x : S8x256.Idx)
    (y : S520x256.Idx) (h0 : (y 0).val = (x 0).val) (h1 : (y 1).val = (x 1).val) : rows hb w hd y = k0_pay5 hd x := by
  have e : (Rect.unit (s := S520x256) ![0, 0] S8x256.size inb_S520x256_S8x256_0_0).emb x = y := funext fun a => Fin.ext (by
    fin_cases a
    · show 0 + 1 * (x 0).val = (y 0).val
      omega
    · show 0 + 1 * (x 1).val = (y 1).val
      omega)
  subst e
  exact View.canon_cons_emb (Val := Elt F) (e := EltTy.f32) (Rect.unit (s := S520x256) ![0, 0] S8x256.size inb_S520x256_S8x256_0_0) (k0_pay5 hd)
    [⟨Rect.unit ![8, 0] S512x256.size inb_S520x256_S512x256_8_0, k0_pay2 hb w⟩] x

/-- the others are the products. -/
theorem rows_hi (hb : Vec F S512x1024 .bf16) (w : Vec F S1x1024x256 .bf16) (hd : Vec F S1x8x256 .f32) (x : S512x256.Idx)
    (y : S520x256.Idx) (h0 : (y 0).val = 8 + (x 0).val) (h1 : (y 1).val = (x 1).val) : rows hb w hd y = k0_pay2 hb w x := by
  have hn : y ∉ (Rect.unit (s := S520x256) ![0, 0] S8x256.size inb_S520x256_S8x256_0_0).set := fun h => by
    have h2 : 0 ≤ (y 0).val ∧ (y 0).val < 0 + 8 := Rect.mem_set_unit.mp h 0
    omega
  have e : (Rect.unit (s := S520x256) ![8, 0] S512x256.size inb_S520x256_S512x256_8_0).emb x = y := funext fun a => Fin.ext (by
    fin_cases a
    · show 8 + 1 * (x 0).val = (y 0).val
      omega
    · show 0 + 1 * (x 1).val = (y 1).val
      omega)
  refine (View.canon_cons_of_not_mem (Val := Elt F) (e := EltTy.f32) ⟨Rect.unit (s := S520x256) ![0, 0] S8x256.size inb_S520x256_S8x256_0_0, k0_pay5 hd⟩
    [⟨Rect.unit ![8, 0] S512x256.size inb_S520x256_S512x256_8_0, k0_pay2 hb w⟩] hn).trans ?_
  subst e
  exact View.canon_cons_emb (Val := Elt F) (e := EltTy.f32) (Rect.unit (s := S520x256) ![8, 0] S512x256.size inb_S520x256_S512x256_8_0) (k0_pay2 hb w) [] x

/-- The three-tap convolution of those rows. -/
def conv (cg : Vec F S1x3x256 .f32) (u : Vec F S520x256 .f32) : FVec F S512x256 .f32 :=
  k0_pay8 (k0_pay6 cg (View.ld u (Rect.unit ![6, 0] S512x256.size inb_S520x256_S512x256_6_0))
      (View.ld u (Rect.unit ![7, 0] S512x256.size inb_S520x256_S512x256_7_0))) (k0_pay7 cg)
    (View.ld u (Rect.unit ![8, 0] S512x256.size inb_S520x256_S512x256_8_0))

/-- The last eight of the rows: what the next tile's chunk starts from. -/
def tail (u : Vec F S520x256 .f32) : FVec F S1x8x256 .f32 :=
  k0_pay9 (View.ld u (Rect.unit ![512, 0] S8x256.size inb_S520x256_S8x256_512_0))

/-- A chunk of the projection's weights, of the convolution's, of the carried rows, of the down-projection's. -/
abbrev ldW (x : Vec F S11x1024x256 .bf16) (k : Fin k0_t1_loop.trips) : Vec F S1x1024x256 .bf16 :=
  View.ld x (Rect.unit (k0_off1 k) S1x1024x256.size (k0_off1_inb k))
/-- A chunk of the convolution's taps. -/
abbrev ldC (x : Vec F S11x3x256 .f32) (k : Fin k0_t1_loop.trips) : Vec F S1x3x256 .f32 :=
  View.ld x (Rect.unit (k0_off2 k) S1x3x256.size (k0_off2_inb k))
/-- A chunk of the carried rows. -/
abbrev ldH (x : Vec F S11x8x256 .f32) (k : Fin k0_t1_loop.trips) : Vec F S1x8x256 .f32 :=
  View.ld x (Rect.unit (k0_off3 k) S1x8x256.size (k0_off3_inb k))
/-- A chunk of the down-projection's rows. -/
abbrev ldD (x : Vec F S11x256x1024 .bf16) (k : Fin k0_t1_loop.trips) : Vec F S1x256x1024 .bf16 :=
  View.ld x (Rect.unit (k0_off4 k) S1x256x1024.size (k0_off4_inb k))

/-- What the accumulator holds after the first `k` chunks, the carried rows before the tile being `g` and `h`. -/
def accAt (hb : Vec F S512x1024 .bf16) (x7 x8 : Vec F S11x1024x256 .bf16) (x9 x10 : Vec F S11x3x256 .f32)
    (x11 : Vec F S11x256x1024 .bf16) (g h : Vec F S11x8x256 .f32) : ℕ → Vec F S512x1024 .f32
  | 0 => k0_pay23
  | k + 1 => if hk : k < k0_t1_loop.trips then
      k0_pay25 (conv (ldC x9 ⟨k, hk⟩) (rows hb (ldW x7 ⟨k, hk⟩) (ldH g ⟨k, hk⟩)))
        (conv (ldC x10 ⟨k, hk⟩) (rows hb (ldW x8 ⟨k, hk⟩) (ldH h ⟨k, hk⟩)))
        (accAt hb x7 x8 x9 x10 x11 g h k) (ldD x11 ⟨k, hk⟩)
    else accAt hb x7 x8 x9 x10 x11 g h k

/-- What an array of carried rows holds after the first `k` chunks: the chunks done hold the tile's last
    rows, the others what they held. -/
def hdrAt (hb : Vec F S512x1024 .bf16) (w : Vec F S11x1024x256 .bf16) (g : Vec F S11x8x256 .f32) (k : ℕ) :
    Vec F S11x8x256 .f32 := fun y =>
  if (y 0).val < k then
    (if hk : (y 0).val < k0_t1_loop.trips then tail (rows hb (ldW w ⟨(y 0).val, hk⟩) (ldH g ⟨(y 0).val, hk⟩)) (ix3 0 (y 1) (y 2)) else g y)
  else g y

/-- Chunk `k` of every array split in chunks starts at its `k`-th plane. -/
theorem off1 : ∀ k : Fin k0_t1_loop.trips, k0_off1 k = ![k.val, 0, 0] := by decide +kernel
/-- The taps' chunk too, -/
theorem off2 : ∀ k : Fin k0_t1_loop.trips, k0_off2 k = ![k.val, 0, 0] := by decide +kernel
/-- the carried rows', -/
theorem off3 : ∀ k : Fin k0_t1_loop.trips, k0_off3 k = ![k.val, 0, 0] := by decide +kernel
/-- and the down-projection's. -/
theorem off4 : ∀ k : Fin k0_t1_loop.trips, k0_off4 k = ![k.val, 0, 0] := by decide +kernel

/-- A chunk not yet done still holds the rows it held. -/
theorem ldH_hdrAt (hb : Vec F S512x1024 .bf16) (w : Vec F S11x1024x256 .bf16) (g : Vec F S11x8x256 .f32)
    (k : Fin k0_t1_loop.trips) : ldH (hdrAt hb w g k.val) k = ldH g k := by
  funext y
  have h0 : (((Rect.unit (s := S11x8x256) (k0_off3 k) S1x8x256.size (k0_off3_inb k)).toLoadRect.idx y) 0).val = k.val := by
    show k0_off3 k 0 + 1 * (y 0).val = k.val
    have h1 : (y 0).val < 1 := (y 0).isLt
    have h2 : k0_off3 k 0 = k.val := congrFun (off3 k) 0
    omega
  show hdrAt hb w g k.val _ = g _
  unfold hdrAt
  rw [if_neg (by rw [h0]; exact lt_irrefl _)]

/-- Storing chunk `k`'s last rows takes the carried rows after `k` chunks to those after `k + 1`. -/
theorem hdrAt_succ (v : View sig .tc .vmem S11x8x256 .f32) (f : v.ty.Contents (Elt F)) (hb : Vec F S512x1024 .bf16)
    (w : Vec F S11x1024x256 .bf16) (g : Vec F S11x8x256 .f32) (k : Fin k0_t1_loop.trips)
    (hf : v.read (Elt F) f = hdrAt hb w g k.val) :
    v.read (Elt F) (v.writes (Elt F) f [⟨Rect.unit (k0_off3 k) S1x8x256.size (k0_off3_inb k), tail (rows hb (ldW w k) (ldH g k))⟩])
      = hdrAt hb w g (k.val + 1) := by
  funext y
  rw [View.read_writes_cons_unit v f _ _ [] y (off3 k)]
  by_cases hk : (y 0).val = k.val
  · have h : ∀ a, (![k.val, 0, 0] : Fin 3 → ℕ) a ≤ (y a).val ∧ (y a).val < (![k.val, 0, 0] : Fin 3 → ℕ) a + S1x8x256.size a := by
      intro a
      have h1 : (y 1).val < 8 := (y 1).isLt
      have h2 : (y 2).val < 256 := (y 2).isLt
      fin_cases a
      · exact ⟨hk.ge, by show (y 0).val < k.val + 1; omega⟩
      · exact ⟨Nat.zero_le _, by show (y 1).val < 0 + 8; omega⟩
      · exact ⟨Nat.zero_le _, by show (y 2).val < 0 + 256; omega⟩
    rw [dif_pos h]
    unfold hdrAt
    rw [if_pos (by omega), dif_pos (hk ▸ k.isLt)]
    rw [show (⟨(y 0).val, hk ▸ k.isLt⟩ : Fin k0_t1_loop.trips) = k from Fin.ext hk]
    refine congrArg _ (funext fun a => Fin.ext ?_)
    fin_cases a
    · show (y 0).val - k.val = 0
      omega
    · rfl
    · rfl
  · rw [dif_neg (fun h => hk (by
      have := h 0
      have h2 : k.val ≤ (y 0).val ∧ (y 0).val < k.val + 1 := this
      omega)), View.writes_nil, hf]
    unfold hdrAt
    by_cases h : (y 0).val < k.val
    · rw [if_pos h, if_pos (by omega)]
    · rw [if_neg h, if_neg (by omega)]

/-- What a load reads after stores is the stores' contents at the load's place. -/
theorem readCov_ld (v : View sig .tc .vmem S520x256 .f32) (L L' : List (View.Piece (Elt F) S520x256 .f32)) (r : Rect S520x256)
    (h : L = L') : v.readCov L r.toLoadRect = View.ld (View.canon L') r := by
  subst h; exact View.readCov_eq_canon' v L r.toLoadRect

/-! ## One trip of the loop -/

variable (𝒱 : Variants) (c : Dev nD) (bd : Option 𝒱.V) (i : grid0.Coords)
  (arg2 : Memref sig .tc .vmem S1x512x1024 .f32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x512 .bf16) (harg5 : arg5.IsWhole)
  (arg6 : Memref sig .tc .vmem S1x6x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S11x1024x256 .bf16) (harg9 : arg9.IsWhole)
  (arg10 : Memref sig .tc .vmem S11x1024x256 .bf16) (harg10 : arg10.IsWhole) (arg11 : Memref sig .tc .vmem S11x3x256 .f32) (harg11 : arg11.IsWhole)
  (arg12 : Memref sig .tc .vmem S11x3x256 .f32) (harg12 : arg12.IsWhole) (arg13 : Memref sig .tc .vmem S11x256x1024 .bf16) (harg13 : arg13.IsWhole)
  (arg14 : Memref sig .tc .vmem S1x1024 .f32) (harg14 : arg14.IsWhole) (arg15 : Memref sig .tc .vmem S1x512x1024 .f32) (harg15 : arg15.IsWhole)
  (arg16 : Memref sig .tc .vmem S512x1024 .bf16) (harg16 : arg16.IsWhole) (arg17 : Memref sig .tc .vmem S512x1024 .f32) (harg17 : arg17.IsWhole)
  (arg18 : Memref sig .tc .vmem S520x256 .f32) (harg18 : arg18.IsWhole) (arg19 : Memref sig .tc .vmem S520x256 .f32) (harg19 : arg19.IsWhole)
  (arg20 : Memref sig .tc .vmem S11x8x256 .f32) (harg20 : arg20.IsWhole) (arg21 : Memref sig .tc .vmem S11x8x256 .f32) (harg21 : arg21.IsWhole)
  (v4 v6 v8 : FVec F S1x1024 .f32) (v21 : FVec F S512x1024 .f32) (v23 : FVec F S512x512 .bf16) (v25 : FVec F S512x1024 .bf16)
  (X9 : arg9.view.ty.Contents (Elt F)) (X10 : arg10.view.ty.Contents (Elt F)) (X11 : arg11.view.ty.Contents (Elt F))
  (X12 : arg12.view.ty.Contents (Elt F)) (X13 : arg13.view.ty.Contents (Elt F)) (X16 : arg16.view.ty.Contents (Elt F))

/-- Rows 6 on of the first half, as the loop reads it. -/
theorem ld_v108 (k : Fin k0_t1_loop.trips) (f20 : arg20.view.ty.Contents (Elt F)) : trip_k0_t1.sl.v108 arg9 arg16 arg18 arg20 X9 X16 k f20
    = View.ld (rows (arg16.view.read (Elt F) X16) (ldW (arg9.view.read (Elt F) X9) k) (ldH (arg20.view.read (Elt F) f20) k)) (Rect.unit ![6, 0] S512x256.size inb_S520x256_S512x256_6_0) := by
  unfold trip_k0_t1.sl.v108 rows; exact readCov_ld _ _ _ _ (by unfold trip_k0_t1.sl.HW_arg18_2; rw [View.readAt_full arg16.view]; rfl)
/-- Rows 7 on, as the loop reads it. -/
theorem ld_v112 (k : Fin k0_t1_loop.trips) (f20 : arg20.view.ty.Contents (Elt F)) : trip_k0_t1.sl.v112 arg9 arg16 arg18 arg20 X9 X16 k f20
    = View.ld (rows (arg16.view.read (Elt F) X16) (ldW (arg9.view.read (Elt F) X9) k) (ldH (arg20.view.read (Elt F) f20) k)) (Rect.unit ![7, 0] S512x256.size inb_S520x256_S512x256_7_0) := by
  unfold trip_k0_t1.sl.v112 rows; exact readCov_ld _ _ _ _ (by unfold trip_k0_t1.sl.HW_arg18_2; rw [View.readAt_full arg16.view]; rfl)
/-- Rows 8 on, as the loop reads it. -/
theorem ld_v117 (k : Fin k0_t1_loop.trips) (f20 : arg20.view.ty.Contents (Elt F)) : trip_k0_t1.sl.v117 arg9 arg16 arg18 arg20 X9 X16 k f20
    = View.ld (rows (arg16.view.read (Elt F) X16) (ldW (arg9.view.read (Elt F) X9) k) (ldH (arg20.view.read (Elt F) f20) k)) (Rect.unit ![8, 0] S512x256.size inb_S520x256_S512x256_8_0) := by
  unfold trip_k0_t1.sl.v117 rows; exact readCov_ld _ _ _ _ (by unfold trip_k0_t1.sl.HW_arg18_2; rw [View.readAt_full arg16.view]; rfl)
/-- The last eight rows, as the loop reads it. -/
theorem ld_v121 (k : Fin k0_t1_loop.trips) (f20 : arg20.view.ty.Contents (Elt F)) : trip_k0_t1.sl.v121 arg9 arg16 arg18 arg20 X9 X16 k f20
    = View.ld (rows (arg16.view.read (Elt F) X16) (ldW (arg9.view.read (Elt F) X9) k) (ldH (arg20.view.read (Elt F) f20) k)) (Rect.unit ![512, 0] S8x256.size inb_S520x256_S8x256_512_0) := by
  unfold trip_k0_t1.sl.v121 rows; exact readCov_ld _ _ _ _ (by unfold trip_k0_t1.sl.HW_arg18_2; rw [View.readAt_full arg16.view]; rfl)
/-- Rows 6 on of the second half, as the loop reads it. -/
theorem ld_v136 (k : Fin k0_t1_loop.trips) (f21 : arg21.view.ty.Contents (Elt F)) : trip_k0_t1.sl.v136 arg10 arg16 arg19 arg21 X10 X16 k f21
    = View.ld (rows (arg16.view.read (Elt F) X16) (ldW (arg10.view.read (Elt F) X10) k) (ldH (arg21.view.read (Elt F) f21) k)) (Rect.unit ![6, 0] S512x256.size inb_S520x256_S512x256_6_0) := by
  unfold trip_k0_t1.sl.v136 rows; exact readCov_ld _ _ _ _ (by unfold trip_k0_t1.sl.HW_arg19_2; rw [View.readAt_full arg16.view]; rfl)
/-- Rows 7 on, as the loop reads it. -/
theorem ld_v140 (k : Fin k0_t1_loop.trips) (f21 : arg21.view.ty.Contents (Elt F)) : trip_k0_t1.sl.v140 arg10 arg16 arg19 arg21 X10 X16 k f21
    = View.ld (rows (arg16.view.read (Elt F) X16) (ldW (arg10.view.read (Elt F) X10) k) (ldH (arg21.view.read (Elt F) f21) k)) (Rect.unit ![7, 0] S512x256.size inb_S520x256_S512x256_7_0) := by
  unfold trip_k0_t1.sl.v140 rows; exact readCov_ld _ _ _ _ (by unfold trip_k0_t1.sl.HW_arg19_2; rw [View.readAt_full arg16.view]; rfl)
/-- Rows 8 on, as the loop reads it. -/
theorem ld_v145 (k : Fin k0_t1_loop.trips) (f21 : arg21.view.ty.Contents (Elt F)) : trip_k0_t1.sl.v145 arg10 arg16 arg19 arg21 X10 X16 k f21
    = View.ld (rows (arg16.view.read (Elt F) X16) (ldW (arg10.view.read (Elt F) X10) k) (ldH (arg21.view.read (Elt F) f21) k)) (Rect.unit ![8, 0] S512x256.size inb_S520x256_S512x256_8_0) := by
  unfold trip_k0_t1.sl.v145 rows; exact readCov_ld _ _ _ _ (by unfold trip_k0_t1.sl.HW_arg19_2; rw [View.readAt_full arg16.view]; rfl)
/-- The last eight rows, as the loop reads it. -/
theorem ld_v149 (k : Fin k0_t1_loop.trips) (f21 : arg21.view.ty.Contents (Elt F)) : trip_k0_t1.sl.v149 arg10 arg16 arg19 arg21 X10 X16 k f21
    = View.ld (rows (arg16.view.read (Elt F) X16) (ldW (arg10.view.read (Elt F) X10) k) (ldH (arg21.view.read (Elt F) f21) k)) (Rect.unit ![512, 0] S8x256.size inb_S520x256_S8x256_512_0) := by
  unfold trip_k0_t1.sl.v149 rows; exact readCov_ld _ _ _ _ (by unfold trip_k0_t1.sl.HW_arg19_2; rw [View.readAt_full arg16.view]; rfl)
/-- A trip adds its chunk's product to the accumulator. -/
theorem trip_acc (k : Fin k0_t1_loop.trips) (f17 : arg17.view.ty.Contents (Elt F)) (f18 : arg18.view.ty.Contents (Elt F)) (f19 : arg19.view.ty.Contents (Elt F)) (f20 : arg20.view.ty.Contents (Elt F)) (f21 : arg21.view.ty.Contents (Elt F)) :
    arg17.view.read (Elt F) (arg17.view.writes (Elt F) f17 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 k).1 f17 f18 f19 f20 f21))
      = k0_pay25 (conv (ldC (arg11.view.read (Elt F) X11) k) (rows (arg16.view.read (Elt F) X16) (ldW (arg9.view.read (Elt F) X9) k) (ldH (arg20.view.read (Elt F) f20) k)))
        (conv (ldC (arg12.view.read (Elt F) X12) k) (rows (arg16.view.read (Elt F) X16) (ldW (arg10.view.read (Elt F) X10) k) (ldH (arg21.view.read (Elt F) f21) k)))
        (arg17.view.read (Elt F) f17) (ldD (arg13.view.read (Elt F) X13) k) := by
  unfold trip_k0_t1
  dsimp only
  rw [View.read_writes_full]
  unfold trip_k0_t1.sl.r_2 trip_k0_t1.sl.r_3 trip_k0_t1.sl.r trip_k0_t1.sl.r_1
  rw [ld_v108, ld_v112, ld_v117, ld_v136, ld_v140, ld_v145]
  rw [View.readAt_full arg17.view]
  rfl

/-- A trip leaves its chunk's last rows in the first array of carried rows. -/
theorem trip_hdrG (k : Fin k0_t1_loop.trips) (f17 : arg17.view.ty.Contents (Elt F)) (f18 : arg18.view.ty.Contents (Elt F)) (f19 : arg19.view.ty.Contents (Elt F)) (f20 : arg20.view.ty.Contents (Elt F)) (f21 : arg21.view.ty.Contents (Elt F)) :
    arg20.view.read (Elt F) (arg20.view.writes (Elt F) f20 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 k).2.2.2.1 f17 f18 f19 f20 f21))
      = arg20.view.read (Elt F) (arg20.view.writes (Elt F) f20 [⟨Rect.unit (k0_off3 k) S1x8x256.size (k0_off3_inb k), tail (rows (arg16.view.read (Elt F) X16) (ldW (arg9.view.read (Elt F) X9) k) (ldH (arg20.view.read (Elt F) f20) k))⟩]) := by
  unfold trip_k0_t1
  dsimp only
  rw [ld_v121]; rfl

/-- A trip leaves its chunk's last rows in the second array of carried rows. -/
theorem trip_hdrU (k : Fin k0_t1_loop.trips) (f17 : arg17.view.ty.Contents (Elt F)) (f18 : arg18.view.ty.Contents (Elt F)) (f19 : arg19.view.ty.Contents (Elt F)) (f20 : arg20.view.ty.Contents (Elt F)) (f21 : arg21.view.ty.Contents (Elt F)) :
    arg21.view.read (Elt F) (arg21.view.writes (Elt F) f21 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 k).2.2.2.2.1 f17 f18 f19 f20 f21))
      = arg21.view.read (Elt F) (arg21.view.writes (Elt F) f21 [⟨Rect.unit (k0_off3 k) S1x8x256.size (k0_off3_inb k), tail (rows (arg16.view.read (Elt F) X16) (ldW (arg10.view.read (Elt F) X10) k) (ldH (arg21.view.read (Elt F) f21) k))⟩]) := by
  unfold trip_k0_t1
  dsimp only
  rw [ld_v149]; rfl

/-! ## The whole loop -/

/-- After `k` trips the accumulator holds the first `k` chunks' sum and the arrays of carried rows the
    first `k` chunks' last rows, whatever the two buffers of 520 rows held. -/
theorem loop_reads (f17 : arg17.view.ty.Contents (Elt F)) (f18 : arg18.view.ty.Contents (Elt F)) (f19 : arg19.view.ty.Contents (Elt F)) (f20 : arg20.view.ty.Contents (Elt F)) (f21 : arg21.view.ty.Contents (Elt F)) (h0 : arg17.view.read (Elt F) f17 = k0_pay23) :
    ∀ k : ℕ, k ≤ k0_t1_loop.trips →
    arg17.view.read (Elt F) (arg17.view.writes (Elt F) f17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 f17 f18 f19 f20 f21 k).1)
      = accAt (arg16.view.read (Elt F) X16) (arg9.view.read (Elt F) X9) (arg10.view.read (Elt F) X10) (arg11.view.read (Elt F) X11) (arg12.view.read (Elt F) X12) (arg13.view.read (Elt F) X13) (arg20.view.read (Elt F) f20) (arg21.view.read (Elt F) f21) k
    ∧ arg20.view.read (Elt F) (arg20.view.writes (Elt F) f20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 f17 f18 f19 f20 f21 k).2.2.2.1) = hdrAt (arg16.view.read (Elt F) X16) (arg9.view.read (Elt F) X9) (arg20.view.read (Elt F) f20) k
    ∧ arg21.view.read (Elt F) (arg21.view.writes (Elt F) f21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 f17 f18 f19 f20 f21 k).2.2.2.2) = hdrAt (arg16.view.read (Elt F) X16) (arg10.view.read (Elt F) X10) (arg21.view.read (Elt F) f21) k
  | 0, _ => by
    refine ⟨?_, ?_, ?_⟩
    · simp only [pb_k0_t1, View.writes_nil]; exact h0
    · simp only [pb_k0_t1, View.writes_nil]; funext y; unfold hdrAt; rw [if_neg (Nat.not_lt_zero _)]
    · simp only [pb_k0_t1, View.writes_nil]; funext y; unfold hdrAt; rw [if_neg (Nat.not_lt_zero _)]
  | k + 1, hk => by
    obtain ⟨ha, hg, hu⟩ := loop_reads f17 f18 f19 f20 f21 h0 k (Nat.le_of_succ_le hk)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 f17 f18 f19 f20 f21 ⟨k, hk⟩
    dsimp only at hs
    rw [hs]
    refine ⟨?_, ?_, ?_⟩
    · rw [View.writes_append, trip_acc, ha, hg, hu, ldH_hdrAt _ _ _ ⟨k, hk⟩, ldH_hdrAt _ _ _ ⟨k, hk⟩]
      rw [accAt, dif_pos (Nat.lt_of_succ_le hk)]
    · rw [View.writes_append, trip_hdrG, hg, ldH_hdrAt _ _ _ ⟨k, hk⟩]
      exact hdrAt_succ _ _ _ _ _ ⟨k, hk⟩ hg
    · rw [View.writes_append, trip_hdrU, hu, ldH_hdrAt _ _ _ ⟨k, hk⟩]
      exact hdrAt_succ _ _ _ _ _ ⟨k, hk⟩ hu

end Cert.Ffn
-- ==== Proof.FfnRun.lean ====
/- Summary.  One grid point of the output projection and feed-forward kernel, run from any contents of its
   working buffers: what it leaves in the output block and in the two arrays of carried rows. -/
module

public import proofs.«01_k».proof.Proof.FfnLoop
public import proofs.«01_k».proof.Proof.Gen.KernelFIdeal.Frame

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFIdeal Cert.KernelFIdeal.Gen

variable {F : FTy → Type} [FloatOps F]

local notation "𝕄" => MT nD τ sig Unit (Elt F) ℕ (UR sig nD τ) ℕ

/-- The point is the first tile of its batch entry, as the kernel tests it. -/
abbrev startsBatch (i : grid0.Coords) : Prop :=
  Scalar.cmpi .ne (Scalar.extui (Scalar.cmpi .eq (BitVec.ofNat 32 (i 1).val) 0#32)) 0#32 = 1#1

/-- Row `r` of the six modulation rows. -/
abbrev gate1 (x4 : Vec F S1x6x1024 .f32) : FVec F S1x1024 .f32 :=
  k0_pay14 (View.ld x4 (Rect.unit ![0, 2, 0] S1x1x1024.size inb_S1x6x1024_S1x1x1024_0_2_0))
/-- The network's shift: the fourth modulation row. -/
abbrev shift2 (x4 : Vec F S1x6x1024 .f32) : FVec F S1x1024 .f32 :=
  k0_pay15 (View.ld x4 (Rect.unit ![0, 3, 0] S1x1x1024.size inb_S1x6x1024_S1x1x1024_0_3_0))
/-- Its scale: the fifth. -/
abbrev scale2 (x4 : Vec F S1x6x1024 .f32) : FVec F S1x1024 .f32 :=
  k0_pay16 (View.ld x4 (Rect.unit ![0, 4, 0] S1x1x1024.size inb_S1x6x1024_S1x1x1024_0_4_0))
/-- Its gate: the sixth. -/
abbrev gate2 (x4 : Vec F S1x6x1024 .f32) : FVec F S1x1024 .f32 :=
  k0_pay17 (View.ld x4 (Rect.unit ![0, 5, 0] S1x1x1024.size inb_S1x6x1024_S1x1x1024_0_5_0))

/-- The first two mixers' part of the output projection. -/
abbrev mixAB (x1 x2 : Vec F S1x512x256 .bf16) (x5 : Vec F S1024x1024 .bf16) : FVec F S512x1024 .f32 :=
  k0_pay18 x1 (View.ld x5 (Rect.unit ![0, 0] S256x1024.size inb_S1024x1024_S256x1024_0_0)) x2
    (View.ld x5 (Rect.unit ![256, 0] S256x1024.size inb_S1024x1024_S256x1024_256_0))

/-- The third mixer's rows of the projection's weights. -/
abbrev wC (x5 : Vec F S1024x1024 .bf16) : FVec F S512x1024 .bf16 :=
  k0_pay20 (View.ld x5 (Rect.unit ![512, 0] S512x1024.size inb_S1024x1024_S512x1024_512_0))

/-- The tile's hidden state after the mixers' residual. -/
def mixed (x0 : Vec F S1x512x1024 .f32) (x1 x2 : Vec F S1x512x256 .bf16) (x3 : Vec F S1x512x512 .bf16)
    (x4 : Vec F S1x6x1024 .f32) (x5 : Vec F S1024x1024 .bf16) : FVec F S512x1024 .f32 :=
  k0_pay21 (gate1 x4) (mixAB x1 x2 x5) (k0_pay19 x3) (wC x5) x0

/-- Its normalised and modulated form, the feed-forward network's input. -/
def normed (x0 : Vec F S1x512x1024 .f32) (x1 x2 : Vec F S1x512x256 .bf16) (x3 : Vec F S1x512x512 .bf16)
    (x4 : Vec F S1x6x1024 .f32) (x5 : Vec F S1024x1024 .bf16) (x6 : Vec F S1x1024 .f32) : FVec F S512x1024 .bf16 :=
  k0_pay22 (gate1 x4) (shift2 x4) (scale2 x4) (mixAB x1 x2 x5) (k0_pay19 x3) (wC x5) x0 x6

/-- Every chunk's last eight rows of the up-projection: what the tile leaves for the next one. -/
def lastRows (hb : Vec F S512x1024 .bf16) (w : Vec F S11x1024x256 .bf16) : Vec F S11x8x256 .f32 :=
  fun y => if hk : (y 0).val < k0_t1_loop.trips then
    k0_pay9 (View.ld (k0_pay2 hb (ldW w ⟨(y 0).val, hk⟩)) (Rect.unit (s := S512x256) ![504, 0] S8x256.size (by decide))) (ix3 0 (y 1) (y 2))
  else k0_pay12 y

/-- After all chunks an array of carried rows holds every chunk's last rows, whatever it held. -/
theorem hdrAt_end (hb : Vec F S512x1024 .bf16) (w : Vec F S11x1024x256 .bf16) (g : Vec F S11x8x256 .f32) :
    hdrAt hb w g k0_t1_loop.trips = lastRows hb w := by
  funext y
  have h11 : (y 0).val < k0_t1_loop.trips := lt_of_lt_of_eq (y 0).isLt (by decide +kernel)
  unfold hdrAt lastRows
  rw [if_pos h11, dif_pos h11, dif_pos h11]
  unfold tail
  refine congrFun (congrArg k0_pay9 (funext fun z => ?_)) _
  refine rows_hi _ _ _ _ _ ?_ ?_
  · show 512 + 1 * (z 0).val = 8 + (504 + 1 * (z 0).val)
    omega
  · rfl

/-- The block the point writes, the carried rows before it being `g` and `h`. -/
def outBlk (x0 : Vec F S1x512x1024 .f32) (x1 : Vec F S1x512x256 .bf16) (x2 : Vec F S1x512x256 .bf16) (x3 : Vec F S1x512x512 .bf16) (x4 : Vec F S1x6x1024 .f32)
    (x5 : Vec F S1024x1024 .bf16) (x6 : Vec F S1x1024 .f32) (x7 : Vec F S11x1024x256 .bf16) (x8 : Vec F S11x1024x256 .bf16) (x9 : Vec F S11x3x256 .f32)
    (x10 : Vec F S11x3x256 .f32) (x11 : Vec F S11x256x1024 .bf16) (x12 : Vec F S1x1024 .f32)
    (g h : Vec F S11x8x256 .f32) : FVec F S1x512x1024 .f32 :=
  k0_pay1 (gate2 x4) (mixed x0 x1 x2 x3 x4 x5)
    (accAt (normed x0 x1 x2 x3 x4 x5 x6) x7 x8 x9 x10 x11 g h k0_t1_loop.trips) x12

set_option maxHeartbeats 1000000 in
/-- The first tile of a batch entry: the carried rows are cleared first. -/
theorem run_first (c : Dev nD) (i : grid0.Coords) (arg2 : Memref sig .tc .vmem S1x512x1024 .f32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x512 .bf16) (harg5 : arg5.IsWhole)
  (arg6 : Memref sig .tc .vmem S1x6x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S11x1024x256 .bf16) (harg9 : arg9.IsWhole)
  (arg10 : Memref sig .tc .vmem S11x1024x256 .bf16) (harg10 : arg10.IsWhole) (arg11 : Memref sig .tc .vmem S11x3x256 .f32) (harg11 : arg11.IsWhole)
  (arg12 : Memref sig .tc .vmem S11x3x256 .f32) (harg12 : arg12.IsWhole) (arg13 : Memref sig .tc .vmem S11x256x1024 .bf16) (harg13 : arg13.IsWhole)
  (arg14 : Memref sig .tc .vmem S1x1024 .f32) (harg14 : arg14.IsWhole) (arg15 : Memref sig .tc .vmem S1x512x1024 .f32) (harg15 : arg15.IsWhole)
  (arg16 : Memref sig .tc .vmem S512x1024 .bf16) (harg16 : arg16.IsWhole) (arg17 : Memref sig .tc .vmem S512x1024 .f32) (harg17 : arg17.IsWhole)
  (arg18 : Memref sig .tc .vmem S520x256 .f32) (harg18 : arg18.IsWhole) (arg19 : Memref sig .tc .vmem S520x256 .f32) (harg19 : arg19.IsWhole)
  (arg20 : Memref sig .tc .vmem S11x8x256 .f32) (harg20 : arg20.IsWhole) (arg21 : Memref sig .tc .vmem S11x8x256 .f32) (harg21 : arg21.IsWhole)
    (hc : startsBatch i) (x0 : Vec F S1x512x1024 .f32) (x1 : Vec F S1x512x256 .bf16) (x2 : Vec F S1x512x256 .bf16) (x3 : Vec F S1x512x512 .bf16) (x4 : Vec F S1x6x1024 .f32)
    (x5 : Vec F S1024x1024 .bf16) (x6 : Vec F S1x1024 .f32) (x7 : Vec F S11x1024x256 .bf16) (x8 : Vec F S11x1024x256 .bf16) (x9 : Vec F S11x3x256 .f32)
    (x10 : Vec F S11x3x256 .f32) (x11 : Vec F S11x256x1024 .bf16) (x12 : Vec F S1x1024 .f32)
     (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (outBlk x0 x1 x2 x3 x4 x5 x6 x7 x8 x9 x10 x11 x12 k0_pay12 k0_pay13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare (lastRows (normed x0 x1 x2 x3 x4 x5 x6) x7) ∗ owns (c : Thread nD τ) arg21 fullShare (lastRows (normed x0 x1 x2 x3 x4 x5 x6) x8)) -∗ K PUnit.unit))
      ⊢ wp frame (wpE (defs₀ (F := F)) Variants.none c none) E (cc0_outproj_convmlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_outproj_convmlp_eq_skeleton]; unfold cc0_outproj_convmlp_skel
  simp only [k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec
  sl_step
  have h16 : arg16.view.read (Elt F) (arg16.view.writes (Elt F) arg16.view.junk (run_first.sl.H16_1 c arg2 harg2 arg3 harg3 arg4 harg4 arg5 harg5 arg6 harg6 arg7 harg7 arg8 harg8 x0 x1 x2 x3 x4 x5 x6)) = normed x0 x1 x2 x3 x4 x5 x6 := by
    unfold run_first.sl.H16_1 run_first.sl.r run_first.sl.r_1 run_first.sl.r_2 run_first.sl.r_4 run_first.sl.r_5 run_first.sl.r_6
    rw [View.read_writes_full, View.readAt_full arg2.view, View.readAt_full arg3.view, View.readAt_full arg4.view, View.readAt_full arg5.view, View.readAt_full arg8.view]
    simp only [View.readAt_eq_ld, harg2.read_unread, harg3.read_unread, harg4.read_unread, harg5.read_unread, harg6.read_unread, harg7.read_unread, harg8.read_unread]
    rfl
  have h17 : arg17.view.read (Elt F) (arg17.view.writes (Elt F) arg17.view.junk run_first.sl.H17_1) = k0_pay23 := by
    unfold run_first.sl.H17_1
    rw [View.read_writes_full]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; iexact H15
    ipureintro
    rw [View.read_writes_full]
    unfold run_first.sl.v62 run_first.sl.r_7 run_first.sl.r_3 run_first.sl.r run_first.sl.r_4 run_first.sl.r_5 run_first.sl.r_6
    rw [View.readCov, View.readAt_full arg17.view, View.writes_append]
    refine (congrArg (fun z => k0_pay1 _ _ z _) ((loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).1.trans ?_)).trans (b := k0_pay1 _ _ (accAt (normed x0 x1 x2 x3 x4 x5 x6) x7 x8 x9 x10 x11 k0_pay12 k0_pay13 k0_t1_loop.trips) _) ?_
    · rw [h16, harg9.read_unread, harg10.read_unread, harg11.read_unread, harg12.read_unread, harg13.read_unread]
      rw [show arg20.view.read (Elt F) (arg20.view.writes (Elt F) arg20.view.junk run_first.sl.H20_1) = k0_pay12 from by unfold run_first.sl.H20_1; rw [View.read_writes_full]]
      rw [show arg21.view.read (Elt F) (arg21.view.writes (Elt F) arg21.view.junk run_first.sl.H21_1) = k0_pay13 from by unfold run_first.sl.H21_1; rw [View.read_writes_full]]
    · rw [View.readAt_full arg2.view, View.readAt_full arg3.view, View.readAt_full arg4.view, View.readAt_full arg5.view, View.readAt_full arg14.view]
      simp only [View.readAt_eq_ld, harg2.read_unread, harg3.read_unread, harg4.read_unread, harg5.read_unread, harg6.read_unread, harg7.read_unread, harg14.read_unread]
      rfl
  isplitl [H16]
  · iexists _, _; isplitr; swap; iexact H16
    ipureintro; rfl
  isplitl [H17]
  · iexists _, _; isplitr; swap; iexact H17
    ipureintro; rfl
  isplitl [H18]
  · iexists _, _; isplitr; swap; iexact H18
    ipureintro; rfl
  isplitl [H19]
  · iexists _, _; isplitr; swap; iexact H19
    ipureintro; rfl
  isplitl [H20]
  · iexists _; isplitr; swap; iexact H20
    ipureintro
    rw [View.writes_append]; exact (loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).2.1.trans (by rw [h16, harg9.read_unread]; exact hdrAt_end _ _ _)
  · iexists _; isplitr; swap; iexact H21
    ipureintro
    rw [View.writes_append]; exact (loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).2.2.trans (by rw [h16, harg10.read_unread]; exact hdrAt_end _ _ _)

end Cert.Ffn
-- ==== Proof.FfnLater.lean ====
/- Summary.  A grid point of the output projection and feed-forward kernel that is not the first of its batch
   entry: it starts from the carried rows it finds. -/
module

public import proofs.«01_k».proof.Proof.FfnRun

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFIdeal Cert.KernelFIdeal.Gen

variable {F : FTy → Type} [FloatOps F]

local notation "𝕄" => MT nD τ sig Unit (Elt F) ℕ (UR sig nD τ) ℕ

set_option maxHeartbeats 1000000 in
/-- A later tile of a batch entry: the carried rows are the ones it finds. -/
theorem run_later (c : Dev nD) (i : grid0.Coords) (arg2 : Memref sig .tc .vmem S1x512x1024 .f32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x512 .bf16) (harg5 : arg5.IsWhole)
  (arg6 : Memref sig .tc .vmem S1x6x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S11x1024x256 .bf16) (harg9 : arg9.IsWhole)
  (arg10 : Memref sig .tc .vmem S11x1024x256 .bf16) (harg10 : arg10.IsWhole) (arg11 : Memref sig .tc .vmem S11x3x256 .f32) (harg11 : arg11.IsWhole)
  (arg12 : Memref sig .tc .vmem S11x3x256 .f32) (harg12 : arg12.IsWhole) (arg13 : Memref sig .tc .vmem S11x256x1024 .bf16) (harg13 : arg13.IsWhole)
  (arg14 : Memref sig .tc .vmem S1x1024 .f32) (harg14 : arg14.IsWhole) (arg15 : Memref sig .tc .vmem S1x512x1024 .f32) (harg15 : arg15.IsWhole)
  (arg16 : Memref sig .tc .vmem S512x1024 .bf16) (harg16 : arg16.IsWhole) (arg17 : Memref sig .tc .vmem S512x1024 .f32) (harg17 : arg17.IsWhole)
  (arg18 : Memref sig .tc .vmem S520x256 .f32) (harg18 : arg18.IsWhole) (arg19 : Memref sig .tc .vmem S520x256 .f32) (harg19 : arg19.IsWhole)
  (arg20 : Memref sig .tc .vmem S11x8x256 .f32) (harg20 : arg20.IsWhole) (arg21 : Memref sig .tc .vmem S11x8x256 .f32) (harg21 : arg21.IsWhole)
    (hc : ¬startsBatch i) (x0 : Vec F S1x512x1024 .f32) (x1 : Vec F S1x512x256 .bf16) (x2 : Vec F S1x512x256 .bf16) (x3 : Vec F S1x512x512 .bf16) (x4 : Vec F S1x6x1024 .f32)
    (x5 : Vec F S1024x1024 .bf16) (x6 : Vec F S1x1024 .f32) (x7 : Vec F S11x1024x256 .bf16) (x8 : Vec F S11x1024x256 .bf16) (x9 : Vec F S11x3x256 .f32)
    (x10 : Vec F S11x3x256 .f32) (x11 : Vec F S11x256x1024 .bf16) (x12 : Vec F S1x1024 .f32)
    (g h : Vec F S11x8x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare g ∗ owns (c : Thread nD τ) arg21 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (outBlk x0 x1 x2 x3 x4 x5 x6 x7 x8 x9 x10 x11 x12 g h) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare (lastRows (normed x0 x1 x2 x3 x4 x5 x6) x7) ∗ owns (c : Thread nD τ) arg21 fullShare (lastRows (normed x0 x1 x2 x3 x4 x5 x6) x8)) -∗ K PUnit.unit))
      ⊢ wp frame (wpE (defs₀ (F := F)) Variants.none c none) E (cc0_outproj_convmlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_outproj_convmlp_eq_skeleton]; unfold cc0_outproj_convmlp_skel
  simp only [k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg20.eq_unread hf20; obtain rfl := harg21.eq_unread hf21
  sl_exec
  sl_step
  have h16 : arg16.view.read (Elt F) (arg16.view.writes (Elt F) arg16.view.junk (run_later.sl.H16_1 c arg2 harg2 arg3 harg3 arg4 harg4 arg5 harg5 arg6 harg6 arg7 harg7 arg8 harg8 x0 x1 x2 x3 x4 x5 x6)) = normed x0 x1 x2 x3 x4 x5 x6 := by
    unfold run_later.sl.H16_1 run_later.sl.r run_later.sl.r_1 run_later.sl.r_2 run_later.sl.r_4 run_later.sl.r_5 run_later.sl.r_6
    rw [View.read_writes_full, View.readAt_full arg2.view, View.readAt_full arg3.view, View.readAt_full arg4.view, View.readAt_full arg5.view, View.readAt_full arg8.view]
    simp only [View.readAt_eq_ld, harg2.read_unread, harg3.read_unread, harg4.read_unread, harg5.read_unread, harg6.read_unread, harg7.read_unread, harg8.read_unread]
    rfl
  have h17 : arg17.view.read (Elt F) (arg17.view.writes (Elt F) arg17.view.junk run_later.sl.H17_1) = k0_pay23 := by
    unfold run_later.sl.H17_1
    rw [View.read_writes_full]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; iexact H15
    ipureintro
    rw [View.read_writes_full]
    unfold run_later.sl.v62 run_later.sl.r_7 run_later.sl.r_3 run_later.sl.r run_later.sl.r_4 run_later.sl.r_5 run_later.sl.r_6
    rw [View.readCov, View.readAt_full arg17.view, View.writes_append]
    refine (congrArg (fun z => k0_pay1 _ _ z _) ((loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).1.trans ?_)).trans (b := k0_pay1 _ _ (accAt (normed x0 x1 x2 x3 x4 x5 x6) x7 x8 x9 x10 x11 g h k0_t1_loop.trips) _) ?_
    · rw [h16, harg9.read_unread, harg10.read_unread, harg11.read_unread, harg12.read_unread, harg13.read_unread]
      rw [harg20.read_unread]
      rw [harg21.read_unread]
    · rw [View.readAt_full arg2.view, View.readAt_full arg3.view, View.readAt_full arg4.view, View.readAt_full arg5.view, View.readAt_full arg14.view]
      simp only [View.readAt_eq_ld, harg2.read_unread, harg3.read_unread, harg4.read_unread, harg5.read_unread, harg6.read_unread, harg7.read_unread, harg14.read_unread]
      rfl
  isplitl [H16]
  · iexists _, _; isplitr; swap; iexact H16
    ipureintro; rfl
  isplitl [H17]
  · iexists _, _; isplitr; swap; iexact H17
    ipureintro; rfl
  isplitl [H18]
  · iexists _, _; isplitr; swap; iexact H18
    ipureintro; rfl
  isplitl [H19]
  · iexists _, _; isplitr; swap; iexact H19
    ipureintro; rfl
  isplitl [H20]
  · iexists _; isplitr; swap; iexact H20
    ipureintro
    exact (loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).2.1.trans (by rw [h16, harg9.read_unread]; exact hdrAt_end _ _ _)
  · iexists _; isplitr; swap; iexact H21
    ipureintro
    exact (loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).2.2.trans (by rw [h16, harg10.read_unread]; exact hdrAt_end _ _ _)

end Cert.Ffn
-- ==== Proof.FfnFrame.lean ====
/- Summary.  The output projection and feed-forward kernel run over its whole grid: what is carried from
   one tile to the next, the pipeline's proof data, and the arguments unchanged at the end. -/
module

public import proofs.«01_k».proof.Proof.FfnLater
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFIdeal Cert.KernelFIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the working buffers -/

/-- The buffer window 0 is staged in at tile `t`, -/
abbrev ms0 (t : Fin cfg0.N) : Memref sig .tc .vmem S1x512x1024 .f32 := win0_0.stage (cfg0.slots t 0)
/-- a whole one. -/
abbrev hs0 (t : Fin cfg0.N) : (ms0 t).IsWhole := hstage0_0 ((cfg0.slots t 0).cast nbuf0_0)
/-- The buffer window 1 is staged in at tile `t`, -/
abbrev ms1 (t : Fin cfg0.N) : Memref sig .tc .vmem S1x512x256 .bf16 := win0_1.stage (cfg0.slots t 1)
/-- a whole one. -/
abbrev hs1 (t : Fin cfg0.N) : (ms1 t).IsWhole := hstage0_1 ((cfg0.slots t 1).cast nbuf0_1)
/-- The buffer window 2 is staged in at tile `t`, -/
abbrev ms2 (t : Fin cfg0.N) : Memref sig .tc .vmem S1x512x256 .bf16 := win0_2.stage (cfg0.slots t 2)
/-- a whole one. -/
abbrev hs2 (t : Fin cfg0.N) : (ms2 t).IsWhole := hstage0_2 ((cfg0.slots t 2).cast nbuf0_2)
/-- The buffer window 3 is staged in at tile `t`, -/
abbrev ms3 (t : Fin cfg0.N) : Memref sig .tc .vmem S1x512x512 .bf16 := win0_3.stage (cfg0.slots t 3)
/-- a whole one. -/
abbrev hs3 (t : Fin cfg0.N) : (ms3 t).IsWhole := hstage0_3 ((cfg0.slots t 3).cast nbuf0_3)
/-- The buffer window 4 is staged in at tile `t`, -/
abbrev ms4 (t : Fin cfg0.N) : Memref sig .tc .vmem S1x6x1024 .f32 := win0_4.stage (cfg0.slots t 4)
/-- a whole one. -/
abbrev hs4 (t : Fin cfg0.N) : (ms4 t).IsWhole := hstage0_4 ((cfg0.slots t 4).cast nbuf0_4)
/-- The buffer window 5 is staged in at tile `t`, -/
abbrev ms5 (t : Fin cfg0.N) : Memref sig .tc .vmem S1024x1024 .bf16 := win0_5.stage (cfg0.slots t 5)
/-- a whole one. -/
abbrev hs5 (t : Fin cfg0.N) : (ms5 t).IsWhole := hstage0_5 ((cfg0.slots t 5).cast nbuf0_5)
/-- The buffer window 6 is staged in at tile `t`, -/
abbrev ms6 (t : Fin cfg0.N) : Memref sig .tc .vmem S1x1024 .f32 := win0_6.stage (cfg0.slots t 6)
/-- a whole one. -/
abbrev hs6 (t : Fin cfg0.N) : (ms6 t).IsWhole := hstage0_6 ((cfg0.slots t 6).cast nbuf0_6)
/-- The buffer window 7 is staged in at tile `t`, -/
abbrev ms7 (t : Fin cfg0.N) : Memref sig .tc .vmem S11x1024x256 .bf16 := win0_7.stage (cfg0.slots t 7)
/-- a whole one. -/
abbrev hs7 (t : Fin cfg0.N) : (ms7 t).IsWhole := hstage0_7 ((cfg0.slots t 7).cast nbuf0_7)
/-- The buffer window 8 is staged in at tile `t`, -/
abbrev ms8 (t : Fin cfg0.N) : Memref sig .tc .vmem S11x1024x256 .bf16 := win0_8.stage (cfg0.slots t 8)
/-- a whole one. -/
abbrev hs8 (t : Fin cfg0.N) : (ms8 t).IsWhole := hstage0_8 ((cfg0.slots t 8).cast nbuf0_8)
/-- The buffer window 9 is staged in at tile `t`, -/
abbrev ms9 (t : Fin cfg0.N) : Memref sig .tc .vmem S11x3x256 .f32 := win0_9.stage (cfg0.slots t 9)
/-- a whole one. -/
abbrev hs9 (t : Fin cfg0.N) : (ms9 t).IsWhole := hstage0_9 ((cfg0.slots t 9).cast nbuf0_9)
/-- The buffer window 10 is staged in at tile `t`, -/
abbrev ms10 (t : Fin cfg0.N) : Memref sig .tc .vmem S11x3x256 .f32 := win0_10.stage (cfg0.slots t 10)
/-- a whole one. -/
abbrev hs10 (t : Fin cfg0.N) : (ms10 t).IsWhole := hstage0_10 ((cfg0.slots t 10).cast nbuf0_10)
/-- The buffer window 11 is staged in at tile `t`, -/
abbrev ms11 (t : Fin cfg0.N) : Memref sig .tc .vmem S11x256x1024 .bf16 := win0_11.stage (cfg0.slots t 11)
/-- a whole one. -/
abbrev hs11 (t : Fin cfg0.N) : (ms11 t).IsWhole := hstage0_11 ((cfg0.slots t 11).cast nbuf0_11)
/-- The buffer window 12 is staged in at tile `t`, -/
abbrev ms12 (t : Fin cfg0.N) : Memref sig .tc .vmem S1x1024 .f32 := win0_12.stage (cfg0.slots t 12)
/-- a whole one. -/
abbrev hs12 (t : Fin cfg0.N) : (ms12 t).IsWhole := hstage0_12 ((cfg0.slots t 12).cast nbuf0_12)
/-- The buffer window 13 is staged in at tile `t`, -/
abbrev ms13 (t : Fin cfg0.N) : Memref sig .tc .vmem S1x512x1024 .f32 := win0_13.stage (cfg0.slots t 13)
/-- a whole one. -/
abbrev hs13 (t : Fin cfg0.N) : (ms13 t).IsWhole := hstage0_13 ((cfg0.slots t 13).cast nbuf0_13)
/-- The hidden vectors' working buffer. -/
abbrev scM0 : Memref sig .tc .vmem S512x1024 .bf16 := Memref.whole cc0_scratch0
/-- The accumulator. -/
abbrev scM1 : Memref sig .tc .vmem S512x1024 .f32 := Memref.whole cc0_scratch1
/-- The first half's rows. -/
abbrev scM2 : Memref sig .tc .vmem S520x256 .f32 := Memref.whole cc0_scratch2
/-- The second half's rows. -/
abbrev scM3 : Memref sig .tc .vmem S520x256 .f32 := Memref.whole cc0_scratch3
/-- The carried rows of the first half. -/
abbrev scM4 : Memref sig .tc .vmem S11x8x256 .f32 := Memref.whole cc0_scratch4
/-- The carried rows of the second half. -/
abbrev scM5 : Memref sig .tc .vmem S11x8x256 .f32 := Memref.whole cc0_scratch5

/-! ## What the tiles leave -/

/-- What tile `s` leaves in the first array of carried rows, -/
def lastG (c : Dev nD) (s : Fin cfg0.N) : Vec F S11x8x256 .f32 := lastRows (normed (iblk m c 0 s) (iblk m c 1 s) (iblk m c 2 s) (iblk m c 3 s) (iblk m c 4 s) (iblk m c 5 s) (iblk m c 6 s)) (iblk m c 7 s)
/-- and in the second. -/
def lastU (c : Dev nD) (s : Fin cfg0.N) : Vec F S11x8x256 .f32 := lastRows (normed (iblk m c 0 s) (iblk m c 1 s) (iblk m c 2 s) (iblk m c 3 s) (iblk m c 4 s) (iblk m c 5 s) (iblk m c 6 s)) (iblk m c 8 s)

/-- The tile before `t`. -/
def prev (t : Fin cfg0.N) : Fin cfg0.N := ⟨t.val - 1, lt_of_le_of_lt (Nat.sub_le _ _) t.isLt⟩

/-- The carried rows tile `t` starts from: cleared at the first tile of a batch entry, the previous tile's otherwise. -/
def carryG (c : Dev nD) (t : Fin cfg0.N) : Vec F S11x8x256 .f32 := if t.val % 16 = 0 then k0_pay12 else lastG m c (prev t)
/-- The same for the second half. -/
def carryU (c : Dev nD) (t : Fin cfg0.N) : Vec F S11x8x256 .f32 := if t.val % 16 = 0 then k0_pay13 else lastU m c (prev t)

/-- The block tile `t` writes. -/
def tileOut (c : Dev nD) (t : Fin cfg0.N) : Vec F S1x512x1024 .f32 :=
  outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (carryG m c t) (carryU m c t)

/-- The kernel's test holds at the first tile of each batch entry. -/
theorem startsBatch_iff : ∀ t : Fin cfg0.N, startsBatch (grid0.coords t) ↔ t.val % 16 = 0 := by decide +kernel

/-! ## The pipeline's proof data -/

/-- Between tiles: the working buffers at some contents, the carried rows at what the tile before left. -/
def inv (c : Dev nD) (t : Fin (cfg0.N + 1)) : sProp 𝕄 :=
  iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)
    ∗ (∃ g, ⌜∀ s : Fin cfg0.N, s.val + 1 = t.val → g = lastG m c s⌝ ∗ owns (c : Thread nD τ) scM4 fullShare g)
    ∗ (∃ g, ⌜∀ s : Fin cfg0.N, s.val + 1 = t.val → g = lastU m c s⌝ ∗ owns (c : Thread nD τ) scM5 fullShare g)
    ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => tileOut m c t
  Φ t := inv m c t
  q _ := fullShare
  owed _ := 0

/-- The data start from what the host left in the operands. -/
theorem A_eq (c : Dev nD) (w : Fin cfg0.W) : (dats m 0 c).A w = V m c (Pipeline.arrRef spec0 w) := by
  dsimp only [dats]

/-- Window 0 after tile `t`: its block, as it was read. -/
theorem after0_0 (c : Dev nD) (t : Fin cfg0.N) : (dats m 0 c).after 0 t = iblk m c 0 t := by dsimp only [dats]
/-- Window 1 after tile `t`: its block, as it was read. -/
theorem after0_1 (c : Dev nD) (t : Fin cfg0.N) : (dats m 0 c).after 1 t = iblk m c 1 t := by dsimp only [dats]
/-- Window 2 after tile `t`: its block, as it was read. -/
theorem after0_2 (c : Dev nD) (t : Fin cfg0.N) : (dats m 0 c).after 2 t = iblk m c 2 t := by dsimp only [dats]
/-- Window 3 after tile `t`: its block, as it was read. -/
theorem after0_3 (c : Dev nD) (t : Fin cfg0.N) : (dats m 0 c).after 3 t = iblk m c 3 t := by dsimp only [dats]
/-- Window 4 after tile `t`: its block, as it was read. -/
theorem after0_4 (c : Dev nD) (t : Fin cfg0.N) : (dats m 0 c).after 4 t = iblk m c 4 t := by dsimp only [dats]
/-- Window 5 after tile `t`: its block, as it was read. -/
theorem after0_5 (c : Dev nD) (t : Fin cfg0.N) : (dats m 0 c).after 5 t = iblk m c 5 t := by dsimp only [dats]
/-- Window 6 after tile `t`: its block, as it was read. -/
theorem after0_6 (c : Dev nD) (t : Fin cfg0.N) : (dats m 0 c).after 6 t = iblk m c 6 t := by dsimp only [dats]
/-- Window 7 after tile `t`: its block, as it was read. -/
theorem after0_7 (c : Dev nD) (t : Fin cfg0.N) : (dats m 0 c).after 7 t = iblk m c 7 t := by dsimp only [dats]
/-- Window 8 after tile `t`: its block, as it was read. -/
theorem after0_8 (c : Dev nD) (t : Fin cfg0.N) : (dats m 0 c).after 8 t = iblk m c 8 t := by dsimp only [dats]
/-- Window 9 after tile `t`: its block, as it was read. -/
theorem after0_9 (c : Dev nD) (t : Fin cfg0.N) : (dats m 0 c).after 9 t = iblk m c 9 t := by dsimp only [dats]
/-- Window 10 after tile `t`: its block, as it was read. -/
theorem after0_10 (c : Dev nD) (t : Fin cfg0.N) : (dats m 0 c).after 10 t = iblk m c 10 t := by dsimp only [dats]
/-- Window 11 after tile `t`: its block, as it was read. -/
theorem after0_11 (c : Dev nD) (t : Fin cfg0.N) : (dats m 0 c).after 11 t = iblk m c 11 t := by dsimp only [dats]
/-- Window 12 after tile `t`: its block, as it was read. -/
theorem after0_12 (c : Dev nD) (t : Fin cfg0.N) : (dats m 0 c).after 12 t = iblk m c 12 t := by dsimp only [dats]
/-- The output window after tile `t`: what the tile wrote. -/
theorem after0_13 (c : Dev nD) (t : Fin cfg0.N) : (dats m 0 c).after 13 t = tileOut m c t := by dsimp only [dats]

/-- Each input's staging buffer holds its block at every tile. -/
theorem before0_0 (c : Dev nD) (t : Fin cfg0.N) (d) : (dats m 0 c).before 0 t d = iblk m c 0 t :=
  before0_0_of m (dats m 0 c) (A_eq m c 0) (after0_0 m c) t d
/-- Window 1 before the body. -/
theorem before0_1 (c : Dev nD) (t : Fin cfg0.N) (d) : (dats m 0 c).before 1 t d = iblk m c 1 t :=
  before0_1_of m (dats m 0 c) (A_eq m c 1) (after0_1 m c) t d
/-- Window 2 before the body. -/
theorem before0_2 (c : Dev nD) (t : Fin cfg0.N) (d) : (dats m 0 c).before 2 t d = iblk m c 2 t :=
  before0_2_of m (dats m 0 c) (A_eq m c 2) (after0_2 m c) t d
/-- Window 3 before the body. -/
theorem before0_3 (c : Dev nD) (t : Fin cfg0.N) (d) : (dats m 0 c).before 3 t d = iblk m c 3 t :=
  before0_3_of m (dats m 0 c) (A_eq m c 3) (after0_3 m c) t d
/-- Window 4 before the body. -/
theorem before0_4 (c : Dev nD) (t : Fin cfg0.N) (d) : (dats m 0 c).before 4 t d = iblk m c 4 t :=
  before0_4_of m (dats m 0 c) (A_eq m c 4) (after0_4 m c) t d
/-- Window 5 before the body. -/
theorem before0_5 (c : Dev nD) (t : Fin cfg0.N) (d) : (dats m 0 c).before 5 t d = iblk m c 5 t :=
  before0_5_of m (dats m 0 c) (A_eq m c 5) (after0_5 m c) t d
/-- Window 6 before the body. -/
theorem before0_6 (c : Dev nD) (t : Fin cfg0.N) (d) : (dats m 0 c).before 6 t d = iblk m c 6 t :=
  before0_6_of m (dats m 0 c) (A_eq m c 6) (after0_6 m c) t d
/-- Window 7 before the body. -/
theorem before0_7 (c : Dev nD) (t : Fin cfg0.N) (d) : (dats m 0 c).before 7 t d = iblk m c 7 t :=
  before0_7_of m (dats m 0 c) (A_eq m c 7) (after0_7 m c) t d
/-- Window 8 before the body. -/
theorem before0_8 (c : Dev nD) (t : Fin cfg0.N) (d) : (dats m 0 c).before 8 t d = iblk m c 8 t :=
  before0_8_of m (dats m 0 c) (A_eq m c 8) (after0_8 m c) t d
/-- Window 9 before the body. -/
theorem before0_9 (c : Dev nD) (t : Fin cfg0.N) (d) : (dats m 0 c).before 9 t d = iblk m c 9 t :=
  before0_9_of m (dats m 0 c) (A_eq m c 9) (after0_9 m c) t d
/-- Window 10 before the body. -/
theorem before0_10 (c : Dev nD) (t : Fin cfg0.N) (d) : (dats m 0 c).before 10 t d = iblk m c 10 t :=
  before0_10_of m (dats m 0 c) (A_eq m c 10) (after0_10 m c) t d
/-- Window 11 before the body. -/
theorem before0_11 (c : Dev nD) (t : Fin cfg0.N) (d) : (dats m 0 c).before 11 t d = iblk m c 11 t :=
  before0_11_of m (dats m 0 c) (A_eq m c 11) (after0_11 m c) t d
/-- Window 12 before the body. -/
theorem before0_12 (c : Dev nD) (t : Fin cfg0.N) (d) : (dats m 0 c).before 12 t d = iblk m c 12 t :=
  before0_12_of m (dats m 0 c) (A_eq m c 12) (after0_12 m c) t d

/-! ## The body at every tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 1600000 in
/-- The body at any tile: the first tile of a batch entry clears the carried rows, the others find what the
    tile before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = inv m c t.succ from rfl, show (dats m 0 c).Φ t.castSucc = inv m c t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  unfold inv tileOut
  have hnext : ∀ L : Fin cfg0.N → Vec F S11x8x256 .f32, ∀ s : Fin cfg0.N, s.val + 1 = t.succ.val → L t = L s := fun L s h =>
    congrArg L (Fin.ext (by have : t.succ.val = t.val + 1 := rfl; omega))
  iintro ⟨⟨S0, S1, S2, S3, ⟨%g, %hg, S4⟩, ⟨%h, %hh, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases ht : t.val % 16 = 0
  · rw [show carryG m c t = k0_pay12 from if_pos ht, show carryU m c t = k0_pay13 from if_pos ht]
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM0 (Memref.isWhole_whole _) scM1 (Memref.isWhole_whole _) scM2 (Memref.isWhole_whole _) scM3 (Memref.isWhole_whole _) scM4 (Memref.isWhole_whole _) scM5 (Memref.isWhole_whole _) ((startsBatch_iff t).2 ht) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    isplitl [S4]; · iexists _; iexact S4
    isplitl [S5]; · iexists _; iexact S5
    iintro ⟨H0, H1, H2, H3, H4, H5, H6, H7, H8, H9, H10, H11, H12, H13, S0, S1, S2, S3, S4, S5⟩
    isplitl [S0 S1 S2 S3 S4 S5 Hg]
    · isplitl [S0]; · iexact S0
      isplitl [S1]; · iexact S1
      isplitl [S2]; · iexact S2
      isplitl [S3]; · iexact S3
      isplitl [S4]
      · iexists _; isplitr; swap; iexact S4
        ipureintro; exact hnext (lastG m c)
      isplitl [S5]
      · iexists _; isplitr; swap; iexact S5
        ipureintro; exact hnext (lastU m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have hp : (prev t).val + 1 = t.castSucc.val := by
      show t.val - 1 + 1 = t.val
      omega
    obtain rfl := hg (prev t) hp
    obtain rfl := hh (prev t) hp
    rw [show carryG m c t = lastG m c (prev t) from if_neg ht, show carryU m c t = lastU m c (prev t) from if_neg ht]
    iapply (run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM0 (Memref.isWhole_whole _) scM1 (Memref.isWhole_whole _) scM2 (Memref.isWhole_whole _) scM3 (Memref.isWhole_whole _) scM4 (Memref.isWhole_whole _) scM5 (Memref.isWhole_whole _) (fun h => ht ((startsBatch_iff t).1 h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (lastG m c (prev t)) (lastU m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, S0, S1, S2, S3, S4, S5⟩
    isplitl [S0 S1 S2 S3 S4 S5 Hg]
    · isplitl [S0]; · iexact S0
      isplitl [S1]; · iexact S1
      isplitl [S2]; · iexact S2
      isplitl [S3]; · iexact S3
      isplitl [S4]
      · iexists _; isplitr; swap; iexact S4
        ipureintro; exact hnext (lastG m c)
      isplitl [S5]
      · iexists _; isplitr; swap; iexact S5
        ipureintro; exact hnext (lastU m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body run at tile `t`. -/
theorem defs₀_row (t : Fin cfg0.N) :
    defs₀ (F := F) .tc cfg0.body (cfg0.bodyArgs t (cfg0.slots t)) = bodyAt0 t := by
  unfold defs₀; rw [Defs.onTc_tc]

/-- The body's obligation at every tile. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the launch hands over: the working buffers at some contents. -/
theorem inv_first (c : Dev nD) : (Pipeline.ΦA spec0 c : sProp 𝕄) ⊢ (dats m 0 c).Φ 0 := by
  rw [show (dats m 0 c).Φ 0 = inv m c 0 from rfl]
  unfold inv Pipeline.ΦA; rw [scopedRest0_eq]; simp only [scM0, scM1, scM2, scM3, scM4, scM5, owns_whole]
  iintro ⟨⟨S0, S1, S2, S3, ⟨%g, S4⟩, ⟨%h, S5⟩⟩, Hg⟩
  isplitl [S0]; · iexact S0
  isplitl [S1]; · iexact S1
  isplitl [S2]; · iexact S2
  isplitl [S3]; · iexact S3
  isplitl [S4]
  · iexists g; isplitr; swap; iexact S4
    ipureintro; exact fun s hs => absurd hs (Nat.succ_ne_zero _)
  isplitl [S5]
  · iexists h; isplitr; swap; iexact S5
    ipureintro; exact fun s hs => absurd hs (Nat.succ_ne_zero _)
  iexact Hg

/-- What it takes back. -/
theorem inv_last (c : Dev nD) : (dats m 0 c).Φ (Fin.last cfg0.N) ⊢ (Pipeline.ΦA spec0 c : sProp 𝕄) := by
  rw [show (dats m 0 c).Φ (Fin.last cfg0.N) = inv m c (Fin.last cfg0.N) from rfl]
  unfold inv Pipeline.ΦA; rw [scopedRest0_eq]; simp only [scM0, scM1, scM2, scM3, scM4, scM5, owns_whole]
  iintro ⟨S0, S1, S2, S3, ⟨%g, %hg, S4⟩, ⟨%h, %hh, S5⟩, Hg⟩
  isplitl [S0 S1 S2 S3 S4 S5]
  · isplitl [S0]; · iexact S0
    isplitl [S1]; · iexact S1
    isplitl [S2]; · iexact S2
    isplitl [S3]; · iexact S3
    isplitl [S4]; · iexists g; iexact S4
    iexists h; iexact S5
  iexact Hg

set_option backward.isDefEq.respectTransparency.types false in
/-- Every execution ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := inv_first m) (hout := inv_last m)

/-- The call runs, and ends with what its tiles wrote. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Ffn
-- ==== Proof.FfnBlock.lean ====
/- What a tile's hidden vectors are: the entries of its two intermediate matrices, token by token. -/
module

public import proofs.«01_k».proof.Proof.FfnWeights
public import proofs.«01_k».proof.Proof.FfnFrame

@[expose] public section

set_option maxRecDepth 16384

noncomputable section

namespace Cert.Ffn

open Cert.KernelFIdeal Cert.KernelFIdeal.Gen Idealize.ShloMosaic Idealize.ShloMosaic.TcCoe Idealize.SL.Sem

variable (m : (ℓ : Loc nD τ sig) → Buf (Elt Ideal) ℓ)

/-- A sum over the three mixers' outputs laid side by side is the three sums. -/
theorem cat_sum (A : Args) (b : Fin 4) (s : Fin 8192) (f : Fin 1024 → EReal) :
    ∑ k : Fin 1024, cat A b s k * f k
      = (∑ k : Fin 256, A.oa (ix3 b s k) * f ⟨k.val, by omega⟩ + ∑ k : Fin 256, A.ob (ix3 b s k) * f ⟨256 + k.val, by omega⟩)
        + ∑ k : Fin 512, A.oc (ix3 b s k) * f ⟨512 + k.val, by omega⟩ := by
  refine (Fin.sum_univ_add (a := 512) (b := 512) (fun k => cat A b s k * f k)).trans ?_
  refine congrArg₂ (· + ·) ?_ ?_
  · refine (Fin.sum_univ_add (a := 256) (b := 256) (fun k => cat A b s (Fin.castAdd 512 k) * f (Fin.castAdd 512 k))).trans ?_
    refine congrArg₂ (· + ·) ?_ ?_
    · refine Finset.sum_congr rfl fun k _ => congrArg₂ (· * ·) ?_ rfl
      unfold cat
      rw [dif_pos (show (Fin.castAdd 512 (Fin.castAdd 256 k)).val < 256 from k.isLt)]
      rfl
    · refine Finset.sum_congr rfl fun k _ => congrArg₂ (· * ·) ?_ rfl
      have h1 : (Fin.castAdd 512 (Fin.natAdd 256 k)).val = 256 + k.val := rfl
      unfold cat
      rw [dif_neg (by omega), dif_pos (by omega)]
      exact congrArg A.ob (congrArg (ix3 b s) (Fin.ext (by show 256 + k.val - 256 = k.val; omega)))
  · refine Finset.sum_congr rfl fun k _ => congrArg₂ (· * ·) ?_ rfl
    have h1 : (Fin.natAdd 512 k).val = 512 + k.val := rfl
    unfold cat
    rw [dif_neg (by omega), dif_neg (by omega)]
    exact congrArg A.oc (congrArg (ix3 b s) (Fin.ext (by show 512 + k.val - 512 = k.val; omega)))

/-- There are eleven chunks. -/
theorem chunk_lt (k : Fin k0_t1_loop.trips) : k.val < 11 := lt_of_lt_of_eq k.isLt (by decide +kernel)

/-- A plane's entry, from where the plane starts. -/
theorem starts (o : Fin 3 → ℕ) (k : ℕ) (ho : o = ![k, 0, 0]) (p q : ℕ) : ∀ a : Fin 3, (![k, p, q] a : ℕ) = o a + ![0, p, q] a := by
  subst ho
  intro a
  fin_cases a
  · rfl
  · exact (Nat.zero_add _).symm
  · exact (Nat.zero_add _).symm

/-- Chunk `k` of the weights is plane `k` of the array. -/
theorem ldW_at (x : Vec Ideal S11x1024x256 .bf16) (k : Fin k0_t1_loop.trips) (p : Fin 1024) (q : Fin 256) :
    ldW x k (ix3 0 p q) = x (ix3 ⟨k.val, chunk_lt k⟩ p q) :=
  View.ld_unit_apply_of _ _ _ _ _ (ix3 ⟨k.val, chunk_lt k⟩ p q) (fun a => by
    have := starts _ k.val (off1 k) p.val q.val a
    fin_cases a <;> exact this)

/-- Chunk `k` of the taps is plane `k` of the array. -/
theorem ldC_at (x : Vec Ideal S11x3x256 .f32) (k : Fin k0_t1_loop.trips) (p : Fin 3) (q : Fin 256) :
    ldC x k (ix3 0 p q) = x (ix3 ⟨k.val, chunk_lt k⟩ p q) :=
  View.ld_unit_apply_of _ _ _ _ _ (ix3 ⟨k.val, chunk_lt k⟩ p q) (fun a => by
    have := starts _ k.val (off2 k) p.val q.val a
    fin_cases a <;> exact this)

/-- Chunk `k` of the carried rows is plane `k` of the array. -/
theorem ldH_at (x : Vec Ideal S11x8x256 .f32) (k : Fin k0_t1_loop.trips) (p : Fin 8) (q : Fin 256) :
    ldH x k (ix3 0 p q) = x (ix3 ⟨k.val, chunk_lt k⟩ p q) :=
  View.ld_unit_apply_of _ _ _ _ _ (ix3 ⟨k.val, chunk_lt k⟩ p q) (fun a => by
    have := starts _ k.val (off3 k) p.val q.val a
    fin_cases a <;> exact this)

/-- Chunk `k` of the down-projection rows is plane `k` of the array. -/
theorem ldD_at (x : Vec Ideal S11x256x1024 .bf16) (k : Fin k0_t1_loop.trips) (p : Fin 256) (q : Fin 1024) :
    ldD x k (ix3 0 p q) = x (ix3 ⟨k.val, chunk_lt k⟩ p q) :=
  View.ld_unit_apply_of _ _ _ _ _ (ix3 ⟨k.val, chunk_lt k⟩ p q) (fun a => by
    have := starts _ k.val (off4 k) p.val q.val a
    fin_cases a <;> exact this)

section tile
variable (c : Dev nD) (t : Fin cfg0.N) (r : Fin 512) (b : Fin 4) (s : Fin 8192)
    (hb : b.val = t.val / 16) (hs : s.val = t.val % 16 * 512 + r.val)
include hb

/-- The modulation block holds the batch entry's rows. -/
theorem blk4 (i : Fin 6) (j : Fin 1024) : iblk m c 4 t (ix3 0 i j) = ((args m c).md (ix3 b i j) : EReal) := by
  blk_ext [iblk, V, args, idx t]

include hs

/-- Row `r` of a tile's blocks is token `s`. -/
theorem blk0 (j : Fin 1024) : iblk m c 0 t (ix3 0 r j) = ((args m c).x (ix3 b s j) : EReal) := by
  blk_ext [iblk, V, args, idx t]
/-- The same of the first mixer's output, -/
theorem blk1 (j : Fin 256) : iblk m c 1 t (ix3 0 r j) = ((args m c).oa (ix3 b s j) : EReal) := by
  blk_ext [iblk, V, args, idx t]
/-- of the second's, -/
theorem blk2 (j : Fin 256) : iblk m c 2 t (ix3 0 r j) = ((args m c).ob (ix3 b s j) : EReal) := by
  blk_ext [iblk, V, args, idx t]
/-- and of the third's. -/
theorem blk3 (j : Fin 512) : iblk m c 3 t (ix3 0 r j) = ((args m c).oc (ix3 b s j) : EReal) := by
  blk_ext [iblk, V, args, idx t]

/-- Row `r` of the mixed hidden state is token `s`'s. -/
theorem mixed_at (j : Fin 1024) :
    mixed (iblk m c 0 t) (iblk m c 1 t) (iblk m c 2 t) (iblk m c 3 t) (iblk m c 4 t) (iblk m c 5 t) (ix2 r j) = x1 (args m c) b s j := by
  have h0 := blk0 m c t r b s hb hs
  have h1 := blk1 m c t r b s hb hs
  have h2 := blk2 m c t r b s hb hs
  have h3 := blk3 m c t r b s hb hs
  have h4 := blk4 m c t b hb
  have h5 := blk5 m c t
  pointwise [mixed, gate1, mixAB, wC, k0_pay21, k0_pay20, k0_pay19, k0_pay18, k0_pay14, h0, h1, h2, h3, h4, h5]
  rw [x1, cat_sum]

/-- Row `r` of the network's input is token `s`'s hidden vector. -/
theorem normed_at (k : Fin 1024) :
    normed (iblk m c 0 t) (iblk m c 1 t) (iblk m c 2 t) (iblk m c 3 t) (iblk m c 4 t) (iblk m c 5 t) (iblk m c 6 t) (ix2 r k)
      = hid (args m c) b s k := by
  have hm : ∀ j : Fin 1024, mixed (iblk m c 0 t) (iblk m c 1 t) (iblk m c 2 t) (iblk m c 3 t) (iblk m c 4 t) (iblk m c 5 t) (ix2 r j) = _ :=
    fun j => mixed_at m c t r b s hb hs j
  unfold mixed at hm
  have h4 := blk4 m c t b hb
  have h6 := blk6 m c t
  unfold normed
  generalize hG : gate1 (iblk m c 4 t) = G at hm ⊢
  generalize mixAB (iblk m c 1 t) (iblk m c 2 t) (iblk m c 5 t) = M at hm ⊢
  generalize k0_pay19 (iblk m c 3 t) = C at hm ⊢
  generalize wC (iblk m c 5 t) = W at hm ⊢
  pointwise [shift2, scale2, k0_pay22, k0_pay15, k0_pay16, hm, h4, h6]
  rfl

/-- Row `r` of a chunk's first product, column `q`, is the token's up-projection at that column, -/
theorem prodG_at (k : Fin k0_t1_loop.trips) (q : Fin 256) (hq : k.val * 256 + q.val < 5632) :
    k0_pay2 (normed (iblk m c 0 t) (iblk m c 1 t) (iblk m c 2 t) (iblk m c 3 t) (iblk m c 4 t) (iblk m c 5 t) (iblk m c 6 t))
      (ldW (iblk m c 7 t) k) (ix2 r q) = up (args m c) b s ⟨k.val * 256 + q.val, hq⟩ := by
  have hn := normed_at m c t r b s hb hs
  have hw : ∀ l : Fin 1024, ldW (iblk m c 7 t) k (ix3 0 l q) = ((args m c).wu (ix2 l ⟨k.val * 256 + q.val, hq⟩) : EReal) := fun l =>
    (ldW_at _ k l q).trans (blk7 m c t ⟨k.val, chunk_lt k⟩ l q)
  generalize normed (iblk m c 0 t) (iblk m c 1 t) (iblk m c 2 t) (iblk m c 3 t) (iblk m c 4 t) (iblk m c 5 t) (iblk m c 6 t) = H at hn ⊢
  generalize ldW (iblk m c 7 t) k = W at hw ⊢
  pointwise [k0_pay2, hn, hw]
  rfl

/-- and of its second, the one in the second half. -/
theorem prodU_at (k : Fin k0_t1_loop.trips) (q : Fin 256) (hq : 2816 + (k.val * 256 + q.val) < 5632) :
    k0_pay2 (normed (iblk m c 0 t) (iblk m c 1 t) (iblk m c 2 t) (iblk m c 3 t) (iblk m c 4 t) (iblk m c 5 t) (iblk m c 6 t))
      (ldW (iblk m c 8 t) k) (ix2 r q) = up (args m c) b s ⟨2816 + (k.val * 256 + q.val), hq⟩ := by
  have hn := normed_at m c t r b s hb hs
  have hw : ∀ l : Fin 1024, ldW (iblk m c 8 t) k (ix3 0 l q) = ((args m c).wu (ix2 l ⟨2816 + (k.val * 256 + q.val), hq⟩) : EReal) := fun l =>
    (ldW_at _ k l q).trans (blk8 m c t ⟨k.val, chunk_lt k⟩ l q)
  generalize normed (iblk m c 0 t) (iblk m c 1 t) (iblk m c 2 t) (iblk m c 3 t) (iblk m c 4 t) (iblk m c 5 t) (iblk m c 6 t) = H at hn ⊢
  generalize ldW (iblk m c 8 t) k = W at hw ⊢
  pointwise [k0_pay2, hn, hw]
  rfl

end tile

end Cert.Ffn
-- ==== Proof.FfnConv.lean ====
/- What the chunks of a tile contribute: the convolution of the rows the tile before left and of the tile's own
   products is the causal convolution along the tokens, and the accumulator sums the gated activations against
   the down-projection over all 2816 columns. -/
module

public import proofs.«01_k».proof.Proof.FfnBlock

@[expose] public section

set_option maxRecDepth 16384

noncomputable section

namespace Cert.Ffn

open Cert.KernelFIdeal Cert.KernelFIdeal.Gen Idealize.ShloMosaic Idealize.ShloMosaic.TcCoe Idealize.SL.Sem

variable (m : (ℓ : Loc nD τ sig) → Buf (Elt Ideal) ℓ)

/-! ## The carried rows -/

section carried
variable (c : Dev nD) (t : Fin cfg0.N) (b : Fin 4) (hb : b.val = t.val / 16)
include hb

/-- The tile before `t`, in the same batch entry, holds the token 512 earlier. -/
theorem prev_place (h : t.val % 16 ≠ 0) : b.val = (prev t).val / 16 ∧ (prev t).val % 16 * 512 + 512 = t.val % 16 * 512 := by
  have hv : (prev t).val = t.val - 1 := rfl
  omega

/-- The last two carried rows of the first half are the two tokens before the tile, or zero before the first; -/
theorem carryG_at (k : Fin 11) (p : Fin 8) (hp : 6 ≤ p.val) (q : Fin 256) (hq : k.val * 256 + q.val < 5632) :
    carryG m c t (ix3 k p q) = upPad (args m c) b (t.val % 16 * 512 + p.val - 6) ⟨k.val * 256 + q.val, hq⟩ := by
  unfold carryG
  have ht : t.val < 64 := t.isLt
  by_cases h : t.val % 16 = 0
  · rw [if_pos h, upPad, dif_neg (by omega)]
    pointwise [k0_pay12]
  · rw [if_neg h, upPad, dif_pos (by omega)]
    have hk : k.val < k0_t1_loop.trips := lt_of_lt_of_eq k.isLt (by decide +kernel)
    obtain ⟨h1, h2⟩ := prev_place t b hb h
    refine (dif_pos hk).trans ?_
    refine Eq.trans ?_ (prodG_at m c (prev t) ⟨504 + p.val, by omega⟩ b ⟨t.val % 16 * 512 + p.val - 6 - 2, by omega⟩ h1
      (by show t.val % 16 * 512 + p.val - 6 - 2 = (prev t).val % 16 * 512 + (504 + p.val); omega) ⟨k.val, hk⟩ q hq)
    pointwise [k0_pay9]

/-- and so are those of the second half. -/
theorem carryU_at (k : Fin 11) (p : Fin 8) (hp : 6 ≤ p.val) (q : Fin 256) (hq : 2816 + (k.val * 256 + q.val) < 5632) :
    carryU m c t (ix3 k p q) = upPad (args m c) b (t.val % 16 * 512 + p.val - 6) ⟨2816 + (k.val * 256 + q.val), hq⟩ := by
  unfold carryU
  have ht : t.val < 64 := t.isLt
  by_cases h : t.val % 16 = 0
  · rw [if_pos h, upPad, dif_neg (by omega)]
    pointwise [k0_pay13]
  · rw [if_neg h, upPad, dif_pos (by omega)]
    have hk : k.val < k0_t1_loop.trips := lt_of_lt_of_eq k.isLt (by decide +kernel)
    obtain ⟨h1, h2⟩ := prev_place t b hb h
    refine (dif_pos hk).trans ?_
    refine Eq.trans ?_ (prodU_at m c (prev t) ⟨504 + p.val, by omega⟩ b ⟨t.val % 16 * 512 + p.val - 6 - 2, by omega⟩ h1
      (by show t.val % 16 * 512 + p.val - 6 - 2 = (prev t).val % 16 * 512 + (504 + p.val); omega) ⟨k.val, hk⟩ q hq)
    pointwise [k0_pay9]

end carried

/-! ## The convolution of a chunk, for any sequence of rows -/

section conv
variable (H : Vec Ideal S512x1024 .bf16) (W : Vec Ideal S1x1024x256 .bf16) (hd : Vec Ideal S1x8x256 .f32) (f : ℕ → EReal) (n : ℕ) (q : Fin 256)
    (hlo : ∀ p : Fin 8, 6 ≤ p.val → hd (ix3 0 p q) = f (n + p.val - 6)) (hhi : ∀ r : Fin 512, k0_pay2 H W (ix2 r q) = f (n + r.val + 2))
include hlo hhi

/-- The rows read from the seventh on are the sequence from `n` on. -/
theorem rows_at (i : Fin 520) (hi : 6 ≤ i.val) : rows H W hd (ix2 i q) = f (n + i.val - 6) := by
  by_cases h : i.val < 8
  · refine (rows_lo H W hd (ix2 ⟨i.val, h⟩ q) (ix2 i q) rfl rfl).trans ?_
    refine Eq.trans ?_ (hlo ⟨i.val, h⟩ hi)
    pointwise [k0_pay5]
  · refine (rows_hi H W hd (ix2 ⟨i.val - 8, by omega⟩ q) (ix2 i q) (by show i.val = 8 + (i.val - 8); omega) rfl).trans ?_
    refine (hhi ⟨i.val - 8, by omega⟩).trans (congrArg f ?_)
    show n + (i.val - 8) + 2 = n + i.val - 6
    omega

/-- The convolution at row `r` combines the sequence's three entries from `n + r` on. -/
theorem conv_at (cg : Vec Ideal S1x3x256 .f32) (w : Fin 3 → EReal) (hc : ∀ p : Fin 3, cg (ix3 0 p q) = w p) (r : Fin 512) :
    conv cg (rows H W hd) (ix2 r q) = f (n + r.val) * w 0 + f (1 + (n + r.val)) * w 1 + f (2 + (n + r.val)) * w 2 := by
  have hr := rows_at H W hd f n q hlo hhi
  generalize rows H W hd = R at hr ⊢
  have e6 := hr ⟨6 + r.val, by omega⟩ (by show 6 ≤ 6 + r.val; omega)
  have e7 := hr ⟨7 + r.val, by omega⟩ (by show 6 ≤ 7 + r.val; omega)
  have e8 := hr ⟨8 + r.val, by omega⟩ (by show 6 ≤ 8 + r.val; omega)
  rw [show n + (6 + r.val) - 6 = n + r.val by omega] at e6
  rw [show n + (7 + r.val) - 6 = 1 + (n + r.val) by omega] at e7
  rw [show n + (8 + r.val) - 6 = 2 + (n + r.val) by omega] at e8
  rw [← e6, ← e7, ← e8]
  pointwise [conv, k0_pay8, k0_pay7, k0_pay6, k0_pay4, hc]
  rw [mul_comm (w 0), mul_comm (w 1), mul_comm (w 2)]

end conv

/-! ## The accumulator -/

/-- Term `i` of the down-projection's sum for token `s`, output `j`. -/
def term (A : Args) (b : Fin 4) (s : Fin 8192) (j : Fin 1024) (i : ℕ) : EReal :=
  if h : i < 2816 then act A b s ⟨i, h⟩ * A.wd (ix2 ⟨i, h⟩ j) else 0

/-- The down-projection's sum, over the numbers below 2816. -/
theorem sum_term (A : Args) (b : Fin 4) (s : Fin 8192) (j : Fin 1024) :
    ∑ i ∈ Finset.range 2816, term A b s j i = ∑ i : Fin 2816, act A b s i * A.wd (ix2 i j) :=
  (Finset.sum_range (term A b s j)).trans (Finset.sum_congr rfl fun i _ => dif_pos i.isLt)

section tile
variable (c : Dev nD) (t : Fin cfg0.N) (r : Fin 512) (b : Fin 4) (s : Fin 8192)
    (hb : b.val = t.val / 16) (hs : s.val = t.val % 16 * 512 + r.val)
include hb hs

/-- The tile's normalised hidden vectors. -/
abbrev tileHid (c : Dev nD) (t : Fin cfg0.N) : FVec Ideal S512x1024 .bf16 :=
  normed (iblk m c 0 t) (iblk m c 1 t) (iblk m c 2 t) (iblk m c 3 t) (iblk m c 4 t) (iblk m c 5 t) (iblk m c 6 t)

/-- The first half's convolution is the token's; -/
theorem convG_at (k : Fin k0_t1_loop.trips) (q : Fin 256) (hq : k.val * 256 + q.val < 5632) :
    conv (ldC (iblk m c 9 t) k) (rows (tileHid m c t) (ldW (iblk m c 7 t) k) (ldH (carryG m c t) k)) (ix2 r q)
      = cv (args m c) b s ⟨k.val * 256 + q.val, hq⟩ := by
  have ht : t.val < 64 := t.isLt
  refine (conv_at _ _ _ (fun i => upPad (args m c) b i ⟨k.val * 256 + q.val, hq⟩) (t.val % 16 * 512) q
    (fun p hp => (ldH_at _ k p q).trans (carryG_at m c t b hb ⟨k.val, chunk_lt k⟩ p hp q hq))
    (fun r' => (prodG_at m c t r' b ⟨t.val % 16 * 512 + r'.val, by omega⟩ hb rfl k q hq).trans ?_) _
    (fun p => (args m c).cw (ix2 p ⟨k.val * 256 + q.val, hq⟩))
    (fun p => (ldC_at _ k p q).trans (blk9 m c t ⟨k.val, chunk_lt k⟩ p q)) r).trans ?_
  · show _ = upPad _ _ _ _
    rw [upPad, dif_pos (by omega)]
    rfl
  · rw [← hs]
    rfl

/-- the second half's likewise. -/
theorem convU_at (k : Fin k0_t1_loop.trips) (q : Fin 256) (hq : 2816 + (k.val * 256 + q.val) < 5632) :
    conv (ldC (iblk m c 10 t) k) (rows (tileHid m c t) (ldW (iblk m c 8 t) k) (ldH (carryU m c t) k)) (ix2 r q)
      = cv (args m c) b s ⟨2816 + (k.val * 256 + q.val), hq⟩ := by
  have ht : t.val < 64 := t.isLt
  refine (conv_at _ _ _ (fun i => upPad (args m c) b i ⟨2816 + (k.val * 256 + q.val), hq⟩) (t.val % 16 * 512) q
    (fun p hp => (ldH_at _ k p q).trans (carryU_at m c t b hb ⟨k.val, chunk_lt k⟩ p hp q hq))
    (fun r' => (prodU_at m c t r' b ⟨t.val % 16 * 512 + r'.val, by omega⟩ hb rfl k q hq).trans ?_) _
    (fun p => (args m c).cw (ix2 p ⟨2816 + (k.val * 256 + q.val), hq⟩))
    (fun p => (ldC_at _ k p q).trans (blk10 m c t ⟨k.val, chunk_lt k⟩ p q)) r).trans ?_
  · show _ = upPad _ _ _ _
    rw [upPad, dif_pos (by omega)]
    rfl
  · rw [← hs]
    rfl

/-- After `k` chunks the accumulator holds the sum's first `256 k` terms. -/
theorem acc_at (j : Fin 1024) (k : ℕ) (hk : k ≤ k0_t1_loop.trips) :
    accAt (tileHid m c t) (iblk m c 7 t) (iblk m c 8 t) (iblk m c 9 t) (iblk m c 10 t) (iblk m c 11 t) (carryG m c t) (carryU m c t) k (ix2 r j)
      = ∑ i ∈ Finset.range (k * 256), term (args m c) b s j i := by
  induction k with
  | zero =>
    rw [Nat.zero_mul, Finset.sum_range_zero]
    unfold accAt
    pointwise [k0_pay23]
  | succ k ih =>
    have hk' : k < k0_t1_loop.trips := hk
    have h11 : k < 11 := chunk_lt ⟨k, hk'⟩
    have ih := ih (Nat.le_of_succ_le hk)
    rw [Nat.succ_mul, Finset.sum_range_add, ← ih]
    refine (congrFun (dif_pos hk') (ix2 r j)).trans ?_
    have hG : ∀ q : Fin 256, _ := fun q => convG_at m c t r b s hb hs ⟨k, hk'⟩ q (by show k * 256 + q.val < 5632; omega)
    have hU : ∀ q : Fin 256, _ := fun q => convU_at m c t r b s hb hs ⟨k, hk'⟩ q (by show 2816 + (k * 256 + q.val) < 5632; omega)
    have hD : ∀ q : Fin 256, _ := fun q => (ldD_at (iblk m c 11 t) ⟨k, hk'⟩ q j).trans (blk11 m c t ⟨k, h11⟩ q j)
    generalize accAt (tileHid m c t) (iblk m c 7 t) (iblk m c 8 t) (iblk m c 9 t) (iblk m c 10 t) (iblk m c 11 t) (carryG m c t) (carryU m c t) k = P
    generalize conv (ldC (iblk m c 9 t) ⟨k, hk'⟩) (rows (tileHid m c t) (ldW (iblk m c 7 t) ⟨k, hk'⟩) (ldH (carryG m c t) ⟨k, hk'⟩)) = G at hG ⊢
    generalize conv (ldC (iblk m c 10 t) ⟨k, hk'⟩) (rows (tileHid m c t) (ldW (iblk m c 8 t) ⟨k, hk'⟩) (ldH (carryU m c t) ⟨k, hk'⟩)) = U at hU ⊢
    generalize ldD (iblk m c 11 t) ⟨k, hk'⟩ = D at hD ⊢
    rw [Finset.sum_range (n := 256)]
    pointwise [k0_pay25, hG, hU, hD]
    refine congrArg (P (ix2 r j) + ·) (Finset.sum_congr rfl fun q _ => ?_)
    rw [term, dif_pos (show k * 256 + q.val < 2816 by omega), zero_sub]
    rfl

/-- Row `r` of the tile's block is token `s`'s result. -/
theorem tileOut_at (j : Fin 1024) : tileOut m c t (ix3 0 r j) = out (args m c) b s j := by
  have hm := mixed_at m c t r b s hb hs
  have ha : ∀ j : Fin 1024, accAt (tileHid m c t) (iblk m c 7 t) (iblk m c 8 t) (iblk m c 9 t) (iblk m c 10 t) (iblk m c 11 t) (carryG m c t)
      (carryU m c t) k0_t1_loop.trips (ix2 r j) = ∑ i : Fin 2816, act (args m c) b s i * (args m c).wd (ix2 i j) := fun j =>
    (acc_at m c t r b s hb hs j _ le_rfl).trans (by rw [show k0_t1_loop.trips * 256 = 2816 by decide +kernel]; exact sum_term _ b s j)
  have h4 := blk4 m c t b hb
  have h12 := blk12 m c t
  unfold tileOut outBlk
  generalize mixed (iblk m c 0 t) (iblk m c 1 t) (iblk m c 2 t) (iblk m c 3 t) (iblk m c 4 t) (iblk m c 5 t) = M at hm ⊢
  generalize accAt (tileHid m c t) (iblk m c 7 t) (iblk m c 8 t) (iblk m c 9 t) (iblk m c 10 t) (iblk m c 11 t) (carryG m c t)
      (carryU m c t) k0_t1_loop.trips = P at ha ⊢
  pointwise [gate2, k0_pay1, k0_pay17, hm, ha, h4, h12]
  rfl

end tile

end Cert.Ffn
-- ==== Proof.FfnRef.lean ====
/- What the reference output projection and feed-forward network compute. -/
module

public import proofs.«01_k».proof.Proof.FfnSpec
public import proofs.«01_k».proof.Proof.Gen.ReferenceFIdeal.Read

@[expose] public section

set_option maxRecDepth 16384

noncomputable section

namespace Cert.Ffn

open Cert.KernelFIdeal Cert.KernelFIdeal.Gen Idealize.ShloMosaic Idealize.ShloMosaic.TcCoe
open Cert.ReferenceFIdeal.Read

variable (A : Args) (b : Fin 4) (s : Fin 8192)

/-- The reference's hidden state after the mixers' residual. -/
theorem ref_x1 (j : Fin 1024) : val_main_v9 (F := Ideal) A.x A.oa A.ob A.oc A.md A.wo (ix3 b s j) = x1 A b s j := by
  pointwise [val_main_v9, val_main_v8, val_main_v7, val_main_v6, val_main_v5, val_main_v4, val_main_v0]
  rfl

/-- Its normalised and modulated hidden vector. -/
theorem ref_hid (k : Fin 1024) : val_main_v28 (F := Ideal) A.x A.oa A.ob A.oc A.md A.wo A.g (ix3 b s k) = hid A b s k := by
  pointwise [val_main_v28, val_main_v27, val_main_v1, val_main_v26, val_main_v25, val_main_v24, val_main_v23, val_main_cst_2, val_main_v2, val_main_v22,
    val_main_v21, val_main_v20, val_main_v19, val_main_v18, val_main_v17, val_main_v16, val_main_v15, val_main_cst_1, val_main_v14, val_main_v13, val_main_cst_0,
    val_main_v12, val_main_v11, val_main_v10, val_main_cst, ref_x1]
  rfl

/-- The whole number zero, as an extended real. -/
theorem sitofp_zero : (FloatOps.sitofp FTy.f32 0#32 : Ideal .f32) = (0 : EReal) := by
  show ((((0#32 : BitVec 32).toInt : ℝ)) : EReal) = 0
  simp

/-- Its up-projection, two zero rows before it. -/
theorem ref_up (i : Fin 8194) (n : Fin 5632) :
    val_main_v30 (F := Ideal) A.x A.oa A.ob A.oc A.md A.wo A.g A.wu (ix3 b i n) = upPad A b i.val n := by
  pointwise [val_main_v30, val_main_v29, val_main_call0_v0, val_main_c, ref_hid]
  rw [show (FloatOps.sitofp FTy.f32 0#32 : Ideal .f32) = (0 : EReal) from sitofp_zero]
  rfl

/-- Its convolution. -/
theorem ref_cv (n : Fin 5632) : val_main_v52 (F := Ideal) A.x A.oa A.ob A.oc A.md A.wo A.g A.wu A.cw (ix3 b s n) = cv A b s n := by
  pointwise [val_main_v52, val_main_v51, val_main_v50, val_main_v49, val_main_v48, val_main_v47, val_main_v46, val_main_v45, val_main_v44, val_main_v43, val_main_v42,
    val_main_v41, val_main_v40, val_main_v39, val_main_v38, val_main_v37, val_main_cst_3, val_main_v36, val_main_v35, val_main_v34, val_main_v33, val_main_v32, val_main_v31, ref_up]
  rfl

/-- Its gated activation. -/
theorem ref_act (n : Fin 2816) : val_main_v56 (F := Ideal) A.x A.oa A.ob A.oc A.md A.wo A.g A.wu A.cw (ix3 b s n) = act A b s n := by
  pointwise [val_main_v56, val_main_v55, val_main_call1_v5, val_main_call1_v4, val_main_call1_cst_0, val_main_call1_v3, val_main_call1_v2, val_main_call1_cst,
    val_main_call1_v1, val_main_call1_v0, val_main_v54, val_main_v53, ref_cv]
  rfl

/-- Its hidden state after the network's residual. -/
theorem ref_x2 (j : Fin 1024) : val_main_v60 (F := Ideal) A.x A.oa A.ob A.oc A.md A.wo A.g A.wu A.cw A.wd (ix3 b s j) = x2 A b s j := by
  pointwise [val_main_v60, val_main_v59, val_main_v58, val_main_v57, val_main_v3, ref_act, ref_x1]
  rfl

/-- Its result. -/
theorem ref_out (j : Fin 1024) : val_main_v73 (F := Ideal) A.x A.oa A.ob A.oc A.md A.wo A.g A.wu A.cw A.wd A.fg (ix3 b s j) = out A b s j := by
  pointwise [val_main_v73, val_main_v72, val_main_v71, val_main_v70, val_main_v69, val_main_v68, val_main_v67, val_main_v66, val_main_cst_6, val_main_v65, val_main_v64,
    val_main_cst_5, val_main_v63, val_main_v62, val_main_cst_4, val_main_v61, ref_x2]
  rfl

end Cert.Ffn
-- ==== Proof.FfnValue.lean ====
/- The array that the output projection and feed-forward call leaves is the reference's. -/
module

public import proofs.«01_k».proof.Proof.FfnConv
public import proofs.«01_k».proof.Proof.FfnRef

@[expose] public section

set_option maxRecDepth 16384

noncomputable section

namespace Cert.Ffn

open Cert.KernelFIdeal Cert.KernelFIdeal.Gen Idealize.ShloMosaic Idealize.ShloMosaic.TcCoe Idealize.SL.Sem

open Idealize.ShloMosaic.Pipeline (Dat)

variable (m : (ℓ : Loc nD τ sig) → Buf (Elt Ideal) ℓ)

/-- Block index `y` of tile `t` sits in batch entry `t / 16`, at token `512 (t mod 16) + y 1`. -/
theorem place13 (t : Fin cfg0.N) (y : S1x512x1024.Idx) : ∃ (b : Fin 4) (s : Fin 8192), b.val = t.val / 16 ∧ s.val = t.val % 16 * 512 + (y 1).val
    ∧ ((cfg0.win 13).blk t).view.emb y = ix3 b s (y 2) := by
  have ht : t.val < 64 := t.isLt
  have hy : (y 1).val < 512 := (y 1).isLt
  refine ⟨⟨t.val / 16, by omega⟩, ⟨t.val % 16 * 512 + (y 1).val, by omega⟩, rfl, rfl, ?_⟩
  blk_ext [idx t]

/-- The tiles together leave the reference's result. -/
theorem final13 (c : Dev nD) : (dats m 0 c).arrAt 13 (cfgs 0).N
    = Cert.ReferenceFIdeal.Read.val_main_v73 (F := Ideal) (args m c).x (args m c).oa (args m c).ob (args m c).oc (args m c).md (args m c).wo
        (args m c).g (args m c).wu (args m c).cw (args m c).wd (args m c).fg := by
  refine (dats m 0 c).arrAt_eq_of_covers 13 _ (by decide +kernel) fun t _ y => ?_
  blk_simp
  rw [after0_13]
  obtain ⟨b, s, hb, hs, he⟩ := place13 t y
  rw [he]
  idx_vars y
  obtain rfl := Fin.fin_one_eq_zero y0
  exact (tileOut_at m c t y1 b s hb hs y2).trans (ref_out (args m c) b s y2).symm

end Cert.Ffn
-- ==== Proof.FfnBits.lean ====
/- Summary.  The output projection and feed-forward kernel at machine floats is the same program as the
   one read over the extended reals, so its arguments end unchanged too. -/
module

public import proofs.«01_k».proof.Proof.FfnFrame
public import proofs.«01_k».proof.Proof.Gen.KernelF
public import proofs.«01_k».proof.Defs

@[expose] public section

set_option maxRecDepth 65536

namespace Cert.Ffn

open Idealize.ShloMosaic Idealize.ShloMosaic.TcCoe Idealize.SL.Sem

variable {F : FTy → Type} [FloatOps F]

set_option maxHeartbeats 4000000 in
/-- The two programs' bodies are one. -/
theorem bodies_eq : Cert.KernelF.defs₀ (F := F) = Cert.KernelFIdeal.defs₀ := by
  funext p l a
  cases p with
  | tc =>
    obtain ⟨l, hl⟩ := l
    cases l with
    | zero => obtain ⟨t, s⟩ := a; rfl
    | succ l => exact absurd hl (Nat.not_lt.2 (Nat.le_add_left _ _))
  | scScalar _ => rfl
  | scVector _ _ => rfl

set_option maxHeartbeats 4000000 in
/-- So are their body tables. -/
theorem tables_eq : Cert.KernelF.defs (F := F) = Cert.KernelFIdeal.defs :=
  congrArg (Pipeline.defs Cert.KernelF.pcfgs) bodies_eq

set_option maxHeartbeats 4000000 in
/-- At machine floats the arguments end unchanged and every semaphore at zero. -/
theorem frame_bits : Cert.quiescent_KernelF (hKernelF := Cert.KernelF.Gen.facts) := fun m g _ =>
  (congrArg (fun D => θ_run D (onTc (τ := Cert.KernelF.τ) (Cert.KernelF.main (F := Bits))) ⟨m, fun _ => 0, g⟩ _) tables_eq).mpr
    (frame (F := Bits) m g)

end Cert.Ffn
-- ==== Proof.FfnClaim.lean ====
/- The output projection and feed-forward call and its reference end with the same array. -/
module

public import proofs.«01_k».proof.Defs
public import proofs.«01_k».proof.Proof.FfnValue
public import proofs.«01_k».proof.Proof.FfnBits
public import proofs.«01_k».proof.Proof.Gen.ReferenceFIdeal.Run

@[expose] public section

set_option maxRecDepth 16384

noncomputable section

namespace Cert.Ffn

open Idealize.ShloMosaic Idealize.SL.Sem

/-- The reference's run ends with its eleven arguments unchanged and all counters at zero: it has no counter. -/
theorem reference_frame : Cert.quiescent_ReferenceFIdeal := fun m g _ =>
  (θ_run _ _ _).mono (fun r h => ⟨fun c => (h c).2, sem_eq_zero_of_no_sems (by decide) r.2⟩)
    (Cert.ReferenceFIdeal.Value.run m g)

/-- **The output projection and feed-forward call ends with its reference's array**, at every launch. -/
theorem algebraic : Cert.algebraic_KernelFIdeal_ReferenceFIdeal := by
  pair_intro
  · run_from Cert.Ffn.run_main m g
  · run_from Cert.ReferenceFIdeal.Value.run m' g'
    · obtain ⟨h0, h1, h2, h3, h4, h5, h6, h7, h8, h9, h10⟩ := hagree c
      rw [final13 m c]
      unfold args
      rw [← h0, ← h1, ← h2, ← h3, ← h4, ← h5, ← h6, ← h7, ← h8, ← h9, ← h10]
      exact Cert.ReferenceFIdeal.Read.val_main_v73_eq _

end Cert.Ffn
-- ==== Proof.FirstLoop.lean ====
/- Summary.  The first layer's loop over the feed-forward network's eleven column chunks: it leaves the accumulator and
   the two arrays of carried rows that the last layer's loop leaves. -/
module

public import proofs.«01_k».proof.Proof.FfnLoop
public import proofs.«01_k».proof.Proof.Gen.KernelEIdeal.Loops
public import Idealize.ShloMosaic.Lib.Pipeline.FrameBody
public import Idealize.ShloMosaic.Lib.VecWindow
public import Idealize.ShloMosaic.Lib.Pointwise

@[expose] public section

set_option maxRecDepth 16384

noncomputable section

namespace Cert.First

open Idealize.ShloMosaic Idealize.ShloMosaic.TcCoe
open Cert.KernelEIdeal Cert.KernelEIdeal.Gen
open Cert.Ffn (rows conv tail ldW ldC ldH ldD accAt hdrAt hdrAt_succ ldH_hdrAt readCov_ld)

variable {F : FTy → Type} [FloatOps F]

/-! ## One trip of the loop -/

variable (𝒱 : Variants) (c : Dev nD) (bd : Option 𝒱.V) (i : grid0.Coords)
  (arg2 : Memref sig .tc .vmem S1x512x1024 .f32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x512 .bf16) (harg5 : arg5.IsWhole)
  (arg6 : Memref sig .tc .vmem S1x6x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S11x1024x256 .bf16) (harg9 : arg9.IsWhole)
  (arg10 : Memref sig .tc .vmem S11x1024x256 .bf16) (harg10 : arg10.IsWhole) (arg11 : Memref sig .tc .vmem S11x3x256 .f32) (harg11 : arg11.IsWhole)
  (arg12 : Memref sig .tc .vmem S11x3x256 .f32) (harg12 : arg12.IsWhole) (arg13 : Memref sig .tc .vmem S11x256x1024 .bf16) (harg13 : arg13.IsWhole)
  (arg14 : Memref sig .tc .vmem S1x1024 .f32) (harg14 : arg14.IsWhole) (arg15 : Memref sig .tc .vmem S1x512x1024 .f32) (harg15 : arg15.IsWhole)
  (arg16 : Memref sig .tc .vmem S512x1024 .bf16) (harg16 : arg16.IsWhole) (arg17 : Memref sig .tc .vmem S512x1024 .f32) (harg17 : arg17.IsWhole)
  (arg18 : Memref sig .tc .vmem S520x256 .f32) (harg18 : arg18.IsWhole) (arg19 : Memref sig .tc .vmem S520x256 .f32) (harg19 : arg19.IsWhole)
  (arg20 : Memref sig .tc .vmem S11x8x256 .f32) (harg20 : arg20.IsWhole) (arg21 : Memref sig .tc .vmem S11x8x256 .f32) (harg21 : arg21.IsWhole)
  (v4 v6 v8 : FVec F S1x1024 .f32) (v21 : FVec F S512x1024 .f32) (v23 : FVec F S512x512 .bf16) (v25 : FVec F S512x1024 .bf16)
  (X9 : arg9.view.ty.Contents (Elt F)) (X10 : arg10.view.ty.Contents (Elt F)) (X11 : arg11.view.ty.Contents (Elt F))
  (X12 : arg12.view.ty.Contents (Elt F)) (X13 : arg13.view.ty.Contents (Elt F)) (X16 : arg16.view.ty.Contents (Elt F))

/-- Rows 6 on of the first half, as the loop reads it. -/
theorem ld_v94 (k : Fin k0_t1_loop.trips) (f20 : arg20.view.ty.Contents (Elt F)) : trip_k0_t1.sl.v94 arg9 arg16 arg18 arg20 X9 X16 k f20
    = View.ld (rows (arg16.view.read (Elt F) X16) (ldW (arg9.view.read (Elt F) X9) k) (ldH (arg20.view.read (Elt F) f20) k)) (Rect.unit ![6, 0] S512x256.size inb_S520x256_S512x256_6_0) := by
  unfold trip_k0_t1.sl.v94 rows; exact readCov_ld _ _ _ _ (by unfold trip_k0_t1.sl.HW_arg18_2; rw [View.readAt_full arg16.view]; rfl)
/-- Rows 7 on, as the loop reads it. -/
theorem ld_v98 (k : Fin k0_t1_loop.trips) (f20 : arg20.view.ty.Contents (Elt F)) : trip_k0_t1.sl.v98 arg9 arg16 arg18 arg20 X9 X16 k f20
    = View.ld (rows (arg16.view.read (Elt F) X16) (ldW (arg9.view.read (Elt F) X9) k) (ldH (arg20.view.read (Elt F) f20) k)) (Rect.unit ![7, 0] S512x256.size inb_S520x256_S512x256_7_0) := by
  unfold trip_k0_t1.sl.v98 rows; exact readCov_ld _ _ _ _ (by unfold trip_k0_t1.sl.HW_arg18_2; rw [View.readAt_full arg16.view]; rfl)
/-- Rows 8 on, as the loop reads it. -/
theorem ld_v103 (k : Fin k0_t1_loop.trips) (f20 : arg20.view.ty.Contents (Elt F)) : trip_k0_t1.sl.v103 arg9 arg16 arg18 arg20 X9 X16 k f20
    = View.ld (rows (arg16.view.read (Elt F) X16) (ldW (arg9.view.read (Elt F) X9) k) (ldH (arg20.view.read (Elt F) f20) k)) (Rect.unit ![8, 0] S512x256.size inb_S520x256_S512x256_8_0) := by
  unfold trip_k0_t1.sl.v103 rows; exact readCov_ld _ _ _ _ (by unfold trip_k0_t1.sl.HW_arg18_2; rw [View.readAt_full arg16.view]; rfl)
/-- The last eight rows, as the loop reads it. -/
theorem ld_v107 (k : Fin k0_t1_loop.trips) (f20 : arg20.view.ty.Contents (Elt F)) : trip_k0_t1.sl.v107 arg9 arg16 arg18 arg20 X9 X16 k f20
    = View.ld (rows (arg16.view.read (Elt F) X16) (ldW (arg9.view.read (Elt F) X9) k) (ldH (arg20.view.read (Elt F) f20) k)) (Rect.unit ![512, 0] S8x256.size inb_S520x256_S8x256_512_0) := by
  unfold trip_k0_t1.sl.v107 rows; exact readCov_ld _ _ _ _ (by unfold trip_k0_t1.sl.HW_arg18_2; rw [View.readAt_full arg16.view]; rfl)
/-- Rows 6 on of the second half, as the loop reads it. -/
theorem ld_v122 (k : Fin k0_t1_loop.trips) (f21 : arg21.view.ty.Contents (Elt F)) : trip_k0_t1.sl.v122 arg10 arg16 arg19 arg21 X10 X16 k f21
    = View.ld (rows (arg16.view.read (Elt F) X16) (ldW (arg10.view.read (Elt F) X10) k) (ldH (arg21.view.read (Elt F) f21) k)) (Rect.unit ![6, 0] S512x256.size inb_S520x256_S512x256_6_0) := by
  unfold trip_k0_t1.sl.v122 rows; exact readCov_ld _ _ _ _ (by unfold trip_k0_t1.sl.HW_arg19_2; rw [View.readAt_full arg16.view]; rfl)
/-- Rows 7 on, as the loop reads it. -/
theorem ld_v126 (k : Fin k0_t1_loop.trips) (f21 : arg21.view.ty.Contents (Elt F)) : trip_k0_t1.sl.v126 arg10 arg16 arg19 arg21 X10 X16 k f21
    = View.ld (rows (arg16.view.read (Elt F) X16) (ldW (arg10.view.read (Elt F) X10) k) (ldH (arg21.view.read (Elt F) f21) k)) (Rect.unit ![7, 0] S512x256.size inb_S520x256_S512x256_7_0) := by
  unfold trip_k0_t1.sl.v126 rows; exact readCov_ld _ _ _ _ (by unfold trip_k0_t1.sl.HW_arg19_2; rw [View.readAt_full arg16.view]; rfl)
/-- Rows 8 on, as the loop reads it. -/
theorem ld_v131 (k : Fin k0_t1_loop.trips) (f21 : arg21.view.ty.Contents (Elt F)) : trip_k0_t1.sl.v131 arg10 arg16 arg19 arg21 X10 X16 k f21
    = View.ld (rows (arg16.view.read (Elt F) X16) (ldW (arg10.view.read (Elt F) X10) k) (ldH (arg21.view.read (Elt F) f21) k)) (Rect.unit ![8, 0] S512x256.size inb_S520x256_S512x256_8_0) := by
  unfold trip_k0_t1.sl.v131 rows; exact readCov_ld _ _ _ _ (by unfold trip_k0_t1.sl.HW_arg19_2; rw [View.readAt_full arg16.view]; rfl)
/-- The last eight rows, as the loop reads it. -/
theorem ld_v135 (k : Fin k0_t1_loop.trips) (f21 : arg21.view.ty.Contents (Elt F)) : trip_k0_t1.sl.v135 arg10 arg16 arg19 arg21 X10 X16 k f21
    = View.ld (rows (arg16.view.read (Elt F) X16) (ldW (arg10.view.read (Elt F) X10) k) (ldH (arg21.view.read (Elt F) f21) k)) (Rect.unit ![512, 0] S8x256.size inb_S520x256_S8x256_512_0) := by
  unfold trip_k0_t1.sl.v135 rows; exact readCov_ld _ _ _ _ (by unfold trip_k0_t1.sl.HW_arg19_2; rw [View.readAt_full arg16.view]; rfl)
/-- A trip adds its chunk's product to the accumulator. -/
theorem trip_acc (k : Fin k0_t1_loop.trips) (f17 : arg17.view.ty.Contents (Elt F)) (f18 : arg18.view.ty.Contents (Elt F)) (f19 : arg19.view.ty.Contents (Elt F)) (f20 : arg20.view.ty.Contents (Elt F)) (f21 : arg21.view.ty.Contents (Elt F)) :
    arg17.view.read (Elt F) (arg17.view.writes (Elt F) f17 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 k).1 f17 f18 f19 f20 f21))
      = k0_pay25 (conv (ldC (arg11.view.read (Elt F) X11) k) (rows (arg16.view.read (Elt F) X16) (ldW (arg9.view.read (Elt F) X9) k) (ldH (arg20.view.read (Elt F) f20) k)))
        (conv (ldC (arg12.view.read (Elt F) X12) k) (rows (arg16.view.read (Elt F) X16) (ldW (arg10.view.read (Elt F) X10) k) (ldH (arg21.view.read (Elt F) f21) k)))
        (arg17.view.read (Elt F) f17) (ldD (arg13.view.read (Elt F) X13) k) := by
  unfold trip_k0_t1
  dsimp only
  rw [View.read_writes_full]
  unfold trip_k0_t1.sl.r_2 trip_k0_t1.sl.r_3 trip_k0_t1.sl.r trip_k0_t1.sl.r_1
  rw [ld_v94, ld_v98, ld_v103, ld_v122, ld_v126, ld_v131]
  rw [View.readAt_full arg17.view]
  rfl

/-- A trip leaves its chunk's last rows in the first array of carried rows. -/
theorem trip_hdrG (k : Fin k0_t1_loop.trips) (f17 : arg17.view.ty.Contents (Elt F)) (f18 : arg18.view.ty.Contents (Elt F)) (f19 : arg19.view.ty.Contents (Elt F)) (f20 : arg20.view.ty.Contents (Elt F)) (f21 : arg21.view.ty.Contents (Elt F)) :
    arg20.view.read (Elt F) (arg20.view.writes (Elt F) f20 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 k).2.2.2.1 f17 f18 f19 f20 f21))
      = arg20.view.read (Elt F) (arg20.view.writes (Elt F) f20 [⟨Rect.unit (k0_off3 k) S1x8x256.size (k0_off3_inb k), tail (rows (arg16.view.read (Elt F) X16) (ldW (arg9.view.read (Elt F) X9) k) (ldH (arg20.view.read (Elt F) f20) k))⟩]) := by
  unfold trip_k0_t1
  dsimp only
  rw [ld_v107]; rfl

/-- A trip leaves its chunk's last rows in the second array of carried rows. -/
theorem trip_hdrU (k : Fin k0_t1_loop.trips) (f17 : arg17.view.ty.Contents (Elt F)) (f18 : arg18.view.ty.Contents (Elt F)) (f19 : arg19.view.ty.Contents (Elt F)) (f20 : arg20.view.ty.Contents (Elt F)) (f21 : arg21.view.ty.Contents (Elt F)) :
    arg21.view.read (Elt F) (arg21.view.writes (Elt F) f21 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 k).2.2.2.2.1 f17 f18 f19 f20 f21))
      = arg21.view.read (Elt F) (arg21.view.writes (Elt F) f21 [⟨Rect.unit (k0_off3 k) S1x8x256.size (k0_off3_inb k), tail (rows (arg16.view.read (Elt F) X16) (ldW (arg10.view.read (Elt F) X10) k) (ldH (arg21.view.read (Elt F) f21) k))⟩]) := by
  unfold trip_k0_t1
  dsimp only
  rw [ld_v135]; rfl

/-! ## The whole loop -/

/-- After `k` trips the accumulator holds the first `k` chunks' sum and the arrays of carried rows the
    first `k` chunks' last rows, whatever the two buffers of 520 rows held. -/
theorem loop_reads (f17 : arg17.view.ty.Contents (Elt F)) (f18 : arg18.view.ty.Contents (Elt F)) (f19 : arg19.view.ty.Contents (Elt F)) (f20 : arg20.view.ty.Contents (Elt F)) (f21 : arg21.view.ty.Contents (Elt F)) (h0 : arg17.view.read (Elt F) f17 = k0_pay23) :
    ∀ k : ℕ, k ≤ k0_t1_loop.trips →
    arg17.view.read (Elt F) (arg17.view.writes (Elt F) f17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 f17 f18 f19 f20 f21 k).1)
      = accAt (arg16.view.read (Elt F) X16) (arg9.view.read (Elt F) X9) (arg10.view.read (Elt F) X10) (arg11.view.read (Elt F) X11) (arg12.view.read (Elt F) X12) (arg13.view.read (Elt F) X13) (arg20.view.read (Elt F) f20) (arg21.view.read (Elt F) f21) k
    ∧ arg20.view.read (Elt F) (arg20.view.writes (Elt F) f20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 f17 f18 f19 f20 f21 k).2.2.2.1) = hdrAt (arg16.view.read (Elt F) X16) (arg9.view.read (Elt F) X9) (arg20.view.read (Elt F) f20) k
    ∧ arg21.view.read (Elt F) (arg21.view.writes (Elt F) f21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 f17 f18 f19 f20 f21 k).2.2.2.2) = hdrAt (arg16.view.read (Elt F) X16) (arg10.view.read (Elt F) X10) (arg21.view.read (Elt F) f21) k
  | 0, _ => by
    refine ⟨?_, ?_, ?_⟩
    · simp only [pb_k0_t1, View.writes_nil]; exact h0
    · simp only [pb_k0_t1, View.writes_nil]; funext y; unfold hdrAt; rw [if_neg (Nat.not_lt_zero _)]
    · simp only [pb_k0_t1, View.writes_nil]; funext y; unfold hdrAt; rw [if_neg (Nat.not_lt_zero _)]
  | k + 1, hk => by
    obtain ⟨ha, hg, hu⟩ := loop_reads f17 f18 f19 f20 f21 h0 k (Nat.le_of_succ_le hk)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v8 v21 v23 v25 X9 X10 X11 X12 X13 X16 f17 f18 f19 f20 f21 ⟨k, hk⟩
    dsimp only at hs
    rw [hs]
    refine ⟨?_, ?_, ?_⟩
    · rw [View.writes_append, trip_acc, ha, hg, hu, ldH_hdrAt _ _ _ ⟨k, hk⟩, ldH_hdrAt _ _ _ ⟨k, hk⟩]
      rw [accAt, dif_pos (show k < Cert.KernelFIdeal.k0_t1_loop.trips from Nat.lt_of_succ_le hk)]
      rfl
    · rw [View.writes_append, trip_hdrG, hg, ldH_hdrAt _ _ _ ⟨k, hk⟩]
      exact hdrAt_succ _ _ _ _ _ ⟨k, hk⟩ hg
    · rw [View.writes_append, trip_hdrU, hu, ldH_hdrAt _ _ _ ⟨k, hk⟩]
      exact hdrAt_succ _ _ _ _ _ ⟨k, hk⟩ hu

end Cert.First
-- ==== Proof.FirstRun.lean ====
/- Summary.  One grid point of the first layer's output projection and feed-forward kernel, the first of its batch
   entry, and the block a point writes: the last layer's before its norm. -/
module

public import proofs.«01_k».proof.Proof.FfnRun
public import proofs.«01_k».proof.Proof.FirstLoop
public import proofs.«01_k».proof.Proof.Gen.KernelEIdeal.Frame

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelEIdeal Cert.KernelEIdeal.Gen
open Cert.Ffn (startsBatch gate2 mixed normed lastRows accAt hdrAt_end)

variable {F : FTy → Type} [FloatOps F]

local notation "𝕄" => MT nD τ sig Unit (Elt F) ℕ (UR sig nD τ) ℕ

/-- The block the point writes, the carried rows before it being `g` and `h`. -/
def outBlk (x0 : Vec F S1x512x1024 .f32) (x1 : Vec F S1x512x256 .bf16) (x2 : Vec F S1x512x256 .bf16) (x3 : Vec F S1x512x512 .bf16) (x4 : Vec F S1x6x1024 .f32)
    (x5 : Vec F S1024x1024 .bf16) (x6 : Vec F S1x1024 .f32) (x7 : Vec F S11x1024x256 .bf16) (x8 : Vec F S11x1024x256 .bf16) (x9 : Vec F S11x3x256 .f32)
    (x10 : Vec F S11x3x256 .f32) (x11 : Vec F S11x256x1024 .bf16) (x12 : Vec F S1x1024 .f32)
    (g h : Vec F S11x8x256 .f32) : FVec F S1x512x1024 .f32 :=
  k0_pay1 (gate2 x4) (mixed x0 x1 x2 x3 x4 x5)
    (accAt (normed x0 x1 x2 x3 x4 x5 x6) x7 x8 x9 x10 x11 g h k0_t1_loop.trips)

set_option maxHeartbeats 1000000 in
/-- The first tile of a batch entry: the carried rows are cleared first. -/
theorem run_first (c : Dev nD) (i : grid0.Coords) (arg2 : Memref sig .tc .vmem S1x512x1024 .f32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x512 .bf16) (harg5 : arg5.IsWhole)
  (arg6 : Memref sig .tc .vmem S1x6x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S11x1024x256 .bf16) (harg9 : arg9.IsWhole)
  (arg10 : Memref sig .tc .vmem S11x1024x256 .bf16) (harg10 : arg10.IsWhole) (arg11 : Memref sig .tc .vmem S11x3x256 .f32) (harg11 : arg11.IsWhole)
  (arg12 : Memref sig .tc .vmem S11x3x256 .f32) (harg12 : arg12.IsWhole) (arg13 : Memref sig .tc .vmem S11x256x1024 .bf16) (harg13 : arg13.IsWhole)
  (arg14 : Memref sig .tc .vmem S1x1024 .f32) (harg14 : arg14.IsWhole) (arg15 : Memref sig .tc .vmem S1x512x1024 .f32) (harg15 : arg15.IsWhole)
  (arg16 : Memref sig .tc .vmem S512x1024 .bf16) (harg16 : arg16.IsWhole) (arg17 : Memref sig .tc .vmem S512x1024 .f32) (harg17 : arg17.IsWhole)
  (arg18 : Memref sig .tc .vmem S520x256 .f32) (harg18 : arg18.IsWhole) (arg19 : Memref sig .tc .vmem S520x256 .f32) (harg19 : arg19.IsWhole)
  (arg20 : Memref sig .tc .vmem S11x8x256 .f32) (harg20 : arg20.IsWhole) (arg21 : Memref sig .tc .vmem S11x8x256 .f32) (harg21 : arg21.IsWhole)
    (hc : startsBatch i) (x0 : Vec F S1x512x1024 .f32) (x1 : Vec F S1x512x256 .bf16) (x2 : Vec F S1x512x256 .bf16) (x3 : Vec F S1x512x512 .bf16) (x4 : Vec F S1x6x1024 .f32)
    (x5 : Vec F S1024x1024 .bf16) (x6 : Vec F S1x1024 .f32) (x7 : Vec F S11x1024x256 .bf16) (x8 : Vec F S11x1024x256 .bf16) (x9 : Vec F S11x3x256 .f32)
    (x10 : Vec F S11x3x256 .f32) (x11 : Vec F S11x256x1024 .bf16) (x12 : Vec F S1x1024 .f32)
     (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (outBlk x0 x1 x2 x3 x4 x5 x6 x7 x8 x9 x10 x11 x12 k0_pay12 k0_pay13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare (lastRows (normed x0 x1 x2 x3 x4 x5 x6) x7) ∗ owns (c : Thread nD τ) arg21 fullShare (lastRows (normed x0 x1 x2 x3 x4 x5 x6) x8)) -∗ K PUnit.unit))
      ⊢ wp frame (wpE (defs₀ (F := F)) Variants.none c none) E (cc0_outproj_convmlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_outproj_convmlp_eq_skeleton]; unfold cc0_outproj_convmlp_skel
  simp only [k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec
  sl_step
  have h16 : arg16.view.read (Elt F) (arg16.view.writes (Elt F) arg16.view.junk (run_first.sl.H16_1 c arg2 harg2 arg3 harg3 arg4 harg4 arg5 harg5 arg6 harg6 arg7 harg7 arg8 harg8 x0 x1 x2 x3 x4 x5 x6)) = normed x0 x1 x2 x3 x4 x5 x6 := by
    unfold run_first.sl.H16_1 run_first.sl.r run_first.sl.r_1 run_first.sl.r_2 run_first.sl.r_4 run_first.sl.r_5 run_first.sl.r_6
    rw [View.read_writes_full, View.readAt_full arg2.view, View.readAt_full arg3.view, View.readAt_full arg4.view, View.readAt_full arg5.view, View.readAt_full arg8.view]
    simp only [View.readAt_eq_ld, harg2.read_unread, harg3.read_unread, harg4.read_unread, harg5.read_unread, harg6.read_unread, harg7.read_unread, harg8.read_unread]
    rfl
  have h17 : arg17.view.read (Elt F) (arg17.view.writes (Elt F) arg17.view.junk run_first.sl.H17_1) = k0_pay23 := by
    unfold run_first.sl.H17_1
    rw [View.read_writes_full]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; iexact H15
    ipureintro
    rw [View.read_writes_full]
    unfold run_first.sl.v62 run_first.sl.r_7 run_first.sl.r_3 run_first.sl.r run_first.sl.r_4 run_first.sl.r_5 run_first.sl.r_6
    rw [View.readCov, View.readAt_full arg17.view, View.writes_append]
    refine (congrArg (fun z => k0_pay1 _ _ z) ((loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).1.trans ?_)).trans (b := k0_pay1 _ _ (accAt (normed x0 x1 x2 x3 x4 x5 x6) x7 x8 x9 x10 x11 k0_pay12 k0_pay13 k0_t1_loop.trips)) ?_
    · rw [h16, harg9.read_unread, harg10.read_unread, harg11.read_unread, harg12.read_unread, harg13.read_unread]
      rw [show arg20.view.read (Elt F) (arg20.view.writes (Elt F) arg20.view.junk run_first.sl.H20_1) = k0_pay12 from by unfold run_first.sl.H20_1; rw [View.read_writes_full]]
      rw [show arg21.view.read (Elt F) (arg21.view.writes (Elt F) arg21.view.junk run_first.sl.H21_1) = k0_pay13 from by unfold run_first.sl.H21_1; rw [View.read_writes_full]]
    · rw [View.readAt_full arg2.view, View.readAt_full arg3.view, View.readAt_full arg4.view, View.readAt_full arg5.view]
      simp only [View.readAt_eq_ld, harg2.read_unread, harg3.read_unread, harg4.read_unread, harg5.read_unread, harg6.read_unread, harg7.read_unread]
      rfl
  isplitl [H16]
  · iexists _, _; isplitr; swap; iexact H16
    ipureintro; rfl
  isplitl [H17]
  · iexists _, _; isplitr; swap; iexact H17
    ipureintro; rfl
  isplitl [H18]
  · iexists _, _; isplitr; swap; iexact H18
    ipureintro; rfl
  isplitl [H19]
  · iexists _, _; isplitr; swap; iexact H19
    ipureintro; rfl
  isplitl [H20]
  · iexists _; isplitr; swap; iexact H20
    ipureintro
    rw [View.writes_append]; exact (loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).2.1.trans (by rw [h16, harg9.read_unread]; exact hdrAt_end _ _ _)
  · iexists _; isplitr; swap; iexact H21
    ipureintro
    rw [View.writes_append]; exact (loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).2.2.trans (by rw [h16, harg10.read_unread]; exact hdrAt_end _ _ _)

end Cert.First
-- ==== Proof.FirstLater.lean ====
/- Summary.  A grid point of the first layer's output projection and feed-forward kernel that is not the first of its
   batch entry: it starts from the carried rows it finds. -/
module

public import proofs.«01_k».proof.Proof.FirstRun

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelEIdeal Cert.KernelEIdeal.Gen
open Cert.Ffn (startsBatch gate2 mixed normed lastRows accAt hdrAt_end)

variable {F : FTy → Type} [FloatOps F]

local notation "𝕄" => MT nD τ sig Unit (Elt F) ℕ (UR sig nD τ) ℕ

set_option maxHeartbeats 1000000 in
/-- A later tile of a batch entry: the carried rows are the ones it finds. -/
theorem run_later (c : Dev nD) (i : grid0.Coords) (arg2 : Memref sig .tc .vmem S1x512x1024 .f32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x512 .bf16) (harg5 : arg5.IsWhole)
  (arg6 : Memref sig .tc .vmem S1x6x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S11x1024x256 .bf16) (harg9 : arg9.IsWhole)
  (arg10 : Memref sig .tc .vmem S11x1024x256 .bf16) (harg10 : arg10.IsWhole) (arg11 : Memref sig .tc .vmem S11x3x256 .f32) (harg11 : arg11.IsWhole)
  (arg12 : Memref sig .tc .vmem S11x3x256 .f32) (harg12 : arg12.IsWhole) (arg13 : Memref sig .tc .vmem S11x256x1024 .bf16) (harg13 : arg13.IsWhole)
  (arg14 : Memref sig .tc .vmem S1x1024 .f32) (harg14 : arg14.IsWhole) (arg15 : Memref sig .tc .vmem S1x512x1024 .f32) (harg15 : arg15.IsWhole)
  (arg16 : Memref sig .tc .vmem S512x1024 .bf16) (harg16 : arg16.IsWhole) (arg17 : Memref sig .tc .vmem S512x1024 .f32) (harg17 : arg17.IsWhole)
  (arg18 : Memref sig .tc .vmem S520x256 .f32) (harg18 : arg18.IsWhole) (arg19 : Memref sig .tc .vmem S520x256 .f32) (harg19 : arg19.IsWhole)
  (arg20 : Memref sig .tc .vmem S11x8x256 .f32) (harg20 : arg20.IsWhole) (arg21 : Memref sig .tc .vmem S11x8x256 .f32) (harg21 : arg21.IsWhole)
    (hc : ¬startsBatch i) (x0 : Vec F S1x512x1024 .f32) (x1 : Vec F S1x512x256 .bf16) (x2 : Vec F S1x512x256 .bf16) (x3 : Vec F S1x512x512 .bf16) (x4 : Vec F S1x6x1024 .f32)
    (x5 : Vec F S1024x1024 .bf16) (x6 : Vec F S1x1024 .f32) (x7 : Vec F S11x1024x256 .bf16) (x8 : Vec F S11x1024x256 .bf16) (x9 : Vec F S11x3x256 .f32)
    (x10 : Vec F S11x3x256 .f32) (x11 : Vec F S11x256x1024 .bf16) (x12 : Vec F S1x1024 .f32)
    (g h : Vec F S11x8x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare g ∗ owns (c : Thread nD τ) arg21 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (outBlk x0 x1 x2 x3 x4 x5 x6 x7 x8 x9 x10 x11 x12 g h) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare (lastRows (normed x0 x1 x2 x3 x4 x5 x6) x7) ∗ owns (c : Thread nD τ) arg21 fullShare (lastRows (normed x0 x1 x2 x3 x4 x5 x6) x8)) -∗ K PUnit.unit))
      ⊢ wp frame (wpE (defs₀ (F := F)) Variants.none c none) E (cc0_outproj_convmlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_outproj_convmlp_eq_skeleton]; unfold cc0_outproj_convmlp_skel
  simp only [k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg20.eq_unread hf20; obtain rfl := harg21.eq_unread hf21
  sl_exec
  sl_step
  have h16 : arg16.view.read (Elt F) (arg16.view.writes (Elt F) arg16.view.junk (run_later.sl.H16_1 c arg2 harg2 arg3 harg3 arg4 harg4 arg5 harg5 arg6 harg6 arg7 harg7 arg8 harg8 x0 x1 x2 x3 x4 x5 x6)) = normed x0 x1 x2 x3 x4 x5 x6 := by
    unfold run_later.sl.H16_1 run_later.sl.r run_later.sl.r_1 run_later.sl.r_2 run_later.sl.r_4 run_later.sl.r_5 run_later.sl.r_6
    rw [View.read_writes_full, View.readAt_full arg2.view, View.readAt_full arg3.view, View.readAt_full arg4.view, View.readAt_full arg5.view, View.readAt_full arg8.view]
    simp only [View.readAt_eq_ld, harg2.read_unread, harg3.read_unread, harg4.read_unread, harg5.read_unread, harg6.read_unread, harg7.read_unread, harg8.read_unread]
    rfl
  have h17 : arg17.view.read (Elt F) (arg17.view.writes (Elt F) arg17.view.junk run_later.sl.H17_1) = k0_pay23 := by
    unfold run_later.sl.H17_1
    rw [View.read_writes_full]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; iexact H15
    ipureintro
    rw [View.read_writes_full]
    unfold run_later.sl.v62 run_later.sl.r_7 run_later.sl.r_3 run_later.sl.r run_later.sl.r_4 run_later.sl.r_5 run_later.sl.r_6
    rw [View.readCov, View.readAt_full arg17.view, View.writes_append]
    refine (congrArg (fun z => k0_pay1 _ _ z) ((loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).1.trans ?_)).trans (b := k0_pay1 _ _ (accAt (normed x0 x1 x2 x3 x4 x5 x6) x7 x8 x9 x10 x11 g h k0_t1_loop.trips)) ?_
    · rw [h16, harg9.read_unread, harg10.read_unread, harg11.read_unread, harg12.read_unread, harg13.read_unread]
      rw [harg20.read_unread]
      rw [harg21.read_unread]
    · rw [View.readAt_full arg2.view, View.readAt_full arg3.view, View.readAt_full arg4.view, View.readAt_full arg5.view]
      simp only [View.readAt_eq_ld, harg2.read_unread, harg3.read_unread, harg4.read_unread, harg5.read_unread, harg6.read_unread, harg7.read_unread]
      rfl
  isplitl [H16]
  · iexists _, _; isplitr; swap; iexact H16
    ipureintro; rfl
  isplitl [H17]
  · iexists _, _; isplitr; swap; iexact H17
    ipureintro; rfl
  isplitl [H18]
  · iexists _, _; isplitr; swap; iexact H18
    ipureintro; rfl
  isplitl [H19]
  · iexists _, _; isplitr; swap; iexact H19
    ipureintro; rfl
  isplitl [H20]
  · iexists _; isplitr; swap; iexact H20
    ipureintro
    exact (loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).2.1.trans (by rw [h16, harg9.read_unread]; exact hdrAt_end _ _ _)
  · iexists _; isplitr; swap; iexact H21
    ipureintro
    exact (loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ h17 _ le_rfl).2.2.trans (by rw [h16, harg10.read_unread]; exact hdrAt_end _ _ _)

end Cert.First
-- ==== Proof.FirstFrame.lean ====
/- Summary.  The first layer's output projection and feed-forward kernel run over its whole grid: what is carried from
   one tile to the next, the pipeline's proof data, and the arguments unchanged at the end. -/
module

public import proofs.«01_k».proof.Proof.FirstLater
public import Idealize.ShloMosaic.Lib.Claim

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelEIdeal Cert.KernelEIdeal.Gen
open Cert.Ffn (startsBatch normed lastRows)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the working buffers -/

/-- The buffer window 0 is staged in at tile `t`, -/
abbrev ms0 (t : Fin cfg0.N) : Memref sig .tc .vmem S1x512x1024 .f32 := win0_0.stage (cfg0.slots t 0)
/-- a whole one. -/
abbrev hs0 (t : Fin cfg0.N) : (ms0 t).IsWhole := hstage0_0 ((cfg0.slots t 0).cast nbuf0_0)
/-- The buffer window 1 is staged in at tile `t`, -/
abbrev ms1 (t : Fin cfg0.N) : Memref sig .tc .vmem S1x512x256 .bf16 := win0_1.stage (cfg0.slots t 1)
/-- a whole one. -/
abbrev hs1 (t : Fin cfg0.N) : (ms1 t).IsWhole := hstage0_1 ((cfg0.slots t 1).cast nbuf0_1)
/-- The buffer window 2 is staged in at tile `t`, -/
abbrev ms2 (t : Fin cfg0.N) : Memref sig .tc .vmem S1x512x256 .bf16 := win0_2.stage (cfg0.slots t 2)
/-- a whole one. -/
abbrev hs2 (t : Fin cfg0.N) : (ms2 t).IsWhole := hstage0_2 ((cfg0.slots t 2).cast nbuf0_2)
/-- The buffer window 3 is staged in at tile `t`, -/
abbrev ms3 (t : Fin cfg0.N) : Memref sig .tc .vmem S1x512x512 .bf16 := win0_3.stage (cfg0.slots t 3)
/-- a whole one. -/
abbrev hs3 (t : Fin cfg0.N) : (ms3 t).IsWhole := hstage0_3 ((cfg0.slots t 3).cast nbuf0_3)
/-- The buffer window 4 is staged in at tile `t`, -/
abbrev ms4 (t : Fin cfg0.N) : Memref sig .tc .vmem S1x6x1024 .f32 := win0_4.stage (cfg0.slots t 4)
/-- a whole one. -/
abbrev hs4 (t : Fin cfg0.N) : (ms4 t).IsWhole := hstage0_4 ((cfg0.slots t 4).cast nbuf0_4)
/-- The buffer window 5 is staged in at tile `t`, -/
abbrev ms5 (t : Fin cfg0.N) : Memref sig .tc .vmem S1024x1024 .bf16 := win0_5.stage (cfg0.slots t 5)
/-- a whole one. -/
abbrev hs5 (t : Fin cfg0.N) : (ms5 t).IsWhole := hstage0_5 ((cfg0.slots t 5).cast nbuf0_5)
/-- The buffer window 6 is staged in at tile `t`, -/
abbrev ms6 (t : Fin cfg0.N) : Memref sig .tc .vmem S1x1024 .f32 := win0_6.stage (cfg0.slots t 6)
/-- a whole one. -/
abbrev hs6 (t : Fin cfg0.N) : (ms6 t).IsWhole := hstage0_6 ((cfg0.slots t 6).cast nbuf0_6)
/-- The buffer window 7 is staged in at tile `t`, -/
abbrev ms7 (t : Fin cfg0.N) : Memref sig .tc .vmem S11x1024x256 .bf16 := win0_7.stage (cfg0.slots t 7)
/-- a whole one. -/
abbrev hs7 (t : Fin cfg0.N) : (ms7 t).IsWhole := hstage0_7 ((cfg0.slots t 7).cast nbuf0_7)
/-- The buffer window 8 is staged in at tile `t`, -/
abbrev ms8 (t : Fin cfg0.N) : Memref sig .tc .vmem S11x1024x256 .bf16 := win0_8.stage (cfg0.slots t 8)
/-- a whole one. -/
abbrev hs8 (t : Fin cfg0.N) : (ms8 t).IsWhole := hstage0_8 ((cfg0.slots t 8).cast nbuf0_8)
/-- The buffer window 9 is staged in at tile `t`, -/
abbrev ms9 (t : Fin cfg0.N) : Memref sig .tc .vmem S11x3x256 .f32 := win0_9.stage (cfg0.slots t 9)
/-- a whole one. -/
abbrev hs9 (t : Fin cfg0.N) : (ms9 t).IsWhole := hstage0_9 ((cfg0.slots t 9).cast nbuf0_9)
/-- The buffer window 10 is staged in at tile `t`, -/
abbrev ms10 (t : Fin cfg0.N) : Memref sig .tc .vmem S11x3x256 .f32 := win0_10.stage (cfg0.slots t 10)
/-- a whole one. -/
abbrev hs10 (t : Fin cfg0.N) : (ms10 t).IsWhole := hstage0_10 ((cfg0.slots t 10).cast nbuf0_10)
/-- The buffer window 11 is staged in at tile `t`, -/
abbrev ms11 (t : Fin cfg0.N) : Memref sig .tc .vmem S11x256x1024 .bf16 := win0_11.stage (cfg0.slots t 11)
/-- a whole one. -/
abbrev hs11 (t : Fin cfg0.N) : (ms11 t).IsWhole := hstage0_11 ((cfg0.slots t 11).cast nbuf0_11)
/-- The buffer window 12 is staged in at tile `t`, -/
abbrev ms12 (t : Fin cfg0.N) : Memref sig .tc .vmem S1x1024 .f32 := win0_12.stage (cfg0.slots t 12)
/-- a whole one. -/
abbrev hs12 (t : Fin cfg0.N) : (ms12 t).IsWhole := hstage0_12 ((cfg0.slots t 12).cast nbuf0_12)
/-- The buffer window 13 is staged in at tile `t`, -/
abbrev ms13 (t : Fin cfg0.N) : Memref sig .tc .vmem S1x512x1024 .f32 := win0_13.stage (cfg0.slots t 13)
/-- a whole one. -/
abbrev hs13 (t : Fin cfg0.N) : (ms13 t).IsWhole := hstage0_13 ((cfg0.slots t 13).cast nbuf0_13)
/-- The hidden vectors' working buffer. -/
abbrev scM0 : Memref sig .tc .vmem S512x1024 .bf16 := Memref.whole cc0_scratch0
/-- The accumulator. -/
abbrev scM1 : Memref sig .tc .vmem S512x1024 .f32 := Memref.whole cc0_scratch1
/-- The first half's rows. -/
abbrev scM2 : Memref sig .tc .vmem S520x256 .f32 := Memref.whole cc0_scratch2
/-- The second half's rows. -/
abbrev scM3 : Memref sig .tc .vmem S520x256 .f32 := Memref.whole cc0_scratch3
/-- The carried rows of the first half. -/
abbrev scM4 : Memref sig .tc .vmem S11x8x256 .f32 := Memref.whole cc0_scratch4
/-- The carried rows of the second half. -/
abbrev scM5 : Memref sig .tc .vmem S11x8x256 .f32 := Memref.whole cc0_scratch5

/-! ## What the tiles leave -/

/-- What tile `s` leaves in the first array of carried rows, -/
def lastG (c : Dev nD) (s : Fin cfg0.N) : Vec F S11x8x256 .f32 := lastRows (normed (iblk m c 0 s) (iblk m c 1 s) (iblk m c 2 s) (iblk m c 3 s) (iblk m c 4 s) (iblk m c 5 s) (iblk m c 6 s)) (iblk m c 7 s)
/-- and in the second. -/
def lastU (c : Dev nD) (s : Fin cfg0.N) : Vec F S11x8x256 .f32 := lastRows (normed (iblk m c 0 s) (iblk m c 1 s) (iblk m c 2 s) (iblk m c 3 s) (iblk m c 4 s) (iblk m c 5 s) (iblk m c 6 s)) (iblk m c 8 s)

/-- The tile before `t`. -/
def prev (t : Fin cfg0.N) : Fin cfg0.N := ⟨t.val - 1, lt_of_le_of_lt (Nat.sub_le _ _) t.isLt⟩

/-- The carried rows tile `t` starts from: cleared at the first tile of a batch entry, the previous tile's otherwise. -/
def carryG (c : Dev nD) (t : Fin cfg0.N) : Vec F S11x8x256 .f32 := if t.val % 16 = 0 then k0_pay12 else lastG m c (prev t)
/-- The same for the second half. -/
def carryU (c : Dev nD) (t : Fin cfg0.N) : Vec F S11x8x256 .f32 := if t.val % 16 = 0 then k0_pay13 else lastU m c (prev t)

/-- The block tile `t` writes. -/
def tileOut (c : Dev nD) (t : Fin cfg0.N) : Vec F S1x512x1024 .f32 :=
  outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (carryG m c t) (carryU m c t)

/-- The kernel's test holds at the first tile of each batch entry. -/
theorem startsBatch_iff : ∀ t : Fin cfg0.N, startsBatch (grid0.coords t) ↔ t.val % 16 = 0 := by decide +kernel

/-! ## The pipeline's proof data -/

/-- Between tiles: the working buffers at some contents, the carried rows at what the tile before left. -/
def inv (c : Dev nD) (t : Fin (cfg0.N + 1)) : sProp 𝕄 :=
  iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)
    ∗ (∃ g, ⌜∀ s : Fin cfg0.N, s.val + 1 = t.val → g = lastG m c s⌝ ∗ owns (c : Thread nD τ) scM4 fullShare g)
    ∗ (∃ g, ⌜∀ s : Fin cfg0.N, s.val + 1 = t.val → g = lastU m c s⌝ ∗ owns (c : Thread nD τ) scM5 fullShare g)
    ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => tileOut m c t
  Φ t := inv m c t
  q _ := fullShare
  owed _ := 0

/-- The data start from what the host left in the operands. -/
theorem A_eq (c : Dev nD) (w : Fin cfg0.W) : (dats m 0 c).A w = V m c (Pipeline.arrRef spec0 w) := by
  dsimp only [dats]

/-- Window 0 after tile `t`: its block, as it was read. -/
theorem after0_0 (c : Dev nD) (t : Fin cfg0.N) : (dats m 0 c).after 0 t = iblk m c 0 t := by dsimp only [dats]
/-- Window 1 after tile `t`: its block, as it was read. -/
theorem after0_1 (c : Dev nD) (t : Fin cfg0.N) : (dats m 0 c).after 1 t = iblk m c 1 t := by dsimp only [dats]
/-- Window 2 after tile `t`: its block, as it was read. -/
theorem after0_2 (c : Dev nD) (t : Fin cfg0.N) : (dats m 0 c).after 2 t = iblk m c 2 t := by dsimp only [dats]
/-- Window 3 after tile `t`: its block, as it was read. -/
theorem after0_3 (c : Dev nD) (t : Fin cfg0.N) : (dats m 0 c).after 3 t = iblk m c 3 t := by dsimp only [dats]
/-- Window 4 after tile `t`: its block, as it was read. -/
theorem after0_4 (c : Dev nD) (t : Fin cfg0.N) : (dats m 0 c).after 4 t = iblk m c 4 t := by dsimp only [dats]
/-- Window 5 after tile `t`: its block, as it was read. -/
theorem after0_5 (c : Dev nD) (t : Fin cfg0.N) : (dats m 0 c).after 5 t = iblk m c 5 t := by dsimp only [dats]
/-- Window 6 after tile `t`: its block, as it was read. -/
theorem after0_6 (c : Dev nD) (t : Fin cfg0.N) : (dats m 0 c).after 6 t = iblk m c 6 t := by dsimp only [dats]
/-- Window 7 after tile `t`: its block, as it was read. -/
theorem after0_7 (c : Dev nD) (t : Fin cfg0.N) : (dats m 0 c).after 7 t = iblk m c 7 t := by dsimp only [dats]
/-- Window 8 after tile `t`: its block, as it was read. -/
theorem after0_8 (c : Dev nD) (t : Fin cfg0.N) : (dats m 0 c).after 8 t = iblk m c 8 t := by dsimp only [dats]
/-- Window 9 after tile `t`: its block, as it was read. -/
theorem after0_9 (c : Dev nD) (t : Fin cfg0.N) : (dats m 0 c).after 9 t = iblk m c 9 t := by dsimp only [dats]
/-- Window 10 after tile `t`: its block, as it was read. -/
theorem after0_10 (c : Dev nD) (t : Fin cfg0.N) : (dats m 0 c).after 10 t = iblk m c 10 t := by dsimp only [dats]
/-- Window 11 after tile `t`: its block, as it was read. -/
theorem after0_11 (c : Dev nD) (t : Fin cfg0.N) : (dats m 0 c).after 11 t = iblk m c 11 t := by dsimp only [dats]
/-- Window 12 after tile `t`: its block, as it was read. -/
theorem after0_12 (c : Dev nD) (t : Fin cfg0.N) : (dats m 0 c).after 12 t = iblk m c 12 t := by dsimp only [dats]
/-- The output window after tile `t`: what the tile wrote. -/
theorem after0_13 (c : Dev nD) (t : Fin cfg0.N) : (dats m 0 c).after 13 t = tileOut m c t := by dsimp only [dats]

/-- Each input's staging buffer holds its block at every tile. -/
theorem before0_0 (c : Dev nD) (t : Fin cfg0.N) (d) : (dats m 0 c).before 0 t d = iblk m c 0 t :=
  before0_0_of m (dats m 0 c) (A_eq m c 0) (after0_0 m c) t d
/-- Window 1 before the body. -/
theorem before0_1 (c : Dev nD) (t : Fin cfg0.N) (d) : (dats m 0 c).before 1 t d = iblk m c 1 t :=
  before0_1_of m (dats m 0 c) (A_eq m c 1) (after0_1 m c) t d
/-- Window 2 before the body. -/
theorem before0_2 (c : Dev nD) (t : Fin cfg0.N) (d) : (dats m 0 c).before 2 t d = iblk m c 2 t :=
  before0_2_of m (dats m 0 c) (A_eq m c 2) (after0_2 m c) t d
/-- Window 3 before the body. -/
theorem before0_3 (c : Dev nD) (t : Fin cfg0.N) (d) : (dats m 0 c).before 3 t d = iblk m c 3 t :=
  before0_3_of m (dats m 0 c) (A_eq m c 3) (after0_3 m c) t d
/-- Window 4 before the body. -/
theorem before0_4 (c : Dev nD) (t : Fin cfg0.N) (d) : (dats m 0 c).before 4 t d = iblk m c 4 t :=
  before0_4_of m (dats m 0 c) (A_eq m c 4) (after0_4 m c) t d
/-- Window 5 before the body. -/
theorem before0_5 (c : Dev nD) (t : Fin cfg0.N) (d) : (dats m 0 c).before 5 t d = iblk m c 5 t :=
  before0_5_of m (dats m 0 c) (A_eq m c 5) (after0_5 m c) t d
/-- Window 6 before the body. -/
theorem before0_6 (c : Dev nD) (t : Fin cfg0.N) (d) : (dats m 0 c).before 6 t d = iblk m c 6 t :=
  before0_6_of m (dats m 0 c) (A_eq m c 6) (after0_6 m c) t d
/-- Window 7 before the body. -/
theorem before0_7 (c : Dev nD) (t : Fin cfg0.N) (d) : (dats m 0 c).before 7 t d = iblk m c 7 t :=
  before0_7_of m (dats m 0 c) (A_eq m c 7) (after0_7 m c) t d
/-- Window 8 before the body. -/
theorem before0_8 (c : Dev nD) (t : Fin cfg0.N) (d) : (dats m 0 c).before 8 t d = iblk m c 8 t :=
  before0_8_of m (dats m 0 c) (A_eq m c 8) (after0_8 m c) t d
/-- Window 9 before the body. -/
theorem before0_9 (c : Dev nD) (t : Fin cfg0.N) (d) : (dats m 0 c).before 9 t d = iblk m c 9 t :=
  before0_9_of m (dats m 0 c) (A_eq m c 9) (after0_9 m c) t d
/-- Window 10 before the body. -/
theorem before0_10 (c : Dev nD) (t : Fin cfg0.N) (d) : (dats m 0 c).before 10 t d = iblk m c 10 t :=
  before0_10_of m (dats m 0 c) (A_eq m c 10) (after0_10 m c) t d
/-- Window 11 before the body. -/
theorem before0_11 (c : Dev nD) (t : Fin cfg0.N) (d) : (dats m 0 c).before 11 t d = iblk m c 11 t :=
  before0_11_of m (dats m 0 c) (A_eq m c 11) (after0_11 m c) t d
/-- Window 12 before the body. -/
theorem before0_12 (c : Dev nD) (t : Fin cfg0.N) (d) : (dats m 0 c).before 12 t d = iblk m c 12 t :=
  before0_12_of m (dats m 0 c) (A_eq m c 12) (after0_12 m c) t d

/-! ## The body at every tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 1600000 in
/-- The body at any tile: the first tile of a batch entry clears the carried rows, the others find what the
    tile before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = inv m c t.succ from rfl, show (dats m 0 c).Φ t.castSucc = inv m c t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  unfold inv tileOut
  have hnext : ∀ L : Fin cfg0.N → Vec F S11x8x256 .f32, ∀ s : Fin cfg0.N, s.val + 1 = t.succ.val → L t = L s := fun L s h =>
    congrArg L (Fin.ext (by have : t.succ.val = t.val + 1 := rfl; omega))
  iintro ⟨⟨S0, S1, S2, S3, ⟨%g, %hg, S4⟩, ⟨%h, %hh, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases ht : t.val % 16 = 0
  · rw [show carryG m c t = k0_pay12 from if_pos ht, show carryU m c t = k0_pay13 from if_pos ht]
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM0 (Memref.isWhole_whole _) scM1 (Memref.isWhole_whole _) scM2 (Memref.isWhole_whole _) scM3 (Memref.isWhole_whole _) scM4 (Memref.isWhole_whole _) scM5 (Memref.isWhole_whole _) ((startsBatch_iff t).2 ht) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    isplitl [S4]; · iexists _; iexact S4
    isplitl [S5]; · iexists _; iexact S5
    iintro ⟨H0, H1, H2, H3, H4, H5, H6, H7, H8, H9, H10, H11, H12, H13, S0, S1, S2, S3, S4, S5⟩
    isplitl [S0 S1 S2 S3 S4 S5 Hg]
    · isplitl [S0]; · iexact S0
      isplitl [S1]; · iexact S1
      isplitl [S2]; · iexact S2
      isplitl [S3]; · iexact S3
      isplitl [S4]
      · iexists _; isplitr; swap; iexact S4
        ipureintro; exact hnext (lastG m c)
      isplitl [S5]
      · iexists _; isplitr; swap; iexact S5
        ipureintro; exact hnext (lastU m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have hp : (prev t).val + 1 = t.castSucc.val := by
      show t.val - 1 + 1 = t.val
      omega
    obtain rfl := hg (prev t) hp
    obtain rfl := hh (prev t) hp
    rw [show carryG m c t = lastG m c (prev t) from if_neg ht, show carryU m c t = lastU m c (prev t) from if_neg ht]
    iapply (run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM0 (Memref.isWhole_whole _) scM1 (Memref.isWhole_whole _) scM2 (Memref.isWhole_whole _) scM3 (Memref.isWhole_whole _) scM4 (Memref.isWhole_whole _) scM5 (Memref.isWhole_whole _) (fun h => ht ((startsBatch_iff t).1 h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (lastG m c (prev t)) (lastU m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, S0, S1, S2, S3, S4, S5⟩
    isplitl [S0 S1 S2 S3 S4 S5 Hg]
    · isplitl [S0]; · iexact S0
      isplitl [S1]; · iexact S1
      isplitl [S2]; · iexact S2
      isplitl [S3]; · iexact S3
      isplitl [S4]
      · iexists _; isplitr; swap; iexact S4
        ipureintro; exact hnext (lastG m c)
      isplitl [S5]
      · iexists _; isplitr; swap; iexact S5
        ipureintro; exact hnext (lastU m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body run at tile `t`. -/
theorem defs₀_row (t : Fin cfg0.N) :
    defs₀ (F := F) .tc cfg0.body (cfg0.bodyArgs t (cfg0.slots t)) = bodyAt0 t := by
  unfold defs₀; rw [Defs.onTc_tc]

/-- The body's obligation at every tile. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the launch hands over: the working buffers at some contents. -/
theorem inv_first (c : Dev nD) : (Pipeline.ΦA spec0 c : sProp 𝕄) ⊢ (dats m 0 c).Φ 0 := by
  rw [show (dats m 0 c).Φ 0 = inv m c 0 from rfl]
  unfold inv Pipeline.ΦA; rw [scopedRest0_eq]; simp only [scM0, scM1, scM2, scM3, scM4, scM5, owns_whole]
  iintro ⟨⟨S0, S1, S2, S3, ⟨%g, S4⟩, ⟨%h, S5⟩⟩, Hg⟩
  isplitl [S0]; · iexact S0
  isplitl [S1]; · iexact S1
  isplitl [S2]; · iexact S2
  isplitl [S3]; · iexact S3
  isplitl [S4]
  · iexists g; isplitr; swap; iexact S4
    ipureintro; exact fun s hs => absurd hs (Nat.succ_ne_zero _)
  isplitl [S5]
  · iexists h; isplitr; swap; iexact S5
    ipureintro; exact fun s hs => absurd hs (Nat.succ_ne_zero _)
  iexact Hg

/-- What it takes back. -/
theorem inv_last (c : Dev nD) : (dats m 0 c).Φ (Fin.last cfg0.N) ⊢ (Pipeline.ΦA spec0 c : sProp 𝕄) := by
  rw [show (dats m 0 c).Φ (Fin.last cfg0.N) = inv m c (Fin.last cfg0.N) from rfl]
  unfold inv Pipeline.ΦA; rw [scopedRest0_eq]; simp only [scM0, scM1, scM2, scM3, scM4, scM5, owns_whole]
  iintro ⟨S0, S1, S2, S3, ⟨%g, %hg, S4⟩, ⟨%h, %hh, S5⟩, Hg⟩
  isplitl [S0 S1 S2 S3 S4 S5]
  · isplitl [S0]; · iexact S0
    isplitl [S1]; · iexact S1
    isplitl [S2]; · iexact S2
    isplitl [S3]; · iexact S3
    isplitl [S4]; · iexists g; iexact S4
    iexists h; iexact S5
  iexact Hg

set_option backward.isDefEq.respectTransparency.types false in
/-- Every execution ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := inv_first m) (hout := inv_last m)

/-- The call runs, and ends with what its tiles wrote. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.First
-- ==== Proof.FirstValue.lean ====
/- The array that the first layer's output projection and feed-forward call leaves is the reference's.  Its tiles are
   those of the last layer's call up to the last norm, so what is known of those holds of these. -/
module

public import proofs.«01_k».proof.Proof.FfnValue
public import proofs.«01_k».proof.Proof.FirstFrame
public import proofs.«01_k».proof.Proof.Gen.ReferenceEIdeal.Read

@[expose] public section

set_option maxRecDepth 16384

noncomputable section

namespace Cert.First

open Cert.KernelEIdeal Cert.KernelEIdeal.Gen Idealize.ShloMosaic Idealize.ShloMosaic.TcCoe Idealize.SL.Sem
open Idealize.ShloMosaic.Pipeline (Dat)
open Cert.Ffn (accAt mixed normed gate2)

variable (m : (ℓ : Loc nD τ sig) → Buf (Elt Ideal) ℓ)

/-- The eleven arguments a device's memory holds. -/
def args (c : Dev nD) : Cert.Ffn.Args where
  x := m ((c : Thread nD τ).loc main_arg0)
  oa := m ((c : Thread nD τ).loc main_arg1)
  ob := m ((c : Thread nD τ).loc main_arg2)
  oc := m ((c : Thread nD τ).loc main_arg3)
  md := m ((c : Thread nD τ).loc main_arg4)
  wo := m ((c : Thread nD τ).loc main_arg5)
  g := m ((c : Thread nD τ).loc main_arg6)
  wu := m ((c : Thread nD τ).loc main_arg7)
  cw := m ((c : Thread nD τ).loc main_arg8)
  wd := m ((c : Thread nD τ).loc main_arg9)
  fg := m ((c : Thread nD τ).loc main_arg10)

/-- They are the last layer's call's, whose memory has the same places. -/
theorem args_eq (c : Dev nD) : args m c = Cert.Ffn.args m c := rfl

set_option maxHeartbeats 1000000 in
/-- Row `r` of the tile's block is token `s`'s hidden state after the network's residual. -/
theorem tileOut_at (c : Dev nD) (t : Fin cfg0.N) (r : Fin 512) (b : Fin 4) (s : Fin 8192) (hb : b.val = t.val / 16)
    (hs : s.val = t.val % 16 * 512 + r.val) (j : Fin 1024) :
    tileOut m c t (ix3 0 r j) = Cert.Ffn.x2 (Cert.Ffn.args m c) b s j := by
  have hm := Cert.Ffn.mixed_at m c t r b s hb hs j
  have ha : accAt (Cert.Ffn.tileHid m c t) (iblk m c 7 t) (iblk m c 8 t) (iblk m c 9 t) (iblk m c 10 t) (iblk m c 11 t) (carryG m c t)
      (carryU m c t) k0_t1_loop.trips (ix2 r j)
        = ∑ i : Fin 2816, Cert.Ffn.act (Cert.Ffn.args m c) b s i * (Cert.Ffn.args m c).wd (ix2 i j) :=
    (Cert.Ffn.acc_at m c t r b s hb hs j _ le_rfl).trans
      (by rw [show Cert.KernelFIdeal.k0_t1_loop.trips * 256 = 2816 by decide +kernel]; exact Cert.Ffn.sum_term _ b s j)
  have h4 : ∀ p : Fin 6, ∀ k : Fin 1024, iblk m c 4 t (ix3 0 p k) = ((Cert.Ffn.args m c).md (ix3 b p k) : EReal) := Cert.Ffn.blk4 m c t b hb
  change mixed (iblk m c 0 t) (iblk m c 1 t) (iblk m c 2 t) (iblk m c 3 t) (iblk m c 4 t) (iblk m c 5 t) (ix2 r j) = _ at hm
  change accAt (normed (iblk m c 0 t) (iblk m c 1 t) (iblk m c 2 t) (iblk m c 3 t) (iblk m c 4 t) (iblk m c 5 t) (iblk m c 6 t))
    (iblk m c 7 t) (iblk m c 8 t) (iblk m c 9 t) (iblk m c 10 t) (iblk m c 11 t) (carryG m c t) (carryU m c t) k0_t1_loop.trips (ix2 r j) = _ at ha
  unfold tileOut outBlk
  generalize mixed (iblk m c 0 t) (iblk m c 1 t) (iblk m c 2 t) (iblk m c 3 t) (iblk m c 4 t) (iblk m c 5 t) = M at hm ⊢
  generalize accAt (normed (iblk m c 0 t) (iblk m c 1 t) (iblk m c 2 t) (iblk m c 3 t) (iblk m c 4 t) (iblk m c 5 t) (iblk m c 6 t))
    (iblk m c 7 t) (iblk m c 8 t) (iblk m c 9 t) (iblk m c 10 t) (iblk m c 11 t) (carryG m c t) (carryU m c t) k0_t1_loop.trips = P at ha ⊢
  pointwise [gate2, k0_pay1, Cert.KernelFIdeal.Gen.k0_pay17, hm, ha, h4]
  rfl

/-- The first layer's reference returns that state: the last layer's before its norm. -/
theorem ref_x2 (A : Cert.Ffn.Args) (b : Fin 4) (s : Fin 8192) (j : Fin 1024) :
    Cert.ReferenceEIdeal.Read.val_main_v60 (F := Ideal) A.x A.oa A.ob A.oc A.md A.wo A.g A.wu A.cw A.wd (ix3 b s j) = Cert.Ffn.x2 A b s j :=
  Cert.Ffn.ref_x2 A b s j

/-- The tiles together leave the reference's result. -/
theorem final13 (c : Dev nD) : (dats m 0 c).arrAt 13 (cfgs 0).N
    = Cert.ReferenceEIdeal.Read.val_main_v60 (F := Ideal) (args m c).x (args m c).oa (args m c).ob (args m c).oc (args m c).md (args m c).wo
        (args m c).g (args m c).wu (args m c).cw (args m c).wd := by
  rw [args_eq]
  refine (dats m 0 c).arrAt_eq_of_covers 13 _ (by decide +kernel) fun t _ y => ?_
  blk_simp
  rw [after0_13]
  obtain ⟨b, s, hb, hs, he⟩ := Cert.Ffn.place13 t y
  refine Eq.trans ?_ (congrArg _ (show _ = ((cfg0.win 13).blk t).view.emb y from he.symm))
  idx_vars y
  obtain rfl := Fin.fin_one_eq_zero y0
  exact (tileOut_at m c t y1 b s hb hs y2).trans (ref_x2 _ b s y2).symm

end Cert.First
-- ==== Proof.FirstBits.lean ====
/- Summary.  The first layer's output projection and feed-forward kernel at machine floats is the same program as the
   one read over the extended reals, so its arguments end unchanged too. -/
module

public import proofs.«01_k».proof.Proof.FirstFrame
public import proofs.«01_k».proof.Proof.Gen.KernelE
public import proofs.«01_k».proof.Defs

@[expose] public section

set_option maxRecDepth 65536

namespace Cert.First

open Idealize.ShloMosaic Idealize.ShloMosaic.TcCoe Idealize.SL.Sem

variable {F : FTy → Type} [FloatOps F]

set_option maxHeartbeats 4000000 in
/-- The two programs' bodies are one. -/
theorem bodies_eq : Cert.KernelE.defs₀ (F := F) = Cert.KernelEIdeal.defs₀ := by
  funext p l a
  cases p with
  | tc =>
    obtain ⟨l, hl⟩ := l
    cases l with
    | zero => obtain ⟨t, s⟩ := a; rfl
    | succ l => exact absurd hl (Nat.not_lt.2 (Nat.le_add_left _ _))
  | scScalar _ => rfl
  | scVector _ _ => rfl

set_option maxHeartbeats 4000000 in
/-- So are their body tables. -/
theorem tables_eq : Cert.KernelE.defs (F := F) = Cert.KernelEIdeal.defs :=
  congrArg (Pipeline.defs Cert.KernelE.pcfgs) bodies_eq

set_option maxHeartbeats 4000000 in
/-- At machine floats the arguments end unchanged and every semaphore at zero. -/
theorem frame_bits : Cert.quiescent_KernelE (hKernelE := Cert.KernelE.Gen.facts) := fun m g _ =>
  (congrArg (fun D => θ_run D (onTc (τ := Cert.KernelE.τ) (Cert.KernelE.main (F := Bits))) ⟨m, fun _ => 0, g⟩ _) tables_eq).mpr
    (frame (F := Bits) m g)

end Cert.First
-- ==== Proof.FirstClaim.lean ====
/- The first layer's output projection and feed-forward call and its reference end with the same array. -/
module

public import proofs.«01_k».proof.Defs
public import proofs.«01_k».proof.Proof.FirstValue
public import proofs.«01_k».proof.Proof.FirstBits
public import proofs.«01_k».proof.Proof.Gen.ReferenceEIdeal.Run

@[expose] public section

set_option maxRecDepth 16384

noncomputable section

namespace Cert.First

open Idealize.ShloMosaic Idealize.SL.Sem

/-- The reference's run ends with its arguments unchanged and all counters at zero: it has no counter. -/
theorem reference_frame : Cert.quiescent_ReferenceEIdeal := fun m g _ =>
  (θ_run _ _ _).mono (fun r h => ⟨fun c => (h c).2, sem_eq_zero_of_no_sems (by decide) r.2⟩)
    (Cert.ReferenceEIdeal.Value.run m g)

/-- **The first layer's output projection and feed-forward call ends with its reference's array**, at every launch. -/
theorem algebraic : Cert.algebraic_KernelEIdeal_ReferenceEIdeal := by
  pair_intro
  · run_from Cert.First.run_main m g
  · run_from Cert.ReferenceEIdeal.Value.run m' g'
    · obtain ⟨h0, h1, h2, h3, h4, h5, h6, h7, h8, h9, h10⟩ := hagree c
      rw [final13 m c]
      unfold args
      rw [← h0, ← h1, ← h2, ← h3, ← h4, ← h5, ← h6, ← h7, ← h8, ← h9, ← h10]
      exact Cert.ReferenceEIdeal.Read.val_main_v60_eq m' c

end Cert.First
-- ==== Proof.MixLoop.lean ====
/- Summary.  The attention kernel's loop over blocks of keys, one trip at a time and then as a whole: what
   the two heads' running maximum, sum and weighted values read after the first `k` blocks. -/
module

public import proofs.«01_k».proof.Proof.Gen.KernelBIdeal.Loops
public import Idealize.ShloMosaic.Lib.Pipeline.FrameBody
public import Idealize.ShloMosaic.Lib.VecWindow
public import Idealize.ShloMosaic.Lib.WritesUnit
public import Idealize.ShloMosaic.Lib.Pointwise

@[expose] public section

set_option maxRecDepth 16384

noncomputable section

namespace Cert.Mix

open Idealize.ShloMosaic Idealize.ShloMosaic.TcCoe
open Cert.KernelBIdeal Cert.KernelBIdeal.Gen

variable {F : FTy → Type} [FloatOps F] [Named F]

/-! ## One block of keys, on values -/

/-- One head's running maximum, sum of weights and weighted sum of values, a row per query. -/
abbrev St (F : FTy → Type) [FloatOps F] : Type := Vec F S1x512x1 .f32 × Vec F S1x512x1 .f32 × Vec F S1x512x128 .f32

/-- The running maximum after a block with scores `s`. -/
def newM (s : FVec F S512x512 .f32) (m : Vec F S1x512x1 .f32) : FVec F S512x1 .f32 :=
  maximumf (shapeCast S512x1 m shapeCasts_S1x512x1_S512x1)
    (shapeCast S512x1 (multiReduction .maximumf [1] S512 s 0xFF800000#32 reduces_S512x512_S512 (.inl rfl) rfl) shapeCasts_S512_S512x1)

/-- What the sums so far are scaled by. -/
def alpha (s : FVec F S512x512 .f32) (m : Vec F S1x512x1 .f32) : FVec F S512x1 .f32 :=
  exp (subf (shapeCast S512x1 m shapeCasts_S1x512x1_S512x1) (newM s m))

/-- The block's weights. -/
def wts (s : FVec F S512x512 .f32) (m : Vec F S1x512x1 .f32) : FVec F S512x512 .f32 :=
  exp (subf s (broadcastTo S512x512 (newM s m) broadcasts_S512x1_S512x512))

/-- The sum of weights after the block. -/
def newL (s : FVec F S512x512 .f32) (m l : Vec F S1x512x1 .f32) : FVec F S1x512x1 .f32 :=
  shapeCast S1x512x1 (addf (mulf (alpha s m) (shapeCast S512x1 l shapeCasts_S1x512x1_S512x1))
    (shapeCast S512x1 (multiReduction .add [1] S512 (wts s m) 0x00000000#32 reduces_S512x512_S512 (.inl rfl) rfl) shapeCasts_S512_S512x1))
    shapeCasts_S512x1_S1x512x1

/-- The weighted sum of values after the block. -/
def newA (s : FVec F S512x512 .f32) (v : Vec F S1x512x128 .bf16) (m : Vec F S1x512x1 .f32) (a : Vec F S1x512x128 .f32) : FVec F S1x512x128 .f32 :=
  k0_pay10 (k0_pay3 v) (alpha s m) (wts s m) a

/-- A head's state after a block with scores `s` and values `v`. -/
def step (s : FVec F S512x512 .f32) (v : Vec F S1x512x128 .bf16) (x : St F) : St F :=
  (k0_pay11 (newM s x.1), newL s x.1 x.2.1, newA s v x.1 x.2.2)

/-- The first head's plane of an array with a column per head, -/
abbrev M0 : Rect S2x512x1 := Rect.unit ![0, 0, 0] S1x512x1.size inb_S2x512x1_S1x512x1_0_0_0
/-- the second's, -/
abbrev M1 : Rect S2x512x1 := Rect.unit ![1, 0, 0] S1x512x1.size inb_S2x512x1_S1x512x1_1_0_0
/-- the first head's plane of the weighted values, -/
abbrev A0 : Rect S2x512x128 := Rect.unit ![0, 0, 0] S1x512x128.size inb_S2x512x128_S1x512x128_0_0_0
/-- and the second's. -/
abbrev A1 : Rect S2x512x128 := Rect.unit ![1, 0, 0] S1x512x128.size inb_S2x512x128_S1x512x128_1_0_0

/-- The first head's state, out of the three arrays. -/
abbrev planes0 (x8 x9 : Vec F S2x512x1 .f32) (x10 : Vec F S2x512x128 .f32) : St F := (View.ld x8 M0, View.ld x9 M0, View.ld x10 A0)
/-- The second head's. -/
abbrev planes1 (x8 x9 : Vec F S2x512x1 .f32) (x10 : Vec F S2x512x128 .f32) : St F := (View.ld x8 M1, View.ld x9 M1, View.ld x10 A1)

/-- A block of keys, or of values. -/
abbrev ldK (i : grid0.Coords) (x : Vec F S1x8192x128 .bf16) (k : Fin (k0_t1_loop i).trips) : Vec F S1x512x128 .bf16 :=
  View.ld x (Rect.unit (k0_off1 i k) S1x512x128.size (k0_off1_inb i k))
/-- A head's cumulative gates over a block of keys. -/
abbrev ldG (i : grid0.Coords) (h : Fin 2) (x : Vec F S1x8x8192 .f32) (k : Fin (k0_t1_loop i).trips) : Vec F S1x1x512 .f32 :=
  View.ld x (Rect.unit (k0_off2 i k (BitVec.ofNat 32 h.val)) S1x1x512.size (k0_off2_inb i k h))

/-- A head's state after the first `k` blocks of keys. -/
def headAt (i : grid0.Coords) (h : Fin 2) (q : FVec F S512x128 .bf16) (x1 x2 : Vec F S1x8192x128 .bf16) (x3 : Vec F S1x8x8192 .f32)
    (x : St F) : ℕ → St F
  | 0 => x
  | k + 1 => if hk : k < (k0_t1_loop i).trips then
      step (k0_pay4 q (ldK i x1 ⟨k, hk⟩) (ldG i h x3 ⟨k, hk⟩)) (ldK i x2 ⟨k, hk⟩) (headAt i h q x1 x2 x3 x k)
    else headAt i h q x1 x2 x3 x k

/-! ## Reading the planes after stores -/

/-- Storing a plane and reading the same plane gives what was stored; -/
theorem ld_same {n : ℕ} (v : View sig .tc .vmem ⟨3, ![2, 512, n]⟩ .f32) (f : v.ty.Contents (Elt F)) (o : ℕ)
    (inb : ∀ a, (![o, 0, 0] : Fin 3 → ℕ) a + (![1, 512, n] : Fin 3 → ℕ) a ≤ (![2, 512, n] : Fin 3 → ℕ) a)
    (w : Vec F ⟨3, ![1, 512, n]⟩ .f32) (L : List (View.Piece (Elt F) ⟨3, ![2, 512, n]⟩ .f32)) :
    View.ld (v.read (Elt F) (v.writes (Elt F) f (⟨Rect.unit ![o, 0, 0] ![1, 512, n] inb, w⟩ :: L))) (Rect.unit (s := ⟨3, ![2, 512, n]⟩) ![o, 0, 0] ![1, 512, n] inb) = w := by
  funext y
  refine View.read_writes_cons_unit_of_mem v f inb w L _ y rfl fun a => ?_
  show (![o, 0, 0] : Fin 3 → ℕ) a + 1 * (y a).val = _
  rw [Nat.one_mul]

/-- reading another plane gives what it held. -/
theorem ld_other {n : ℕ} (v : View sig .tc .vmem ⟨3, ![2, 512, n]⟩ .f32) (f : v.ty.Contents (Elt F)) (o o' : ℕ) (ho : o' ≠ o)
    (inb : ∀ a, (![o, 0, 0] : Fin 3 → ℕ) a + (![1, 512, n] : Fin 3 → ℕ) a ≤ (![2, 512, n] : Fin 3 → ℕ) a)
    (inb' : ∀ a, (![o', 0, 0] : Fin 3 → ℕ) a + (![1, 512, n] : Fin 3 → ℕ) a ≤ (![2, 512, n] : Fin 3 → ℕ) a)
    (w : Vec F ⟨3, ![1, 512, n]⟩ .f32) (L : List (View.Piece (Elt F) ⟨3, ![2, 512, n]⟩ .f32)) :
    View.ld (v.read (Elt F) (v.writes (Elt F) f (⟨Rect.unit ![o, 0, 0] ![1, 512, n] inb, w⟩ :: L))) (Rect.unit (s := ⟨3, ![2, 512, n]⟩) ![o', 0, 0] ![1, 512, n] inb')
      = View.ld (v.read (Elt F) (v.writes (Elt F) f L)) (Rect.unit (s := ⟨3, ![2, 512, n]⟩) ![o', 0, 0] ![1, 512, n] inb') := by
  funext y
  refine View.read_writes_cons_unit_of_not_mem v f inb w L _ rfl 0 ?_
  have h : (y 0).val < 1 := (y 0).isLt
  show o' + 1 * (y 0).val < o ∨ o + 1 ≤ o' + 1 * (y 0).val
  omega

/-! ## One trip of the loop -/

variable (𝒱 : Variants) (c : Dev nD) (bd : Option 𝒱.V) (i : grid0.Coords)
  (arg3 : Memref sig .tc .vmem S1x512x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x8x8192 .f32) (harg6 : arg6.IsWhole)
  (arg7 : Memref sig .tc .vmem S1x512x128 .bf16) (harg7 : arg7.IsWhole) (arg8 : Memref sig .tc .vmem S2x512x1 .f32) (harg8 : arg8.IsWhole)
  (arg9 : Memref sig .tc .vmem S2x512x1 .f32) (harg9 : arg9.IsWhole) (arg10 : Memref sig .tc .vmem S2x512x128 .f32) (harg10 : arg10.IsWhole)
  (arg1 : BitVec 32) (v3 : Vec F S1x512x128 .bf16) (X4 : arg4.view.ty.Contents (Elt F)) (X5 : arg5.view.ty.Contents (Elt F))
  (X6 : arg6.view.ty.Contents (Elt F))

/-- A trip takes the first head's state one block on, -/
theorem trip_head0 (k : Fin (k0_t1_loop i).trips) (f8 : arg8.view.ty.Contents (Elt F)) (f9 : arg9.view.ty.Contents (Elt F)) (f10 : arg10.view.ty.Contents (Elt F)) :
    planes0 (arg8.view.read (Elt F) (arg8.view.writes (Elt F) f8 ((trip_k0_t1 (F := F) 𝒱 c bd i arg3 harg3 arg4 harg4 arg5 harg5 arg6 harg6 arg7 harg7 arg8 harg8 arg9 harg9 arg10 harg10 arg1 v3 X4 X5 X6 k).1 f8 f9 f10)))
        (arg9.view.read (Elt F) (arg9.view.writes (Elt F) f9 ((trip_k0_t1 (F := F) 𝒱 c bd i arg3 harg3 arg4 harg4 arg5 harg5 arg6 harg6 arg7 harg7 arg8 harg8 arg9 harg9 arg10 harg10 arg1 v3 X4 X5 X6 k).2.1 f8 f9 f10)))
        (arg10.view.read (Elt F) (arg10.view.writes (Elt F) f10 ((trip_k0_t1 (F := F) 𝒱 c bd i arg3 harg3 arg4 harg4 arg5 harg5 arg6 harg6 arg7 harg7 arg8 harg8 arg9 harg9 arg10 harg10 arg1 v3 X4 X5 X6 k).2.2.1 f8 f9 f10)))
      = step (k0_pay4 (k0_pay36 v3) (ldK i (arg4.view.read (Elt F) X4) k) (ldG i 0 (arg6.view.read (Elt F) X6) k)) (ldK i (arg5.view.read (Elt F) X5) k)
        (planes0 (arg8.view.read (Elt F) f8) (arg9.view.read (Elt F) f9) (arg10.view.read (Elt F) f10)) := by
  unfold trip_k0_t1
  dsimp only
  refine Prod.ext ?_ (Prod.ext ?_ ?_)
  · exact (ld_other arg8.view f8 1 0 (by decide) _ _ _ _).trans (ld_same arg8.view f8 0 _ _ _)
  · exact (ld_other arg9.view f9 1 0 (by decide) _ _ _ _).trans (ld_same arg9.view f9 0 _ _ _)
  · exact (ld_other arg10.view f10 1 0 (by decide) _ _ _ _).trans (ld_same arg10.view f10 0 _ _ _)

/-- and the second head's. -/
theorem trip_head1 (k : Fin (k0_t1_loop i).trips) (f8 : arg8.view.ty.Contents (Elt F)) (f9 : arg9.view.ty.Contents (Elt F)) (f10 : arg10.view.ty.Contents (Elt F)) :
    planes1 (arg8.view.read (Elt F) (arg8.view.writes (Elt F) f8 ((trip_k0_t1 (F := F) 𝒱 c bd i arg3 harg3 arg4 harg4 arg5 harg5 arg6 harg6 arg7 harg7 arg8 harg8 arg9 harg9 arg10 harg10 arg1 v3 X4 X5 X6 k).1 f8 f9 f10)))
        (arg9.view.read (Elt F) (arg9.view.writes (Elt F) f9 ((trip_k0_t1 (F := F) 𝒱 c bd i arg3 harg3 arg4 harg4 arg5 harg5 arg6 harg6 arg7 harg7 arg8 harg8 arg9 harg9 arg10 harg10 arg1 v3 X4 X5 X6 k).2.1 f8 f9 f10)))
        (arg10.view.read (Elt F) (arg10.view.writes (Elt F) f10 ((trip_k0_t1 (F := F) 𝒱 c bd i arg3 harg3 arg4 harg4 arg5 harg5 arg6 harg6 arg7 harg7 arg8 harg8 arg9 harg9 arg10 harg10 arg1 v3 X4 X5 X6 k).2.2.1 f8 f9 f10)))
      = step (k0_pay4 (k0_pay37 v3) (ldK i (arg4.view.read (Elt F) X4) k) (ldG i 1 (arg6.view.read (Elt F) X6) k)) (ldK i (arg5.view.read (Elt F) X5) k)
        (planes1 (arg8.view.read (Elt F) f8) (arg9.view.read (Elt F) f9) (arg10.view.read (Elt F) f10)) := by
  unfold trip_k0_t1
  dsimp only
  refine Prod.ext ?_ (Prod.ext ?_ ?_)
  · exact ld_same arg8.view f8 1 _ _ _
  · exact ld_same arg9.view f9 1 _ _ _
  · exact ld_same arg10.view f10 1 _ _ _

/-! ## The whole loop -/

/-- After `k` trips the three arrays hold the two heads' states after `k` blocks. -/
theorem loop_reads (f8 : arg8.view.ty.Contents (Elt F)) (f9 : arg9.view.ty.Contents (Elt F)) (f10 : arg10.view.ty.Contents (Elt F)) :
    ∀ k : ℕ, k ≤ (k0_t1_loop i).trips →
    planes0 (arg8.view.read (Elt F) (arg8.view.writes (Elt F) f8 (pb_k0_t1 (F := F) 𝒱 c bd i arg3 harg3 arg4 harg4 arg5 harg5 arg6 harg6 arg7 harg7 arg8 harg8 arg9 harg9 arg10 harg10 arg1 v3 X4 X5 X6 f8 f9 f10 k).1)) (arg9.view.read (Elt F) (arg9.view.writes (Elt F) f9 (pb_k0_t1 (F := F) 𝒱 c bd i arg3 harg3 arg4 harg4 arg5 harg5 arg6 harg6 arg7 harg7 arg8 harg8 arg9 harg9 arg10 harg10 arg1 v3 X4 X5 X6 f8 f9 f10 k).2.1))
        (arg10.view.read (Elt F) (arg10.view.writes (Elt F) f10 (pb_k0_t1 (F := F) 𝒱 c bd i arg3 harg3 arg4 harg4 arg5 harg5 arg6 harg6 arg7 harg7 arg8 harg8 arg9 harg9 arg10 harg10 arg1 v3 X4 X5 X6 f8 f9 f10 k).2.2))
      = headAt i 0 (k0_pay36 v3) (arg4.view.read (Elt F) X4) (arg5.view.read (Elt F) X5) (arg6.view.read (Elt F) X6)
        (planes0 (arg8.view.read (Elt F) f8) (arg9.view.read (Elt F) f9) (arg10.view.read (Elt F) f10)) k
    ∧ planes1 (arg8.view.read (Elt F) (arg8.view.writes (Elt F) f8 (pb_k0_t1 (F := F) 𝒱 c bd i arg3 harg3 arg4 harg4 arg5 harg5 arg6 harg6 arg7 harg7 arg8 harg8 arg9 harg9 arg10 harg10 arg1 v3 X4 X5 X6 f8 f9 f10 k).1)) (arg9.view.read (Elt F) (arg9.view.writes (Elt F) f9 (pb_k0_t1 (F := F) 𝒱 c bd i arg3 harg3 arg4 harg4 arg5 harg5 arg6 harg6 arg7 harg7 arg8 harg8 arg9 harg9 arg10 harg10 arg1 v3 X4 X5 X6 f8 f9 f10 k).2.1))
        (arg10.view.read (Elt F) (arg10.view.writes (Elt F) f10 (pb_k0_t1 (F := F) 𝒱 c bd i arg3 harg3 arg4 harg4 arg5 harg5 arg6 harg6 arg7 harg7 arg8 harg8 arg9 harg9 arg10 harg10 arg1 v3 X4 X5 X6 f8 f9 f10 k).2.2))
      = headAt i 1 (k0_pay37 v3) (arg4.view.read (Elt F) X4) (arg5.view.read (Elt F) X5) (arg6.view.read (Elt F) X6)
        (planes1 (arg8.view.read (Elt F) f8) (arg9.view.read (Elt F) f9) (arg10.view.read (Elt F) f10)) k
  | 0, _ => by simp only [pb_k0_t1, View.writes_nil, headAt]; exact ⟨trivial, trivial⟩
  | k + 1, h => by
    obtain ⟨ih0, ih1⟩ := loop_reads f8 f9 f10 k (Nat.le_of_succ_le h)
    have hk : k < (k0_t1_loop i).trips := h
    rw [pb_k0_t1_succ (F := F) 𝒱 c bd i arg3 harg3 arg4 harg4 arg5 harg5 arg6 harg6 arg7 harg7 arg8 harg8 arg9 harg9 arg10 harg10 arg1 v3 X4 X5 X6 f8 f9 f10 ⟨k, hk⟩]
    dsimp only
    rw [View.writes_append, View.writes_append, View.writes_append, headAt, headAt, dif_pos hk, dif_pos hk, ← ih0, ← ih1]
    exact ⟨trip_head0 𝒱 c bd i arg3 harg3 arg4 harg4 arg5 harg5 arg6 harg6 arg7 harg7 arg8 harg8 arg9 harg9 arg10 harg10 arg1 v3 X4 X5 X6 ⟨k, hk⟩ _ _ _, trip_head1 𝒱 c bd i arg3 harg3 arg4 harg4 arg5 harg5 arg6 harg6 arg7 harg7 arg8 harg8 arg9 harg9 arg10 harg10 arg1 v3 X4 X5 X6 ⟨k, hk⟩ _ _ _⟩

end Cert.Mix
-- ==== Proof.MixRun.lean ====
/- Summary.  One grid point of the attention kernel: the blocks of keys before the queries' own, then the
   queries' own block under the causal mask, then the quotients it stores. -/
module

public import proofs.«01_k».proof.Proof.MixLoop
public import proofs.«01_k».proof.Proof.Gen.KernelBIdeal.Frame

@[expose] public section

set_option maxRecDepth 16384

noncomputable section

namespace Cert.Mix

open Idealize.ShloMosaic Idealize.ShloMosaic.TcCoe
open Cert.KernelBIdeal Cert.KernelBIdeal.Gen

variable {F : FTy → Type} [FloatOps F] [Named F]

/-- The loop runs over the blocks of keys before the queries' own. -/
theorem trips_eq : ∀ i : grid0.Coords, (k0_t1_loop i).trips = (i 2).val := by decide +kernel

/-- The loop over what its step leaves has no trip. -/
theorem rest_eq : ∀ i : grid0.Coords, (k0_t2_loop i).trips = 0 := by decide +kernel

/-- The queries' own block of keys, or of values. -/
abbrev ldKd (i : grid0.Coords) (x : Vec F S1x8192x128 .bf16) : Vec F S1x512x128 .bf16 :=
  View.ld x (Rect.unit (k0_off5 i) S1x512x128.size (k0_off5_inb i))
/-- A head's cumulative gates over that block. -/
abbrev ldGd (i : grid0.Coords) (h : Fin 2) (x : Vec F S1x8x8192 .f32) : Vec F S1x1x512 .f32 :=
  View.ld x (Rect.unit (k0_off6 i (BitVec.ofNat 32 h.val)) S1x1x512.size (k0_off6_inb i h))

/-- A head's state at the end: the blocks before the queries' own, then the masked one. -/
def fin (i : grid0.Coords) (h : Fin 2) (q : FVec F S512x128 .bf16) (x1 x2 : Vec F S1x8192x128 .bf16) (x3 : Vec F S1x8x8192 .f32) (x : St F) : St F :=
  step (k0_pay49 q (ldKd i x1) (ldGd i h x3)) (ldKd i x2) (headAt i h q x1 x2 x3 x (k0_t1_loop i).trips)

/-- The first head's state at the end; -/
abbrev fin0 (i : grid0.Coords) (x0 : Vec F S1x512x128 .bf16) (x1 x2 : Vec F S1x8192x128 .bf16) (x3 : Vec F S1x8x8192 .f32) : St F :=
  fin i 0 (k0_pay36 x0) x1 x2 x3 (planes0 k0_pay38 k0_pay39 k0_pay40)
/-- the second's. -/
abbrev fin1 (i : grid0.Coords) (x0 : Vec F S1x512x128 .bf16) (x1 x2 : Vec F S1x8192x128 .bf16) (x3 : Vec F S1x8x8192 .f32) : St F :=
  fin i 1 (k0_pay37 x0) x1 x2 x3 (planes1 k0_pay38 k0_pay39 k0_pay40)

variable (c : Dev nD) (i : grid0.Coords)
  (arg3 : Memref sig .tc .vmem S1x512x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x8x8192 .f32) (harg6 : arg6.IsWhole)
  (arg7 : Memref sig .tc .vmem S1x512x128 .bf16) (harg7 : arg7.IsWhole) (arg8 : Memref sig .tc .vmem S2x512x1 .f32) (harg8 : arg8.IsWhole)
  (arg9 : Memref sig .tc .vmem S2x512x1 .f32) (harg9 : arg9.IsWhole) (arg10 : Memref sig .tc .vmem S2x512x128 .f32) (harg10 : arg10.IsWhole)
  (x0 : Vec F S1x512x128 .bf16) (x1 x2 : Vec F S1x8192x128 .bf16) (x3 : Vec F S1x8x8192 .f32)

/-- The loop over what the step leaves stores nothing. -/
theorem rest_nil (𝒱 : Variants) (bd : Option 𝒱.V) (b1 b2 : BitVec 32) (q0 q1 : FVec F S512x128 .bf16) (b3 b4 : BitVec 32)
    (X4 : arg4.view.ty.Contents (Elt F)) (X5 : arg5.view.ty.Contents (Elt F)) (X6 : arg6.view.ty.Contents (Elt F))
    (f8 : arg8.view.ty.Contents (Elt F)) (f9 : arg9.view.ty.Contents (Elt F)) (f10 : arg10.view.ty.Contents (Elt F)) :
    pb_k0_t2 (F := F) 𝒱 c bd i arg3 harg3 arg4 harg4 arg5 harg5 arg6 harg6 arg7 harg7 arg8 harg8 arg9 harg9 arg10 harg10 b1 b2 q0 q1 b3 b4 X4 X5 X6 f8 f9 f10 (Scf.trips (k0_t2_loop i).lb (k0_t2_loop i).ub (k0_t2_loop i).st) = ([], [], []) := by
  rw [show Scf.trips (k0_t2_loop i).lb (k0_t2_loop i).ub (k0_t2_loop i).st = 0 from rest_eq i, pb_k0_t2.eq_1]

/-- The first store fills the running maxima, -/
theorem read_first8 : arg8.view.read (Elt F) (arg8.view.writes (Elt F) arg8.view.junk kernelRun0_A.sl.HS0_1) = k0_pay38 := by
  unfold kernelRun0_A.sl.HS0_1; exact View.read_writes_full ..
/-- the sums, -/
theorem read_first9 : arg9.view.read (Elt F) (arg9.view.writes (Elt F) arg9.view.junk kernelRun0_A.sl.HS1_1) = k0_pay39 := by
  unfold kernelRun0_A.sl.HS1_1; exact View.read_writes_full ..
/-- and the weighted values. -/
theorem read_first10 : arg10.view.read (Elt F) (arg10.view.writes (Elt F) arg10.view.junk kernelRun0_A.sl.HS2_1) = k0_pay40 := by
  unfold kernelRun0_A.sl.HS2_1; exact View.read_writes_full ..
/-- The queries are loaded whole. -/
theorem queries : View.readAt (Elt F) arg3.view (Rect.unit ![0, 0, 0] S1x512x128.size inb_S1x512x128_S1x512x128_0_0_0).toLoadRect (harg3.unread x0) = x0 :=
  (View.readAt_full arg3.view _ _).trans (harg3.read_unread x0)

/-- Before its own block the first head's state is the one the loop leaves; -/
theorem start0 : (kernelRun0_A.sl.v52 c i arg3 harg3 arg4 harg4 arg5 harg5 arg6 harg6 arg7 harg7 arg8 harg8 arg9 harg9 arg10 harg10 x0 x1 x2 x3, kernelRun0_A.sl.v62 c i arg3 harg3 arg4 harg4 arg5 harg5 arg6 harg6 arg7 harg7 arg8 harg8 arg9 harg9 arg10 harg10 x0 x1 x2 x3, kernelRun0_A.sl.v71 c i arg3 harg3 arg4 harg4 arg5 harg5 arg6 harg6 arg7 harg7 arg8 harg8 arg9 harg9 arg10 harg10 x0 x1 x2 x3)
    = headAt i 0 (k0_pay36 x0) x1 x2 x3 (planes0 k0_pay38 k0_pay39 k0_pay40) (k0_t1_loop i).trips := by
  unfold kernelRun0_A.sl.v52 kernelRun0_A.sl.v62 kernelRun0_A.sl.v71
  rw [rest_nil]
  have h := (loop_reads Variants.none c none i arg3 harg3 arg4 harg4 arg5 harg5 arg6 harg6 arg7 harg7 arg8 harg8 arg9 harg9 arg10 harg10 (BitVec.ofNat 32 (i 1).val) (View.readAt (Elt F) arg3.view (Rect.unit ![0, 0, 0] S1x512x128.size inb_S1x512x128_S1x512x128_0_0_0).toLoadRect (harg3.unread x0)) (harg4.unread x1) (harg5.unread x2) (harg6.unread x3)
    (arg8.view.writes (Elt F) arg8.view.junk kernelRun0_A.sl.HS0_1) (arg9.view.writes (Elt F) arg9.view.junk kernelRun0_A.sl.HS1_1)
    (arg10.view.writes (Elt F) arg10.view.junk kernelRun0_A.sl.HS2_1) _ le_rfl).1
  rw [read_first8, read_first9, read_first10, harg4.read_unread, harg5.read_unread, harg6.read_unread, queries, ← View.writes_append, ← View.writes_append, ← View.writes_append] at h
  rw [queries]
  exact h

/-- the second's too, its planes untouched by the first head's stores. -/
theorem start1 : (kernelRun0_A.sl.v98 c i arg3 harg3 arg4 harg4 arg5 harg5 arg6 harg6 arg7 harg7 arg8 harg8 arg9 harg9 arg10 harg10 x0 x1 x2 x3, kernelRun0_A.sl.v108 c i arg3 harg3 arg4 harg4 arg5 harg5 arg6 harg6 arg7 harg7 arg8 harg8 arg9 harg9 arg10 harg10 x0 x1 x2 x3, kernelRun0_A.sl.v117 c i arg3 harg3 arg4 harg4 arg5 harg5 arg6 harg6 arg7 harg7 arg8 harg8 arg9 harg9 arg10 harg10 x0 x1 x2 x3)
    = headAt i 1 (k0_pay37 x0) x1 x2 x3 (planes1 k0_pay38 k0_pay39 k0_pay40) (k0_t1_loop i).trips := by
  unfold kernelRun0_A.sl.v98 kernelRun0_A.sl.v108 kernelRun0_A.sl.v117 kernelRun0_A.sl.HS0_1_1 kernelRun0_A.sl.HS1_1_1 kernelRun0_A.sl.HS2_1_1
  rw [rest_nil]
  have h := (loop_reads Variants.none c none i arg3 harg3 arg4 harg4 arg5 harg5 arg6 harg6 arg7 harg7 arg8 harg8 arg9 harg9 arg10 harg10 (BitVec.ofNat 32 (i 1).val) (View.readAt (Elt F) arg3.view (Rect.unit ![0, 0, 0] S1x512x128.size inb_S1x512x128_S1x512x128_0_0_0).toLoadRect (harg3.unread x0)) (harg4.unread x1) (harg5.unread x2) (harg6.unread x3)
    (arg8.view.writes (Elt F) arg8.view.junk kernelRun0_A.sl.HS0_1) (arg9.view.writes (Elt F) arg9.view.junk kernelRun0_A.sl.HS1_1)
    (arg10.view.writes (Elt F) arg10.view.junk kernelRun0_A.sl.HS2_1) _ le_rfl).2
  rw [read_first8, read_first9, read_first10, harg4.read_unread, harg5.read_unread, harg6.read_unread, queries, ← View.writes_append, ← View.writes_append, ← View.writes_append] at h
  rw [queries]
  refine Eq.trans (Prod.ext ?_ (Prod.ext ?_ ?_)) h
  · exact ld_other arg8.view _ 0 1 (by decide) _ _ _ _
  · exact ld_other arg9.view _ 0 1 (by decide) _ _ _ _
  · exact ld_other arg10.view _ 0 1 (by decide) _ _ _ _

/-- The first head's quotient reads its state at the end; -/
theorem end0 : kernelRun0_A.sl.v130 c i arg3 harg3 arg4 harg4 arg5 harg5 arg6 harg6 arg7 harg7 arg8 harg8 arg9 harg9 arg10 harg10 x0 x1 x2 x3 = (fin0 i x0 x1 x2 x3).2.2 ∧ kernelRun0_A.sl.v132 c i arg3 harg3 arg4 harg4 arg5 harg5 arg6 harg6 arg7 harg7 arg8 harg8 arg9 harg9 arg10 harg10 x0 x1 x2 x3 = (fin0 i x0 x1 x2 x3).2.1 := by
  unfold fin0 fin
  rw [← start0 c i arg3 harg3 arg4 harg4 arg5 harg5 arg6 harg6 arg7 harg7 arg8 harg8 arg9 harg9 arg10 harg10 x0 x1 x2 x3]
  constructor
  · unfold kernelRun0_A.sl.v130 kernelRun0_A.sl.HS2_2 kernelRun0_A.sl.HS2_1_1
    refine (ld_other arg10.view _ 1 0 (by decide) _ _ _ _).trans ((ld_same arg10.view _ 0 _ _ _).trans ?_)
    unfold kernelRun0_A.sl.r_3 kernelRun0_A.sl.r_5 kernelRun0_A.sl.r_6 kernelRun0_A.sl.r
    rw [queries]
    simp only [View.readAt_eq_ld, harg4.read_unread, harg5.read_unread, harg6.read_unread]
    rfl
  · unfold kernelRun0_A.sl.v132 kernelRun0_A.sl.HS1_2 kernelRun0_A.sl.HS1_1_1
    refine (ld_other arg9.view _ 1 0 (by decide) _ _ _ _).trans ((ld_same arg9.view _ 0 _ _ _).trans ?_)
    unfold kernelRun0_A.sl.r_7 kernelRun0_A.sl.r
    rw [queries]
    simp only [View.readAt_eq_ld, harg4.read_unread, harg6.read_unread]
    rfl

/-- the second head's too. -/
theorem end1 : kernelRun0_A.sl.v136 c i arg3 harg3 arg4 harg4 arg5 harg5 arg6 harg6 arg7 harg7 arg8 harg8 arg9 harg9 arg10 harg10 x0 x1 x2 x3 = (fin1 i x0 x1 x2 x3).2.2 ∧ kernelRun0_A.sl.v138 c i arg3 harg3 arg4 harg4 arg5 harg5 arg6 harg6 arg7 harg7 arg8 harg8 arg9 harg9 arg10 harg10 x0 x1 x2 x3 = (fin1 i x0 x1 x2 x3).2.1 := by
  unfold fin1 fin
  rw [← start1 c i arg3 harg3 arg4 harg4 arg5 harg5 arg6 harg6 arg7 harg7 arg8 harg8 arg9 harg9 arg10 harg10 x0 x1 x2 x3]
  constructor
  · unfold kernelRun0_A.sl.v136 kernelRun0_A.sl.HS2_2
    refine (ld_same arg10.view _ 1 _ _ _).trans ?_
    unfold kernelRun0_A.sl.r_3 kernelRun0_A.sl.r_8 kernelRun0_A.sl.r_10 kernelRun0_A.sl.r_11 kernelRun0_A.sl.r_2 kernelRun0_A.sl.r_1
    rw [queries]
    simp only [View.readAt_eq_ld, harg4.read_unread, harg5.read_unread, harg6.read_unread]
    rfl
  · unfold kernelRun0_A.sl.v138 kernelRun0_A.sl.HS1_2
    refine (ld_same arg9.view _ 1 _ _ _).trans ?_
    unfold kernelRun0_A.sl.r_8 kernelRun0_A.sl.r_10 kernelRun0_A.sl.r_11 kernelRun0_A.sl.r_2 kernelRun0_A.sl.r_1
    rw [queries]
    simp only [View.readAt_eq_ld, harg4.read_unread, harg6.read_unread]
    rfl

/-- What the point leaves in its output block: each head's weighted values over its sum of weights. -/
theorem out_eq : out0_A_4 c i arg3 harg3 arg4 harg4 arg5 harg5 arg6 harg6 arg7 harg7 arg8 harg8 arg9 harg9 arg10 harg10 x0 x1 x2 x3
    = k0_pay1 k0_pay34 (k0_pay67 (fin0 i x0 x1 x2 x3).2.2 (fin0 i x0 x1 x2 x3).2.1) (fin1 i x0 x1 x2 x3).2.2 (fin1 i x0 x1 x2 x3).2.1 := by
  unfold out0_A_4 kernelRun0_A
  dsimp only
  refine (View.read_writes_full ..).trans ?_
  unfold kernelRun0_A.sl.r_12
  rw [(end0 c i arg3 harg3 arg4 harg4 arg5 harg5 arg6 harg6 arg7 harg7 arg8 harg8 arg9 harg9 arg10 harg10 x0 x1 x2 x3).1, (end0 c i arg3 harg3 arg4 harg4 arg5 harg5 arg6 harg6 arg7 harg7 arg8 harg8 arg9 harg9 arg10 harg10 x0 x1 x2 x3).2, (end1 c i arg3 harg3 arg4 harg4 arg5 harg5 arg6 harg6 arg7 harg7 arg8 harg8 arg9 harg9 arg10 harg10 x0 x1 x2 x3).1, (end1 c i arg3 harg3 arg4 harg4 arg5 harg5 arg6 harg6 arg7 harg7 arg8 harg8 arg9 harg9 arg10 harg10 x0 x1 x2 x3).2]

end Cert.Mix
-- ==== Proof.MixSoft.lean ====
/- Summary.  The arithmetic of a softmax-weighted sum taken block by block: the running maximum, sum of
   weights and weighted sum stand for the same quotient whatever real number they are taken against. -/
module

public import Idealize.ShloMosaic.Lib.Pointwise

@[expose] public section

noncomputable section

namespace Cert.Mix

open Idealize.ShloMosaic

/-- The weight of a score against `μ`: its exponential, none where the score is masked. -/
def wt (x : EReal) (μ : ℝ) : ℝ := if x = ⊥ then 0 else Real.exp (x.toReal - μ)

/-- The exponential of a score less a real number is its weight. -/
theorem exp_sub (x : EReal) (hx : x ≠ ⊤) (μ : ℝ) : Ideal.exp (x - (μ : EReal)) = (wt x μ : EReal) := by
  unfold wt
  induction x using EReal.rec with
  | bot => rw [if_pos rfl, EReal.bot_sub]; exact EReal.coe_zero.symm
  | coe x => rw [if_neg (EReal.coe_ne_bot x), EReal.toReal_coe, ← EReal.coe_sub]; rfl
  | top => exact absurd rfl hx

/-- A weight against another number is the weight times a constant. -/
theorem wt_mul (x : EReal) (μ ν : ℝ) : Real.exp (μ - ν) * wt x μ = wt x ν := by
  unfold wt
  split
  · rw [mul_zero]
  · rw [← Real.exp_add]; congr 1; ring

/-- Shifting score and number alike changes nothing. -/
theorem wt_add (x : EReal) (t μ : ℝ) (hx : x ≠ ⊤) : wt (x + (t : EReal)) (μ + t) = wt x μ := by
  unfold wt
  induction x using EReal.rec with
  | bot => rw [EReal.bot_add, if_pos rfl, if_pos rfl]
  | coe x =>
    rw [← EReal.coe_add, if_neg (EReal.coe_ne_bot _), if_neg (EReal.coe_ne_bot _), EReal.toReal_coe, EReal.toReal_coe]
    congr 1; ring
  | top => exact absurd rfl hx

/-- Weights are not negative, -/
theorem wt_nonneg (x : EReal) (μ : ℝ) : 0 ≤ wt x μ := by
  unfold wt; split
  · exact le_rfl
  · exact (Real.exp_pos _).le

/-- and positive where the score is not masked. -/
theorem wt_pos (x : EReal) (μ : ℝ) (hx : x ≠ ⊥) : 0 < wt x μ := by
  unfold wt; rw [if_neg hx]; exact Real.exp_pos _

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals. -/
theorem div_real (a l : ℝ) (hl : l ≠ 0) : Ideal.div (a : EReal) (l : EReal) = ((a / l : ℝ) : EReal) := by
  rw [Ideal.div_coe hl, ← EReal.coe_mul, mul_one_div]

/-- A real number that is not negative times a sum. -/
theorem coe_mul_sum {ι : Type*} (s : Finset ι) (f : ι → EReal) (c : ℝ) (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- After the first `n` keys: before any, nothing; then the sums against some real number. -/
def Holds (σ : ℕ → EReal) (v : ℕ → EReal) (n : ℕ) (m l a : EReal) : Prop :=
  (n = 0 ∧ m = ⊥ ∧ l = 0 ∧ a = 0) ∨ ∃ μ : ℝ, m = (μ : EReal)
    ∧ l = ((∑ u ∈ Finset.range n, wt (σ u) μ : ℝ) : EReal) ∧ a = ∑ u ∈ Finset.range n, (wt (σ u) μ : EReal) * v u

/-- The largest of scores none of which is infinite and one of which is real is real. -/
theorem fold_real {k : ℕ} (s : Fin k → EReal) (hs : ∀ j, s j ≠ ⊤) (j : Fin k) (hj : s j ≠ ⊥) :
    ∃ μ : ℝ, Finset.univ.fold max (⊥ : EReal) s = (μ : EReal) := by
  have h1 : Finset.univ.fold max (⊥ : EReal) s < ⊤ :=
    (Finset.fold_max_lt _).mpr ⟨bot_lt_top, fun x _ => lt_top_iff_ne_top.mpr (hs x)⟩
  have h2 : (⊥ : EReal) < Finset.univ.fold max (⊥ : EReal) s :=
    (Finset.lt_fold_max _).mpr (Or.inr ⟨j, Finset.mem_univ _, bot_lt_iff_ne_bot.mpr hj⟩)
  exact ⟨_, (EReal.coe_toReal h1.ne h2.ne').symm⟩

/-- One block of 512 keys takes the sums over the first `n` keys to those over the first `n + 512`. -/
theorem holds_step (σ : ℕ → EReal) (v : ℕ → EReal) (n : ℕ) (m l a : EReal) (h : Holds σ v n m l a)
    (s y : Fin 512 → EReal) (hs : ∀ j : Fin 512, s j = σ (n + j.val)) (hσ : ∀ j, s j ≠ ⊤)
    (j : Fin 512) (hj : s j ≠ ⊥) (hy : ∀ j : Fin 512, y j = v (n + j.val))
    (m' l' a' : EReal) (hm' : m' = max m (Finset.univ.fold max (⊥ : EReal) s))
    (hl' : l' = Ideal.exp (m - m') * l + ∑ j, Ideal.exp (s j - m'))
    (ha' : a' = Ideal.exp (m - m') * a + ∑ j, Ideal.exp (s j - m') * y j) :
    ∃ μ : ℝ, m' = (μ : EReal) ∧ l' = ((∑ u ∈ Finset.range (n + 512), wt (σ u) μ : ℝ) : EReal)
      ∧ a' = ∑ u ∈ Finset.range (n + 512), (wt (σ u) μ : EReal) * v u := by
  obtain ⟨β, hβ⟩ := fold_real s hσ j hj
  have hblk : ∀ μ : ℝ, (∑ j, Ideal.exp (s j - (μ : EReal))) = ((∑ u ∈ Finset.range 512, wt (σ (n + u)) μ : ℝ) : EReal) := fun μ => by
    rw [Finset.sum_range, coe_sum]
    exact Finset.sum_congr rfl fun j _ => by rw [exp_sub _ (hσ j), hs]
  have hblv : ∀ μ : ℝ, (∑ j, Ideal.exp (s j - (μ : EReal)) * y j) = ∑ u ∈ Finset.range 512, (wt (σ (n + u)) μ : EReal) * v (n + u) := fun μ => by
    rw [Finset.sum_range]
    exact Finset.sum_congr rfl fun j _ => by rw [exp_sub _ (hσ j), hs, hy]
  rw [hβ] at hm'
  rcases h with ⟨rfl, rfl, rfl, rfl⟩ | ⟨μ, rfl, rfl, rfl⟩
  · rw [max_eq_right bot_le] at hm'
    subst hm'
    refine ⟨β, rfl, ?_, ?_⟩
    · rw [hl', hblk, mul_zero, zero_add, zero_add]
      simp only [Nat.zero_add]
    · rw [ha', hblv, mul_zero, zero_add, zero_add]
      simp only [Nat.zero_add]
  · obtain ⟨ν, hν⟩ : ∃ ν : ℝ, max (μ : EReal) (β : EReal) = (ν : EReal) := ⟨max μ β, (Monotone.map_max (fun _ _ h => EReal.coe_le_coe_iff.mpr h)).symm⟩
    rw [hν] at hm'
    subst hm'
    have he : Ideal.exp ((μ : EReal) - (ν : EReal)) = (Real.exp (μ - ν) : EReal) := by rw [← EReal.coe_sub]; rfl
    refine ⟨ν, rfl, ?_, ?_⟩
    · rw [hl', hblk, he, ← EReal.coe_mul, ← EReal.coe_add, Finset.sum_range_add, Finset.mul_sum]
      simp only [wt_mul]
    · rw [ha', hblv, he, Finset.sum_range_add, coe_mul_sum _ _ _ (Real.exp_pos _).le]
      simp only [← mul_assoc, ← EReal.coe_mul, wt_mul]

/-- The quotient of the sums over the first `n` keys: the softmax-weighted mean. -/
def mean (σ : ℕ → EReal) (v : ℕ → EReal) (n : ℕ) : EReal :=
  Ideal.div (∑ u ∈ Finset.range n, (wt (σ u) 0 : EReal) * v u) ((∑ u ∈ Finset.range n, wt (σ u) 0 : ℝ) : EReal)

/-- The sum of weights is positive once one score is not masked. -/
theorem sum_wt_pos (σ : ℕ → EReal) (n : ℕ) (μ : ℝ) (u : ℕ) (hu : u < n) (h : σ u ≠ ⊥) : 0 < ∑ u ∈ Finset.range n, wt (σ u) μ :=
  Finset.sum_pos' (fun x _ => wt_nonneg _ _) ⟨u, Finset.mem_range.mpr hu, wt_pos _ _ h⟩

/-- Against any number the quotient is the mean. -/
theorem mean_eq (σ : ℕ → EReal) (v : ℕ → EReal) (n : ℕ) (μ : ℝ) (h : 0 < ∑ u ∈ Finset.range n, wt (σ u) μ) :
    Ideal.div (∑ u ∈ Finset.range n, (wt (σ u) μ : EReal) * v u) ((∑ u ∈ Finset.range n, wt (σ u) μ : ℝ) : EReal) = mean σ v n := by
  unfold mean
  have e1 : ∑ u ∈ Finset.range n, wt (σ u) 0 = Real.exp (μ - 0) * ∑ u ∈ Finset.range n, wt (σ u) μ := by
    simp only [Finset.mul_sum, wt_mul]
  have e2 : ∑ u ∈ Finset.range n, (wt (σ u) 0 : EReal) * v u = (Real.exp (μ - 0) : EReal) * ∑ u ∈ Finset.range n, (wt (σ u) μ : EReal) * v u := by
    rw [coe_mul_sum _ _ _ (Real.exp_pos _).le]
    simp only [← mul_assoc, ← EReal.coe_mul, wt_mul]
  have he := Real.exp_pos (μ - 0)
  rw [e1, e2, Ideal.div_coe h.ne', Ideal.div_coe (mul_pos he h).ne', mul_comm (Real.exp (μ - 0) : EReal), mul_assoc, ← EReal.coe_mul]
  congr 2
  field_simp

/-- Masked keys at the end change nothing. -/
theorem mean_more (σ : ℕ → EReal) (v : ℕ → EReal) (n k : ℕ) (h : ∀ u, n ≤ u → σ u = ⊥) : mean σ v (n + k) = mean σ v n := by
  have h0 : ∀ u, wt (σ (n + u)) 0 = 0 := fun u => by rw [h _ (Nat.le_add_right n u)]; exact if_pos rfl
  unfold mean
  rw [Finset.sum_range_add, Finset.sum_range_add]
  simp only [h0, EReal.coe_zero, zero_mul, Finset.sum_const_zero, add_zero]

/-- Shifting every score by the same real number changes nothing. -/
theorem mean_add (σ : ℕ → EReal) (v : ℕ → EReal) (n : ℕ) (t : ℝ) (h : ∀ u, σ u ≠ ⊤) (hp : 0 < ∑ u ∈ Finset.range n, wt (σ u) 0) :
    mean (fun u => σ u + (t : EReal)) v n = mean σ v n := by
  have e : ∀ u, wt (σ u + (t : EReal)) (0 + t) = wt (σ u) 0 := fun u => wt_add _ t 0 (h u)
  rw [← mean_eq _ v n (0 + t) (by simpa only [e] using hp)]
  unfold mean
  simp only [e]

/-- The mean as the sum of the values times their shares. -/
theorem mean_shares (σ : ℕ → EReal) (v : ℕ → EReal) (n : ℕ) (μ : ℝ) (h : 0 < ∑ u ∈ Finset.range n, wt (σ u) μ) :
    ∑ u ∈ Finset.range n, v u * Ideal.div (wt (σ u) μ : EReal) ((∑ u ∈ Finset.range n, wt (σ u) μ : ℝ) : EReal) = mean σ v n := by
  rw [← mean_eq σ v n μ h, Ideal.div_coe h.ne', mul_comm, coe_mul_sum _ _ _ (one_div_pos.mpr h).le]
  refine Finset.sum_congr rfl fun u _ => ?_
  rw [Ideal.div_coe h.ne', mul_comm, mul_assoc, mul_left_comm]

end Cert.Mix
-- ==== Proof.MixHead.lean ====
/- Summary.  One head of a grid point at exact arithmetic: its state after each block of keys, and the
   quotient at the end, the softmax-weighted mean of the values under the causal mask. -/
module

public import proofs.«01_k».proof.Proof.MixRun
public import proofs.«01_k».proof.Proof.MixSoft
public import Idealize.ShloMosaic.Lib.Pipeline.ValueKit.Tiles

@[expose] public section

set_option maxRecDepth 16384

noncomputable section

namespace Cert.Mix

open Idealize.ShloMosaic Idealize.ShloMosaic.TcCoe
open Cert.KernelBIdeal Cert.KernelBIdeal.Gen

/-! ## Entries -/

/-- The pattern of minus infinity is the least extended real. -/
theorem neg_inf : Ideal.ofBits FTy.f32 0xFF800000#32 = ⊥ := by simp [Ideal.ofBits, Ideal.ieee]

/-- The named mask is the least extended real. -/
theorem mask_bot : Named.named (F := Ideal) (φ := .f32) κ "mask" 0xF149F2CA#32 = (⊥ : EReal) :=
  IdealRules.named_const.ideal_named_scalar _ _ _ _ rfl

/-- A small number's word, read with its sign, is the number. -/
theorem toInt_small (a : ℕ) (h : a < 2 ^ 31) : (BitVec.ofNat 32 a).toInt = (a : ℤ) := by
  rw [BitVec.toInt_eq_toNat_of_lt (by rw [BitVec.toNat_ofNat]; omega), BitVec.toNat_ofNat, Nat.mod_eq_of_lt (by omega)]

/-- Choosing by "at most" between small numbers' words. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  unfold Scalar.select IntOp.cmpi
  simp only [BitVec.sle, toInt_small a ha, toInt_small b hb, Nat.cast_le]
  by_cases h : a ≤ b <;> simp [h]

/-- Choosing by "below" between small numbers' words. -/
theorem select_lt {α : Type} (a b : ℕ) (ha : a < 2 ^ 31) (hb : b < 2 ^ 31) (x y : α) :
    Scalar.select (IntOp.cmpi .slt (BitVec.ofNat 32 a) (BitVec.ofNat 32 b)) x y = if a < b then x else y := by
  unfold Scalar.select IntOp.cmpi
  simp only [BitVec.slt, toInt_small a ha, toInt_small b hb, Nat.cast_lt]
  by_cases h : a < b <;> simp [h]

section entries
variable (s : FVec Ideal S512x512 .f32) (v : Vec Ideal S1x512x128 .bf16) (x : St Ideal) (r : Fin 512)

/-- The running maximum after a block; -/
theorem newM_at (m : Vec Ideal S1x512x1 .f32) :
    newM s m (ix2 r 0) = max (m (ix3 0 r 0)) (Finset.univ.fold max (⊥ : EReal) fun j : Fin 512 => s (ix2 r j)) := by
  pointwise [newM]
  rw [neg_inf]

/-- as the state holds it; -/
theorem step_m : (step s v x).1 (ix3 0 r 0) = max (x.1 (ix3 0 r 0)) (Finset.univ.fold max (⊥ : EReal) fun j : Fin 512 => s (ix2 r j)) := by
  have h := newM_at s r x.1
  show k0_pay11 (newM s x.1) (ix3 0 r 0) = _
  generalize newM s x.1 = M at h ⊢
  pointwise [k0_pay11]
  exact h

/-- the sum of weights; -/
theorem step_l : (step s v x).2.1 (ix3 0 r 0) = Ideal.exp (x.1 (ix3 0 r 0) - (step s v x).1 (ix3 0 r 0)) * x.2.1 (ix3 0 r 0)
    + ∑ j : Fin 512, Ideal.exp (s (ix2 r j) - (step s v x).1 (ix3 0 r 0)) := by
  rw [step_m]
  show newL s x.1 x.2.1 (ix3 0 r 0) = _
  have h := newM_at s r x.1
  pointwise [newL, alpha, wts, h]

/-- the weighted sum of values. -/
theorem step_a (j : Fin 128) : (step s v x).2.2 (ix3 0 r j) = Ideal.exp (x.1 (ix3 0 r 0) - (step s v x).1 (ix3 0 r 0)) * x.2.2 (ix3 0 r j)
    + ∑ u : Fin 512, Ideal.exp (s (ix2 r u) - (step s v x).1 (ix3 0 r 0)) * v (ix3 0 u j) := by
  rw [step_m]
  show newA s v x.1 x.2.2 (ix3 0 r j) = _
  have h := newM_at s r x.1
  pointwise [newA, k0_pay10, k0_pay3, alpha, wts, h]

end entries

/-- A block's entry, from where the block starts. -/
theorem begins (o : Fin 3 → ℕ) (a b c : ℕ) (ho : o = ![a, b, c]) (p q r : ℕ) :
    ∀ x : Fin 3, (![a + p, b + q, c + r] x : ℕ) = o x + ![p, q, r] x := by
  subst ho
  intro x
  fin_cases x <;> rfl

/-- There are sixteen blocks of queries, -/
theorem i2_lt (i : grid0.Coords) : (i 2).val < 16 := (i 2).isLt
/-- and two pairs of heads. -/
theorem i1_lt (i : grid0.Coords) : (i 1).val < 2 := (i 1).isLt
/-- The loop stays before the queries' own block. -/
theorem k_lt (i : grid0.Coords) (k : Fin (k0_t1_loop i).trips) : k.val < (i 2).val := by
  exact lt_of_lt_of_eq k.isLt (trips_eq i)

section loads
variable (i : grid0.Coords) (h : Fin 2) (k : Fin (k0_t1_loop i).trips)

/-- A block of keys or values holds rows `512 k` on; -/
theorem ldK_at (x : Vec Ideal S1x8192x128 .bf16) (p : Fin 512) (d : Fin 128) (u : Fin 8192) (hu : u.val = 512 * k.val + p.val) :
    ldK i x k (ix3 0 p d) = x (ix3 0 u d) :=
  View.ld_unit_apply_of _ _ _ _ _ (ix3 0 u d) (fun a => by
    have := begins _ 0 (512 * k.val) 0 (k0_off1_eq i k) 0 p.val d.val a
    rw [← hu, Nat.zero_add, Nat.zero_add] at this
    fin_cases a <;> exact this)

/-- a block of gates, columns `512 k` on of its head's row; -/
theorem ldG_at (x : Vec Ideal S1x8x8192 .f32) (p : Fin 512) (g : Fin 8) (hg : g.val = 2 * (i 1).val + h.val) (u : Fin 8192) (hu : u.val = 512 * k.val + p.val) :
    ldG i h x k (ix3 0 0 p) = x (ix3 0 g u) :=
  View.ld_unit_apply_of _ _ _ _ _ (ix3 0 g u) (fun a => by
    have := begins _ 0 (2 * (i 1).val + h.val) (512 * k.val) (k0_off2_eq i k h) 0 0 p.val a
    rw [← hu, Nat.zero_add, Nat.add_zero, ← hg] at this
    fin_cases a <;> exact this)

/-- the queries' own block likewise; -/
theorem ldKd_at (x : Vec Ideal S1x8192x128 .bf16) (p : Fin 512) (d : Fin 128) (u : Fin 8192) (hu : u.val = 512 * (i 2).val + p.val) :
    ldKd i x (ix3 0 p d) = x (ix3 0 u d) :=
  View.ld_unit_apply_of _ _ _ _ _ (ix3 0 u d) (fun a => by
    have := begins _ 0 (512 * (i 2).val) 0 (k0_off5_eq i) 0 p.val d.val a
    rw [← hu, Nat.zero_add, Nat.zero_add] at this
    fin_cases a <;> exact this)

/-- and its gates. -/
theorem ldGd_at (x : Vec Ideal S1x8x8192 .f32) (p : Fin 512) (g : Fin 8) (hg : g.val = 2 * (i 1).val + h.val) (u : Fin 8192) (hu : u.val = 512 * (i 2).val + p.val) :
    ldGd i h x (ix3 0 0 p) = x (ix3 0 g u) :=
  View.ld_unit_apply_of _ _ _ _ _ (ix3 0 g u) (fun a => by
    have := begins _ 0 (2 * (i 1).val + h.val) (512 * (i 2).val) (k0_off6_eq i h) 0 0 p.val a
    rw [← hu, Nat.zero_add, Nat.add_zero, ← hg] at this
    fin_cases a <;> exact this)

end loads

/-! ## A head's state -/

/-- The sums over the first keys see only those keys' scores. -/
theorem holds_congr {σ τ : ℕ → EReal} {v : ℕ → EReal} {n : ℕ} {m l a : EReal} (h : Holds σ v n m l a) (e : ∀ u < n, σ u = τ u) :
    Holds τ v n m l a := by
  have e' : ∀ μ, ∀ u ∈ Finset.range n, wt (σ u) μ = wt (τ u) μ := fun μ u hu => by rw [e u (Finset.mem_range.mp hu)]
  rcases h with h | ⟨μ, h1, h2, h3⟩
  · exact Or.inl h
  · refine Or.inr ⟨μ, h1, h2.trans (congrArg _ (Finset.sum_congr rfl (e' μ))), h3.trans (Finset.sum_congr rfl fun u hu => by rw [e' μ u hu])⟩

section head
variable (i : grid0.Coords) (h : Fin 2) (q : FVec Ideal S512x128 .bf16) (x1 x2 : Vec Ideal S1x8192x128 .bf16) (x3 : Vec Ideal S1x8x8192 .f32)
  (x : St Ideal) (S : ℕ → ℝ) (v : ℕ → EReal) (r : Fin 512) (j : Fin 128) (g : Fin 8) (hg : g.val = 2 * (i 1).val + h.val)
  (hS : ∀ u : Fin 8192, (∑ d : Fin 128, q (ix2 r d) * x1 (ix3 0 u d)) - x3 (ix3 0 g u) = (S u.val : EReal))
  (hv : ∀ u : Fin 8192, x2 (ix3 0 u j) = v u.val)
  (hx : x.1 (ix3 0 r 0) = (⊥ : EReal) ∧ x.2.1 (ix3 0 r 0) = (0 : EReal) ∧ x.2.2 (ix3 0 r j) = (0 : EReal))
include hg hS hv hx

/-- After `k` blocks a head's state holds the sums over the first `512 k` keys. -/
theorem headAt_holds : ∀ k : ℕ, k ≤ (k0_t1_loop i).trips → Holds (fun u => (S u : EReal)) v (512 * k)
    ((headAt i h q x1 x2 x3 x k).1 (ix3 0 r 0)) ((headAt i h q x1 x2 x3 x k).2.1 (ix3 0 r 0)) ((headAt i h q x1 x2 x3 x k).2.2 (ix3 0 r j))
  | 0, _ => Or.inl ⟨rfl, hx⟩
  | k + 1, hk => by
    have ih := headAt_holds k (Nat.le_of_succ_le hk)
    have hk' : k < (k0_t1_loop i).trips := hk
    have hlt : k < (i 2).val := k_lt i ⟨k, hk'⟩
    have h16 := i2_lt i
    rw [headAt, dif_pos hk']
    generalize headAt i h q x1 x2 x3 x k = y at ih ⊢
    have hs : ∀ u : Fin 512, k0_pay4 q (ldK i x1 ⟨k, hk'⟩) (ldG i h x3 ⟨k, hk'⟩) (ix2 r u) = (S (512 * k + u.val) : EReal) := fun u => by
      have hu : 512 * k + u.val < 8192 := by omega
      have e1 := fun d : Fin 128 => ldK_at i ⟨k, hk'⟩ x1 u d ⟨512 * k + u.val, hu⟩ rfl
      have e2 := ldG_at i h ⟨k, hk'⟩ x3 u g hg ⟨512 * k + u.val, hu⟩ rfl
      generalize ldK i x1 ⟨k, hk'⟩ = K at e1 ⊢
      generalize ldG i h x3 ⟨k, hk'⟩ = G at e2 ⊢
      pointwise [k0_pay4, k0_pay2, e1, e2]
      exact hS ⟨512 * k + u.val, hu⟩
    have hy : ∀ u : Fin 512, ldK i x2 ⟨k, hk'⟩ (ix3 0 u j) = v (512 * k + u.val) := fun u =>
      (ldK_at i ⟨k, hk'⟩ x2 u j ⟨512 * k + u.val, by omega⟩ rfl).trans (hv _)
    exact Or.inr (holds_step _ v (512 * k) _ _ _ ih (fun u => k0_pay4 q (ldK i x1 ⟨k, hk'⟩) (ldG i h x3 ⟨k, hk'⟩) (ix2 r u)) (fun u => ldK i x2 ⟨k, hk'⟩ (ix3 0 u j))
      hs (fun u => by rw [hs]; exact EReal.coe_ne_top _) 0 (by rw [hs]; exact EReal.coe_ne_bot _) hy _ _ _
      (step_m _ _ y r) (step_l _ _ y r) (step_a _ _ y r j))

/-- A query's scores: real up to the query itself, masked after it. -/
theorem fin_div : Ideal.div ((fin i h q x1 x2 x3 x).2.2 (ix3 0 r j)) ((fin i h q x1 x2 x3 x).2.1 (ix3 0 r 0))
    = mean (fun u => if u ≤ 512 * (i 2).val + r.val then (S u : EReal) else ⊥) v (512 * (i 2).val + 512) := by
  have h16 := i2_lt i
  have ih := headAt_holds i h q x1 x2 x3 x S v r j g hg hS hv hx _ le_rfl
  unfold fin
  generalize headAt i h q x1 x2 x3 x (k0_t1_loop i).trips = y at ih ⊢
  rw [trips_eq] at ih
  have ih' := holds_congr (τ := fun u => if u ≤ 512 * (i 2).val + r.val then (S u : EReal) else ⊥) ih (fun u hu => (if_pos (by omega)).symm)
  have hs : ∀ u : Fin 512, k0_pay49 q (ldKd i x1) (ldGd i h x3) (ix2 r u)
      = if 512 * (i 2).val + u.val ≤ 512 * (i 2).val + r.val then (S (512 * (i 2).val + u.val) : EReal) else ⊥ := fun u => by
    have hu : 512 * (i 2).val + u.val < 8192 := by omega
    have e1 := fun d : Fin 128 => ldKd_at i x1 u d ⟨512 * (i 2).val + u.val, hu⟩ rfl
    have e2 := ldGd_at i h x3 u g hg ⟨512 * (i 2).val + u.val, hu⟩ rfl
    generalize ldKd i x1 = K at e1 ⊢
    generalize ldGd i h x3 = G at e2 ⊢
    pointwise [k0_pay49, k0_pay47, e1, e2]
    rw [select_le _ _ (by omega) (by omega), mask_bot]
    simp only [Nat.add_le_add_iff_left]
    exact if_congr Iff.rfl (hS ⟨512 * (i 2).val + u.val, hu⟩) rfl
  have hy : ∀ u : Fin 512, ldKd i x2 (ix3 0 u j) = v (512 * (i 2).val + u.val) := fun u =>
    (ldKd_at i x2 u j ⟨512 * (i 2).val + u.val, by omega⟩ rfl).trans (hv _)
  obtain ⟨μ, -, hl, ha⟩ := holds_step _ v (512 * (i 2).val) _ _ _ ih' (fun u => k0_pay49 q (ldKd i x1) (ldGd i h x3) (ix2 r u)) (fun u => ldKd i x2 (ix3 0 u j))
    hs (fun u => by rw [hs]; split; exact EReal.coe_ne_top _; exact bot_ne_top) r (by rw [hs, if_pos le_rfl]; exact EReal.coe_ne_bot _) hy _ _ _
    (step_m _ (ldKd i x2) y r) (step_l _ (ldKd i x2) y r) (step_a _ (ldKd i x2) y r j)
  rw [hl, ha, mean_eq _ _ _ _ (sum_wt_pos _ _ μ (512 * (i 2).val + r.val) (by omega) (by rw [if_pos le_rfl]; exact EReal.coe_ne_bot _))]

end head

end Cert.Mix
-- ==== Proof.MixSpec.lean ====
/- Summary.  The attention of one head over its tokens, at exact arithmetic: what every entry of the call's
   result is, as a softmax-weighted mean of real numbers. -/
module

public import proofs.«01_k».proof.Proof.MixHead

@[expose] public section

set_option maxRecDepth 16384

noncomputable section

namespace Cert.Mix

open Idealize.ShloMosaic Idealize.ShloMosaic.TcCoe
open Cert.KernelBIdeal Cert.KernelBIdeal.Gen

/-- Token `u`; past the last, the count starts again. -/
def tok (u : ℕ) : Fin 8192 := ⟨u % 8192, Nat.mod_lt _ (by decide)⟩

/-- A token's number is itself. -/
theorem tok_val (u : Fin 8192) : tok u.val = u := Fin.ext (Nat.mod_eq_of_lt u.isLt)

/-- A number is real. -/
def Real' (x : EReal) : Prop := x = (x.toReal : EReal)

/-- The queries and keys are real numbers: columns 768 to 1279. -/
def RealQK (X : Vec Ideal S4x8192x1536 .bf16) : Prop := ∀ (b : Fin 4) (u : Fin 8192) (j : Fin 1536), 768 ≤ j.val → j.val < 1280 → Real' (X (ix3 b u j))

/-- The heads' running decays are real numbers: rows 0 to 3. -/
def RealF (G : Vec Ideal S4x8x8192 .f32) : Prop := ∀ (b : Fin 4) (g : Fin 8) (u : Fin 8192), g.val < 4 → Real' (G (ix3 b g u))

variable (X : Vec Ideal S4x8192x1536 .bf16) (G : Vec Ideal S4x8x8192 .f32) (b : Fin 4)

/-- Head `h`'s score of token `t` against token `u`: the query and the key multiplied, less the decay of `u`. -/
def score (h : Fin 4) (t : Fin 8192) (u : ℕ) : ℝ :=
  (∑ d : Fin 64, EReal.toReal (X (ix3 b t ⟨768 + 64 * h.val + d.val, by omega⟩)) * EReal.toReal (X (ix3 b (tok u) ⟨1024 + 64 * h.val + d.val, by omega⟩)))
    - EReal.toReal (G (ix3 b ⟨h.val, by omega⟩ (tok u)))

/-- Entry `c` of token `u`'s values. -/
def value (c : Fin 256) (u : ℕ) : EReal := X (ix3 b (tok u) ⟨1280 + c.val, by omega⟩)

/-- The head that column `c` belongs to. -/
def head (c : Fin 256) : Fin 4 := ⟨c.val / 64, by omega⟩

/-- The scores of token `t` under the causal mask. -/
def masked (h : Fin 4) (t : Fin 8192) (u : ℕ) : EReal := if u ≤ t.val then (score X G b h t u : EReal) else ⊥

/-- Entry `c` of token `t`'s result: the mean of the values of the tokens up to `t`, weighted by the softmax of the scores. -/
def res (t : Fin 8192) (c : Fin 256) : EReal := mean (masked X G b (head c) t) (value X b c) (t.val + 1)

/-- The mean over further tokens is the same: the mask leaves them no weight. -/
theorem res_eq (t : Fin 8192) (c : Fin 256) (n : ℕ) (h : t.val + 1 ≤ n) :
    mean (masked X G b (head c) t) (value X b c) n = res X G b t c := by
  obtain ⟨k, rfl⟩ := Nat.exists_eq_add_of_le h
  exact mean_more _ _ _ _ fun u hu => if_neg (by omega)

/-- Products and a difference of entries that are real numbers, as a score. -/
theorem score_coe (hX : RealQK X) (hG : RealF G) (h : Fin 4) (t u : Fin 8192) :
    ((∑ d : Fin 64, (X (ix3 b t ⟨768 + 64 * h.val + d.val, by omega⟩) : EReal) * X (ix3 b u ⟨1024 + 64 * h.val + d.val, by omega⟩))
      - G (ix3 b ⟨h.val, by omega⟩ u) : EReal) = (score X G b h t u.val : EReal) := by
  unfold score
  rw [tok_val, EReal.coe_sub, coe_sum, ← show _ = _ from hG _ _ _ h.isLt]
  refine congrArg (· - _) (Finset.sum_congr rfl fun d _ => ?_)
  rw [EReal.coe_mul, ← show _ = _ from hX b t ⟨768 + 64 * h.val + d.val, by omega⟩ (by show 768 ≤ 768 + 64 * h.val + d.val; omega) (by show 768 + 64 * h.val + d.val < 1280; omega),
    ← show _ = _ from hX b u ⟨1024 + 64 * h.val + d.val, by omega⟩ (by show 768 ≤ 1024 + 64 * h.val + d.val; omega) (by show 1024 + 64 * h.val + d.val < 1280; omega)]

/-- An entry of the values, at a token. -/
theorem value_tok (c : Fin 256) (u : Fin 8192) : X (ix3 b u ⟨1280 + c.val, by omega⟩) = value X b c u.val := by
  unfold value
  rw [tok_val]

end Cert.Mix
-- ==== Proof.MixBlock.lean ====
/- Summary.  What one grid point of the attention call leaves in its output block, from the call's arrays. -/
module

public import proofs.«01_k».proof.Proof.MixSpec
public import Idealize.ShloMosaic.Lib.Pipeline.ValueKit
public import Idealize.ShloMosaic.Lib.Pointwise

@[expose] public section

set_option maxRecDepth 16384

noncomputable section

namespace Cert.Mix

open Cert.KernelBIdeal Cert.KernelBIdeal.Gen Idealize.ShloMosaic Idealize.ShloMosaic.TcCoe Idealize.SL.Sem

/-- A product with the upper 64 lanes at zero is the product of the lower. -/
theorem lower (q k : Fin 128 → EReal) :
    ∑ d : Fin 128, (if d.val < 64 then q d else 0) * k d = ∑ d : Fin 64, q ⟨d.val, by omega⟩ * k ⟨d.val, by omega⟩ := by
  refine (Fin.sum_univ_add (a := 64) (b := 64) (fun d => (if d.val < 64 then q d else 0) * k d)).trans ?_
  rw [Finset.sum_eq_zero (s := Finset.univ) (f := fun d : Fin 64 => (if (Fin.natAdd 64 d).val < 64 then q (Fin.natAdd 64 d) else 0) * k (Fin.natAdd 64 d))
    (fun d _ => by rw [if_neg (by simp), zero_mul]), add_zero]
  exact Finset.sum_congr rfl fun d _ => congrArg₂ (· * ·) (if_pos d.isLt) rfl

/-- A product with the lower 64 lanes at zero is the product of the upper. -/
theorem upper (q k : Fin 128 → EReal) :
    ∑ d : Fin 128, (if d.val < 64 then 0 else q d) * k d = ∑ d : Fin 64, q ⟨64 + d.val, by omega⟩ * k ⟨64 + d.val, by omega⟩ := by
  refine (Fin.sum_univ_add (a := 64) (b := 64) (fun d => (if d.val < 64 then 0 else q d) * k d)).trans ?_
  rw [Finset.sum_eq_zero (s := Finset.univ) (f := fun d : Fin 64 => (if (Fin.castAdd 64 d).val < 64 then 0 else q (Fin.castAdd 64 d)) * k (Fin.castAdd 64 d))
    (fun d _ => by rw [if_pos (by simp), zero_mul]), zero_add]
  exact Finset.sum_congr rfl fun d _ => congrArg₂ (· * ·) (if_neg (by simp)) rfl

/-- Where the blocks of every window sit. -/
theorem idx : ∀ t : Fin cfg0.N, win0_0.index t = ![t.val / 32, t.val % 16, 6 + t.val / 16 % 2] ∧ win0_1.index t = ![t.val / 32, 0, 8 + t.val / 16 % 2]
    ∧ win0_2.index t = ![t.val / 32, 0, 10 + t.val / 16 % 2] ∧ win0_3.index t = ![t.val / 32, 0, 0]
    ∧ win0_4.index t = ![t.val / 32, t.val % 16, t.val / 16 % 2] :=
  (by decide +kernel : ∀ t : Fin grid0.N, _)

/-- The pair of heads and the tile of tokens of a grid point. -/
theorem coords : ∀ t : Fin cfg0.N, ((grid0.coords t) 1).val = t.val / 16 % 2 ∧ ((grid0.coords t) 2).val = t.val % 16 :=
  (by decide +kernel : ∀ t : Fin grid0.N, _)

section blocks
variable (m : (ℓ : Loc nD τ sig) → Buf (Elt Ideal) ℓ) (c : Dev nD) (t : Fin cfg0.N) (b : Fin 4) (hb : b.val = t.val / 32)
include hb

/-- The call's queries, keys and values. -/
abbrev qkv : Vec Ideal S4x8192x1536 .bf16 := m ((c : Thread nD τ).loc main_arg0)

/-- The call's running sums of the decays. -/
abbrev decay : Vec Ideal S4x8x8192 .f32 := m ((c : Thread nD τ).loc main_arg1)

/-- A point's block of queries; -/
theorem blk0 (r : Fin 512) (s : Fin 8192) (hs : s.val = t.val % 16 * 512 + r.val) (d : Fin 128) (j : Fin 1536)
    (hj : j.val = 768 + 128 * (t.val / 16 % 2) + d.val) : iblk m c 0 t (ix3 0 r d) = (qkv m c (ix3 b s j) : EReal) := by
  blk_ext [iblk, V, idx t]

/-- of keys; -/
theorem blk1 (u : Fin 8192) (d : Fin 128) (j : Fin 1536) (hj : j.val = 1024 + 128 * (t.val / 16 % 2) + d.val) :
    iblk m c 1 t (ix3 0 u d) = (qkv m c (ix3 b u j) : EReal) := by
  blk_ext [iblk, V, idx t]

/-- of values; -/
theorem blk2 (u : Fin 8192) (d : Fin 128) (j : Fin 1536) (hj : j.val = 1280 + 128 * (t.val / 16 % 2) + d.val) :
    iblk m c 2 t (ix3 0 u d) = (qkv m c (ix3 b u j) : EReal) := by
  blk_ext [iblk, V, idx t]

/-- of decays. -/
theorem blk3 (g : Fin 8) (u : Fin 8192) : iblk m c 3 t (ix3 0 g u) = (decay m c (ix3 b g u) : EReal) := by
  blk_ext [iblk, V, idx t]

end blocks

/-- The query block with the upper lanes at zero, -/
theorem q0_at (x0 : Vec Ideal S1x512x128 .bf16) (r : Fin 512) (d : Fin 128) : k0_pay36 x0 (ix2 r d) = if d.val < 64 then x0 (ix3 0 r d) else (0 : EReal) := by
  pointwise [k0_pay36, k0_pay35, k0_pay34]
  exact select_lt _ 64 (by omega) (by omega) _ _

/-- and with the lower lanes at zero. -/
theorem q1_at (x0 : Vec Ideal S1x512x128 .bf16) (r : Fin 512) (d : Fin 128) : k0_pay37 x0 (ix2 r d) = if d.val < 64 then (0 : EReal) else x0 (ix3 0 r d) := by
  pointwise [k0_pay37, k0_pay35, k0_pay34]
  exact select_lt _ 64 (by omega) (by omega) _ _

/-- The two heads' quotients side by side. -/
theorem out_at (a a' : Vec Ideal S1x512x128 .f32) (l l' : Vec Ideal S1x512x1 .f32) (r : Fin 512) (j : Fin 128) :
    k0_pay1 k0_pay34 (k0_pay67 a l) a' l' (ix3 0 r j)
      = if j.val < 64 then Ideal.div (a (ix3 0 r j)) (l (ix3 0 r 0)) else Ideal.div (a' (ix3 0 r j)) (l' (ix3 0 r 0)) := by
  pointwise [k0_pay1, k0_pay67, k0_pay34]
  exact select_lt _ 64 (by omega) (by omega) _ _

/-- Before the first block of keys the first head's state is empty; -/
theorem empty0 (r : Fin 512) (j : Fin 128) : View.ld (Val := Elt Ideal) (e' := .f32) (k0_pay38 (F := Ideal)) M0 (ix3 0 r 0) = (⊥ : EReal) ∧ View.ld (Val := Elt Ideal) (e' := .f32) (k0_pay39 (F := Ideal)) M0 (ix3 0 r 0) = (0 : EReal)
    ∧ View.ld (Val := Elt Ideal) (e' := .f32) (k0_pay40 (F := Ideal)) A0 (ix3 0 r j) = (0 : EReal) := by
  refine ⟨?_, ?_, ?_⟩
  · rw [View.ld_apply]
    pointwise [k0_pay38]
    exact mask_bot
  · rw [View.ld_apply]
    pointwise [k0_pay39]
  · rw [View.ld_apply]
    pointwise [k0_pay40]

/-- so is the second's. -/
theorem empty1 (r : Fin 512) (j : Fin 128) : View.ld (Val := Elt Ideal) (e' := .f32) (k0_pay38 (F := Ideal)) M1 (ix3 0 r 0) = (⊥ : EReal) ∧ View.ld (Val := Elt Ideal) (e' := .f32) (k0_pay39 (F := Ideal)) M1 (ix3 0 r 0) = (0 : EReal)
    ∧ View.ld (Val := Elt Ideal) (e' := .f32) (k0_pay40 (F := Ideal)) A1 (ix3 0 r j) = (0 : EReal) := by
  refine ⟨?_, ?_, ?_⟩
  · rw [View.ld_apply]
    pointwise [k0_pay38]
    exact mask_bot
  · rw [View.ld_apply]
    pointwise [k0_pay39]
  · rw [View.ld_apply]
    pointwise [k0_pay40]

section point
variable (m : (ℓ : Loc nD τ sig) → Buf (Elt Ideal) ℓ) (c : Dev nD) (t : Fin cfg0.N) (b : Fin 4) (hb : b.val = t.val / 32)
    (hX : RealQK (qkv m c)) (hG : RealF (decay m c)) (r : Fin 512) (s : Fin 8192) (hs : s.val = t.val % 16 * 512 + r.val)
    (j : Fin 128) (e : Fin 256) (he : e.val = 128 * (t.val / 16 % 2) + j.val)
include hb hX hG hs he

/-- Row `r`, lane `j` of a point's block is token `s`'s entry `e`. -/
theorem point_at : k0_pay1 k0_pay34 (k0_pay67 (fin0 (grid0.coords t) (iblk m c 0 t) (iblk m c 1 t) (iblk m c 2 t) (iblk m c 3 t)).2.2
      (fin0 (grid0.coords t) (iblk m c 0 t) (iblk m c 1 t) (iblk m c 2 t) (iblk m c 3 t)).2.1)
      (fin1 (grid0.coords t) (iblk m c 0 t) (iblk m c 1 t) (iblk m c 2 t) (iblk m c 3 t)).2.2
      (fin1 (grid0.coords t) (iblk m c 0 t) (iblk m c 1 t) (iblk m c 2 t) (iblk m c 3 t)).2.1 (ix3 0 r j)
    = res (qkv m c) (decay m c) b s e := by
  obtain ⟨h1, h2⟩ := coords t
  have hv : ∀ u : Fin 8192, iblk m c 2 t (ix3 0 u j) = value (qkv m c) b e u.val := fun u =>
    (blk2 m c t b hb u j ⟨1280 + e.val, by omega⟩ (by show 1280 + e.val = _; omega)).trans (value_tok _ b e u)
  have hm : ∀ h : Fin 4, (fun u => if u ≤ 512 * ((grid0.coords t) 2).val + r.val then (score (qkv m c) (decay m c) b h s u : EReal) else ⊥)
      = masked (qkv m c) (decay m c) b h s := fun h => funext fun u => if_congr (by rw [h2, hs, mul_comm]) rfl rfl
  rw [out_at]
  by_cases hj : j.val < 64
  · rw [if_pos hj]
    unfold fin0
    rw [fin_div (grid0.coords t) 0 (k0_pay36 (iblk m c 0 t)) (iblk m c 1 t) (iblk m c 2 t) (iblk m c 3 t) _
      (fun u => score (qkv m c) (decay m c) b (head e) s u) (value (qkv m c) b e) r j ⟨2 * (t.val / 16 % 2), by omega⟩ (by rw [h1]; rfl) (fun u => ?_) hv (empty0 r j),
      hm, res_eq _ _ _ _ _ _ (by omega)]
    simp only [q0_at]
    rw [lower, ← score_coe (qkv m c) (decay m c) b hX hG, blk3 m c t b hb]
    have hh : (head e).val = 2 * (t.val / 16 % 2) := by show e.val / 64 = _; omega
    refine congrArg₂ (· - ·) (Finset.sum_congr rfl fun d _ => ?_) (congrArg (fun g => decay m c (ix3 b g u)) (Fin.ext hh.symm))
    exact congrArg₂ (· * ·) (blk0 m c t b hb r s hs _ _ (by show 768 + 64 * (head e).val + d.val = 768 + 128 * (t.val / 16 % 2) + d.val; rw [hh]; omega))
      (blk1 m c t b hb u _ _ (by show 1024 + 64 * (head e).val + d.val = 1024 + 128 * (t.val / 16 % 2) + d.val; rw [hh]; omega))
  · rw [if_neg hj]
    unfold fin1
    rw [fin_div (grid0.coords t) 1 (k0_pay37 (iblk m c 0 t)) (iblk m c 1 t) (iblk m c 2 t) (iblk m c 3 t) _
      (fun u => score (qkv m c) (decay m c) b (head e) s u) (value (qkv m c) b e) r j ⟨2 * (t.val / 16 % 2) + 1, by omega⟩ (by rw [h1]; rfl) (fun u => ?_) hv (empty1 r j),
      hm, res_eq _ _ _ _ _ _ (by omega)]
    simp only [q1_at]
    rw [upper, ← score_coe (qkv m c) (decay m c) b hX hG, blk3 m c t b hb]
    have hh : (head e).val = 2 * (t.val / 16 % 2) + 1 := by show e.val / 64 = _; omega
    refine congrArg₂ (· - ·) (Finset.sum_congr rfl fun d _ => ?_) (congrArg (fun g => decay m c (ix3 b g u)) (Fin.ext hh.symm))
    exact congrArg₂ (· * ·) (blk0 m c t b hb r s hs _ _ (by show 768 + 64 * (head e).val + d.val = 768 + 128 * (t.val / 16 % 2) + (64 + d.val); rw [hh]; omega))
      (blk1 m c t b hb u _ _ (by show 1024 + 64 * (head e).val + d.val = 1024 + 128 * (t.val / 16 % 2) + (64 + d.val); rw [hh]; omega))

end point

end Cert.Mix
-- ==== Proof.MixRef.lean ====
/- Summary.  What the reference's attention computes, entry by entry: the same mean. -/
module

public import proofs.«01_k».proof.Proof.MixSpec
public import proofs.«01_k».proof.Proof.Gen.ReferenceBIdeal.Read
public import Idealize.ShloMosaic.Lib.Pointwise
public import Idealize.ShloMosaic.Lib.IdealHost
public import Idealize.ShloMosaic.Lib.KernelVsHost

@[expose] public section

set_option maxRecDepth 16384

noncomputable section

namespace Cert.Mix

open Cert.ReferenceBIdeal Cert.ReferenceBIdeal.Gen Cert.ReferenceBIdeal.Read Idealize.ShloMosaic Idealize.ShloMosaic.TcCoe

variable (X : Vec Ideal S4x8192x1536 .bf16) (G : Vec Ideal S4x8x8192 .f32) (b : Fin 4)

/-- The reference's score of token `t` against token `u`, before the mask. -/
theorem ref_scores (hX : RealQK X) (hG : RealF G) (h : Fin 4) (t u : Fin 8192) :
    val_main_v23 (F := Ideal) X G (ix4 b h t u) = masked X G b h t u.val + (EReal.toReal (G (ix3 b ⟨h.val, by omega⟩ t)) : EReal) := by
  have e0 := score_coe X G b hX hG h t u
  have e1 : G (ix3 b ⟨h.val, by omega⟩ t) = _ := hG b ⟨h.val, by omega⟩ t h.isLt
  have e2 : G (ix3 b ⟨h.val, by omega⟩ u) = _ := hG b ⟨h.val, by omega⟩ u h.isLt
  have e3 : (∑ d : Fin 64, (X (ix3 b t ⟨768 + (h.val * 64 + d.val), by omega⟩) : EReal) * X (ix3 b u ⟨1024 + (h.val * 64 + d.val), by omega⟩))
      = ∑ d : Fin 64, (X (ix3 b t ⟨768 + 64 * h.val + d.val, by omega⟩) : EReal) * X (ix3 b u ⟨1024 + 64 * h.val + d.val, by omega⟩) :=
    Finset.sum_congr rfl fun d _ => congrArg₂ (· * ·) (congrArg (fun n => X (ix3 b t n)) (Fin.ext (by show 768 + (h.val * 64 + d.val) = 768 + 64 * h.val + d.val; omega)))
      (congrArg (fun n => X (ix3 b u n)) (Fin.ext (by show 1024 + (h.val * 64 + d.val) = 1024 + 64 * h.val + d.val; omega)))
  pointwise [val_main_v23, val_main_v22, val_main_v21, val_main_v20, val_main_v19, val_main_v18, val_main_v17, val_main_v16, val_main_v15, val_main_v14, val_main_v13,
    val_main_v12, val_main_v11, val_main_v10, val_main_v9, val_main_v5, val_main_v4, val_main_v3, val_main_v2, val_main_v1, val_main_v0, val_main_call0_v0, val_main_call0_v1, val_main_call0_v2, val_main_cst]
  rw [select_le _ _ (by omega) (by omega), e3]
  unfold masked
  split
  · rw [← e0, e1, e2, sub_eq_add_neg, sub_eq_add_neg, add_right_comm]
    simp only [EReal.toReal_coe]
  · rw [EReal.bot_add]
    exact neg_inf

/-- The maximum over the last axis, from minus infinity. -/
theorem max_last {n0 n1 n2 n3 : ℕ} {w : Shape} (S : FVec Ideal ⟨4, ![n0, n1, n2, n3]⟩ .f32)
    (hr : (⟨4, ![n0, n1, n2, n3]⟩ : Shape).ReducesTo [3] ⟨3, ![n0, n1, n2]⟩) (hw : 0 < w.numel) (a : Fin n0) (b : Fin n1) (c : Fin n2) :
    Host.reduce FloatOps.maximumf S (constant w .f32 0xFF800000#32) hr hw (ix3 a b c) = Finset.univ.fold max (⊥ : EReal) fun x : Fin n3 => S (ix4 a b c x) := by
  pointwise []
  rw [neg_inf]

/-- The reference's maximum of a token's scores. -/
theorem ref_fold (h : Fin 4) (t : Fin 8192) : val_main_v24 (F := Ideal) X G (ix3 b h t)
    = Finset.univ.fold max (⊥ : EReal) fun u : Fin 8192 => val_main_v23 (F := Ideal) X G (ix4 b h t u) := by
  unfold val_main_v24 val_main_cst_0
  generalize val_main_v23 (F := Ideal) X G = S
  exact max_last S reducesTo_S4x4x8192x8192_S4x4x8192_d3 h_S_ b h t

/-- What it is compared with is minus infinity. -/
theorem ref_least (h : Fin 4) (t : Fin 8192) : val_main_v25 (F := Ideal) (ix3 b h t) = (⊥ : EReal) := by
  pointwise [val_main_v25, val_main_cst_1]
  exact neg_inf

/-- The larger of two numbers. -/
theorem max_real (a b : EReal) : FloatOps.maximumf (F := Ideal) (φ := .f32) a b = max a b := rfl

/-- The reference's greatest score of a token. -/
theorem ref_max (h : Fin 4) (t : Fin 8192) : val_main_v26 (F := Ideal) X G (ix3 b h t)
    = Finset.univ.fold max (⊥ : EReal) fun u : Fin 8192 => val_main_v23 (F := Ideal) X G (ix4 b h t u) := by
  rw [val_main_v26_apply, ref_least, ref_fold, max_real]
  exact max_eq_right bot_le

/-- Entry `c` of token `t`: the values weighted by the softmax of the scores. -/
theorem ref_entry (t : Fin 8192) (c : Fin 256) : val_main_v38 (F := Ideal) X G (ix3 b t c)
    = ∑ u : Fin 8192, (X (ix3 b u ⟨1280 + c.val, by omega⟩) : EReal)
        * Ideal.div (Ideal.exp (val_main_v23 (F := Ideal) X G (ix4 b (head c) t u) - val_main_v26 (F := Ideal) X G (ix3 b (head c) t)))
            (∑ k : Fin 8192, Ideal.exp (val_main_v23 (F := Ideal) X G (ix4 b (head c) t k) - val_main_v26 (F := Ideal) X G (ix3 b (head c) t))) := by
  unfold val_main_v38 val_main_v37 val_main_v36 val_main_v35 val_main_v34 val_main_v33 val_main_v32 val_main_v31 val_main_v30 val_main_v29 val_main_v28 val_main_v27
  generalize val_main_v23 (F := Ideal) X G = S
  generalize val_main_v26 (F := Ideal) X G = M
  pointwise [val_main_v8, val_main_v7, val_main_v6, val_main_cst_2]
  rfl

/-- It is the mean that defines the result. -/
theorem ref_out (hX : RealQK X) (hG : RealF G) (t : Fin 8192) (c : Fin 256) :
    val_main_v38 (F := Ideal) X G (ix3 b t c) = res X G b t c := by
  have hσ : ∀ u, masked X G b (head c) t u ≠ ⊤ := fun u => by
    unfold masked; split
    · exact EReal.coe_ne_top _
    · exact bot_ne_top
  rw [ref_entry]
  obtain ⟨F, hF⟩ : ∃ F : ℝ, ∀ u : Fin 8192, val_main_v23 (F := Ideal) X G (ix4 b (head c) t u) = masked X G b (head c) t u.val + (F : EReal) :=
    ⟨_, fun u => ref_scores X G b hX hG (head c) t u⟩
  have hτ : ∀ u, masked X G b (head c) t u + (F : EReal) ≠ ⊤ := fun u => by
    unfold masked; split
    · rw [← EReal.coe_add]; exact EReal.coe_ne_top _
    · rw [EReal.bot_add]; exact bot_ne_top
  have ht : masked X G b (head c) t t.val + (F : EReal) ≠ ⊥ := by
    rw [masked, if_pos le_rfl, ← EReal.coe_add]; exact EReal.coe_ne_bot _
  obtain ⟨μ, hμ⟩ : ∃ μ : ℝ, val_main_v26 (F := Ideal) X G (ix3 b (head c) t) = (μ : EReal) := by
    rw [ref_max]
    simp only [hF]
    exact fold_real _ (fun u => hτ u.val) t ht
  have hp := sum_wt_pos (fun u => masked X G b (head c) t u + (F : EReal)) 8192 μ t.val t.isLt ht
  have h0 := sum_wt_pos (masked X G b (head c) t) 8192 0 t.val t.isLt (by rw [masked, if_pos le_rfl]; exact EReal.coe_ne_bot _)
  rw [← res_eq X G b t c 8192 (by omega), ← mean_add _ _ _ F hσ h0, ← mean_shares _ _ _ μ hp]
  simp only [hF, hμ, exp_sub _ (hτ _), value_tok X b, ← coe_sum, Finset.sum_range]

end Cert.Mix
-- ==== Proof.MixValue.lean ====
/- Summary.  The array that the attention call leaves is the reference's, when the queries, the keys and the decays are real numbers. -/
module

public import proofs.«01_k».proof.Proof.MixBlock
public import proofs.«01_k».proof.Proof.MixRef

@[expose] public section

set_option maxRecDepth 16384

noncomputable section

namespace Cert.Mix

open Cert.KernelBIdeal Cert.KernelBIdeal.Gen Idealize.ShloMosaic Idealize.ShloMosaic.TcCoe Idealize.SL.Sem

open Idealize.ShloMosaic.Pipeline (Dat)

variable (m : (ℓ : Loc nD τ sig) → Buf (Elt Ideal) ℓ)

/-- Block index `y` of point `t` sits in batch entry `t / 32`, at token `512 (t mod 16) + y 1` and in the columns of its pair of heads. -/
theorem place4 (t : Fin cfg0.N) (y : S1x512x128.Idx) : ∃ (b : Fin 4) (s : Fin 8192) (e : Fin 256), b.val = t.val / 32 ∧ s.val = t.val % 16 * 512 + (y 1).val
    ∧ e.val = 128 * (t.val / 16 % 2) + (y 2).val ∧ ((cfg0.win 4).blk t).view.emb y = ix3 b s e := by
  have ht : t.val < 128 := t.isLt
  have hy : (y 1).val < 512 := (y 1).isLt
  have hy2 : (y 2).val < 128 := (y 2).isLt
  refine ⟨⟨t.val / 32, by omega⟩, ⟨t.val % 16 * 512 + (y 1).val, by omega⟩, ⟨128 * (t.val / 16 % 2) + (y 2).val, by omega⟩, rfl, rfl, rfl, ?_⟩
  blk_ext [idx t]

/-- The points together leave the reference's result. -/
theorem final4 (c : Dev nD) (hX : RealQK (qkv m c)) (hG : RealF (decay m c)) :
    (dats m 0 c).arrAt 4 (cfgs 0).N = Cert.ReferenceBIdeal.Read.val_main_v38 (F := Ideal) (qkv m c) (decay m c) := by
  refine (dats m 0 c).arrAt_eq_of_covers 4 _ (by decide +kernel) fun t _ y => ?_
  blk_simp
  rw [after0_4]
  obtain ⟨b, s, e, hb, hs, he, hp⟩ := place4 t y
  rw [hp]
  idx_vars y
  obtain rfl := Fin.fin_one_eq_zero y0
  unfold outsAt0
  rw [out_eq]
  exact (point_at m c t b hb hX hG y1 s hs y2 e he).trans (ref_out _ _ b hX hG s e).symm

end Cert.Mix
-- ==== Proof.MixClaim.lean ====
/- Summary.  The attention call and its reference end with the same array, when the queries, the keys and the decays are real numbers. -/
module

public import proofs.«01_k».proof.Defs
public import proofs.«01_k».proof.Proof.MixValue
public import proofs.«01_k».proof.Proof.Gen.KernelB.Frame
public import proofs.«01_k».proof.Proof.Gen.KernelBIdeal.Value
public import proofs.«01_k».proof.Proof.Gen.ReferenceBIdeal.Run
public import proofs.«01_k».proof.Proof.Gen.Pre_finite
public import Idealize.ShloMosaic.Lib.Pointwise

@[expose] public section

set_option maxRecDepth 16384

noncomputable section

namespace Cert.Mix

open Idealize.ShloMosaic Idealize.ShloMosaic.TcCoe Idealize.SL.Sem

/-- The reference's run ends with its two arguments unchanged and all counters at zero: it has no counter. -/
theorem reference_frame : Cert.quiescent_ReferenceBIdeal := fun m g _ =>
  (θ_run _ _ _).mono (fun r h => ⟨fun c => (h c).2, sem_eq_zero_of_no_sems (by decide) r.2⟩)
    (Cert.ReferenceBIdeal.Value.run m g)

/-- The pattern of plus infinity is the greatest extended real. -/
theorem pos_inf : Ideal.ofBits FTy.f32 0x7F800000#32 = ⊤ := by simp [Ideal.ofBits, Ideal.ieee]

/-- A number whose magnitude compares below plus infinity is a real number. -/
theorem real_of_lt (x : EReal) (h : Ideal.cmp .olt (max x (-x)) (Ideal.ofBits .f32 0x7F800000#32) = 1#1) : x = (x.toReal : EReal) := by
  rw [pos_inf] at h
  have hlt : max x (-x) < ⊤ := by
    by_contra hn
    simp [Ideal.cmp, hn] at h
  obtain ⟨h1, h2⟩ := max_lt_iff.mp hlt
  exact (EReal.coe_toReal h1.ne fun e => by rw [e, EReal.neg_bot] at h2; exact lt_irrefl _ h2).symm

/-- Column `j` of the queries and keys is column `j - 768` of their slice. -/
theorem slice_qk (X : Vec Ideal Cert.Pre_finite.S4x8192x1536 .bf16) (hs) (b : Fin 4) (u : Fin 8192) (j : Fin 1536) (h1 : 768 ≤ j.val) (h2 : j.val < 1280) :
    extractStridedSlice Cert.Pre_finite.S4x8192x512 ![0, 0, 768] X hs (ix3 b u ⟨j.val - 768, by omega⟩) = X (ix3 b u j) := by
  pointwise []
  exact congrArg (fun n => X (ix3 b u n)) (Fin.ext (by show 768 + (j.val - 768) = j.val; omega))

/-- Row `g` of the decays is row `g` of their slice. -/
theorem slice_f (G : Vec Ideal Cert.Pre_finite.S4x8x8192 .f32) (hs) (b : Fin 4) (g : Fin 8) (u : Fin 8192) (h : g.val < 4) :
    extractStridedSlice Cert.Pre_finite.S4x4x8192 ![0, 0, 0] G hs (ix3 b ⟨g.val, h⟩ u) = G (ix3 b g u) := by
  pointwise []

/-- The queries, the keys and the decays are real numbers where the precondition says that they are finite. -/
theorem finite_args (m : (ℓ : Loc Cert.KernelBIdeal.nD Cert.KernelBIdeal.τ Cert.KernelBIdeal.sig) → Buf (Elt Ideal) ℓ) (hP : Pre_KernelBIdeal_finite m)
    (c : Dev Cert.KernelBIdeal.nD) : RealQK (qkv m c) ∧ RealF (decay m c) :=
  ⟨fun b u j h1 h2 => (congrArg Real' (slice_qk (qkv m c) Cert.Pre_finite.Facts.slices_S4x8192x1536_S4x8192x512_0_0_768 b u j h1 h2)).mp (real_of_lt _ (congrFun (hP c).1 (ix3 b u ⟨j.val - 768, by omega⟩))),
    fun b g u h => (congrArg Real' (slice_f (decay m c) Cert.Pre_finite.Facts.slices_S4x8x8192_S4x4x8192_0_0_0 b g u h)).mp (real_of_lt _ (congrFun (hP c).2 (ix3 b ⟨g.val, h⟩ u)))⟩

/-- **The attention call ends with its reference's array**, at every launch whose queries, keys and decays are finite. -/
theorem algebraic : Cert.algebraic_KernelBIdeal_ReferenceBIdeal_pre_finite := by
  pair_intro
  · run_from Cert.KernelBIdeal.Value.run_blocks m g
  · run_from Cert.ReferenceBIdeal.Value.run m' g'
    · obtain ⟨h0, h1⟩ := hagree c
      obtain ⟨hX, hG⟩ := finite_args m hpre c
      refine Eq.trans ?_ (final4 m c hX hG).symm
      unfold qkv decay
      rw [← h0, ← h1]
      exact Cert.ReferenceBIdeal.Read.val_main_v38_eq _ _

end Cert.Mix
-- ==== Proof.lean ====
module

public import proofs.«01_k».proof.Defs
public import proofs.«01_k».proof.Proof.Gen.KernelP.Frame
public import proofs.«01_k».proof.Proof.ProjClaim
public import proofs.«01_k».proof.Proof.FfnClaim
public import proofs.«01_k».proof.Proof.FirstClaim
public import proofs.«01_k».proof.Proof.MixClaim
public import Idealize.ShloMosaic.Adequacy
public import Idealize.ShloMosaic.Init

@[expose] public section

noncomputable section

namespace Cert.Proof

open Idealize.ShloMosaic Idealize.SL.Sem

/-- The claim of this certificate: each program's run ends with all arrays it must keep unchanged, and the kernel's
    results are those of its reference. -/
theorem claim : Cert.Claim :=
  ⟨Cert.KernelP.Gen.facts, Cert.KernelPIdeal.Gen.facts, Cert.ReferencePIdeal.Gen.facts,
    Cert.KernelF.Gen.facts, Cert.KernelFIdeal.Gen.facts, Cert.ReferenceFIdeal.Gen.facts,
    Cert.KernelE.Gen.facts, Cert.KernelEIdeal.Gen.facts, Cert.ReferenceEIdeal.Gen.facts,
    Cert.KernelB.Gen.facts, Cert.KernelBIdeal.Gen.facts, Cert.ReferenceBIdeal.Gen.facts, Cert.Pre_finite.Gen.facts,
    fun m ρ _ => Cert.KernelP.Gen.frame m ρ,
    fun m ρ _ => Cert.KernelPIdeal.Gen.frame m ρ,
    Cert.Proj.reference_frame,
    Cert.Ffn.frame_bits,
    fun m ρ _ => Cert.Ffn.frame m ρ,
    Cert.Ffn.reference_frame,
    Cert.First.frame_bits,
    fun m ρ _ => Cert.First.frame m ρ,
    Cert.First.reference_frame,
    fun m ρ _ => Cert.KernelB.Gen.frame m ρ,
    fun m ρ _ => Cert.KernelBIdeal.Gen.frame m ρ,
    fun m ρ _ => Cert.KernelBIdeal.Gen.frame m ρ,
    Cert.Mix.reference_frame,
    fun m ρ _ => Cert.Mix.reference_frame m ρ trivial,
    trivial,
    Cert.Proj.algebraic,
    trivial,
    Cert.Ffn.algebraic,
    trivial,
    Cert.First.algebraic,
    IdealRules.named_const.statement Cert.KernelBIdeal.κ "mask" .f32 0xF149F2CA#32 ⊥ rfl,
    Cert.Mix.algebraic⟩

end Cert.Proof

end
